-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v47_0)) (v1 : (c : Dev Cert.KernelIdeal.nD) → Buf (Elt Ideal) ((c.tc : Thread Cert.KernelIdeal.nD Cert.KernelIdeal.τ).loc Cert.KernelIdeal.main_v47_1)) (v2 : (c : Dev Cert.KernelIdeal.nD) → Buf (Elt Ideal) ((c.tc : Thread Cert.KernelIdeal.nD Cert.KernelIdeal.τ).loc Cert.KernelIdeal.main_v47_2)) (v3 : (c : Dev Cert.KernelIdeal.nD) → Buf (Elt Ideal) ((c.tc : Thread Cert.KernelIdeal.nD Cert.KernelIdeal.τ).loc Cert.KernelIdeal.main_v47_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47_0) = v0 c
          ∧ r.2.mem ((c.tc : Thread Cert.KernelIdeal.nD Cert.KernelIdeal.τ).loc Cert.KernelIdeal.main_v47_1) = v1 c
          ∧ r.2.mem ((c.tc : Thread Cert.KernelIdeal.nD Cert.KernelIdeal.τ).loc Cert.KernelIdeal.main_v47_2) = v2 c
          ∧ r.2.mem ((c.tc : Thread Cert.KernelIdeal.nD Cert.KernelIdeal.τ).loc Cert.KernelIdeal.main_v47_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v85) = v0 c
          ∧ r.2.mem ((c.tc : Thread Cert.ReferenceIdeal.nD Cert.ReferenceIdeal.τ).loc Cert.ReferenceIdeal.main_v87) = v1 c
          ∧ r.2.mem ((c.tc : Thread Cert.ReferenceIdeal.nD Cert.ReferenceIdeal.τ).loc Cert.ReferenceIdeal.main_v89) = v2 c
          ∧ r.2.mem ((c.tc : Thread Cert.ReferenceIdeal.nD Cert.ReferenceIdeal.τ).loc Cert.ReferenceIdeal.main_v90) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v3_0)) (v1 : (c : Dev Cert.Kernel2Ideal.nD) → Buf (Elt Ideal) ((c.tc : Thread Cert.Kernel2Ideal.nD Cert.Kernel2Ideal.τ).loc Cert.Kernel2Ideal.main_v3_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3_0) = v0 c
          ∧ r.2.mem ((c.tc : Thread Cert.Kernel2Ideal.nD Cert.Kernel2Ideal.τ).loc Cert.Kernel2Ideal.main_v3_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v13) = v0 c
          ∧ r.2.mem ((c.tc : Thread Cert.Reference2Ideal.nD Cert.Reference2Ideal.τ).loc Cert.Reference2Ideal.main_v14) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v7_0)) (v1 : (c : Dev Cert.Kernel3Ideal.nD) → Buf (Elt Ideal) ((c.tc : Thread Cert.Kernel3Ideal.nD Cert.Kernel3Ideal.τ).loc Cert.Kernel3Ideal.main_v7_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v7_0) = v0 c
          ∧ r.2.mem ((c.tc : Thread Cert.Kernel3Ideal.nD Cert.Kernel3Ideal.τ).loc Cert.Kernel3Ideal.main_v7_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v45) = v0 c
          ∧ r.2.mem ((c.tc : Thread Cert.Reference3Ideal.nD Cert.Reference3Ideal.τ).loc Cert.Reference3Ideal.main_v46) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v5) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v8) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v5_0)) (v1 : (c : Dev Cert.Kernel6Ideal.nD) → Buf (Elt Ideal) ((c.tc : Thread Cert.Kernel6Ideal.nD Cert.Kernel6Ideal.τ).loc Cert.Kernel6Ideal.main_v5_1)) (v2 : (c : Dev Cert.Kernel6Ideal.nD) → Buf (Elt Ideal) ((c.tc : Thread Cert.Kernel6Ideal.nD Cert.Kernel6Ideal.τ).loc Cert.Kernel6Ideal.main_v5_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v5_0) = v0 c
          ∧ r.2.mem ((c.tc : Thread Cert.Kernel6Ideal.nD Cert.Kernel6Ideal.τ).loc Cert.Kernel6Ideal.main_v5_1) = v1 c
          ∧ r.2.mem ((c.tc : Thread Cert.Kernel6Ideal.nD Cert.Kernel6Ideal.τ).loc Cert.Kernel6Ideal.main_v5_2) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v2) = v0 c
          ∧ r.2.mem ((c.tc : Thread Cert.Reference6Ideal.nD Cert.Reference6Ideal.τ).loc Cert.Reference6Ideal.main_v3) = v1 c
          ∧ r.2.mem ((c.tc : Thread Cert.Reference6Ideal.nD Cert.Reference6Ideal.τ).loc Cert.Reference6Ideal.main_v6) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v3) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v1) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v13) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v5_0)) (v1 : (c : Dev Cert.Kernel9Ideal.nD) → Buf (Elt Ideal) ((c.tc : Thread Cert.Kernel9Ideal.nD Cert.Kernel9Ideal.τ).loc Cert.Kernel9Ideal.main_v5_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v5_0) = v0 c
          ∧ r.2.mem ((c.tc : Thread Cert.Kernel9Ideal.nD Cert.Kernel9Ideal.τ).loc Cert.Kernel9Ideal.main_v5_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v11) = v0 c
          ∧ r.2.mem ((c.tc : Thread Cert.Reference9Ideal.nD Cert.Reference9Ideal.τ).loc Cert.Reference9Ideal.main_v13) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hPre_finite : Cert.Pre_finite.Facts) (hPre_finite2 : Cert.Pre_finite2.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
-- ==== Pre_finite.lean ====
abbrev S8192x8x64 : Shape := ⟨3, ![8192, 8, 64]⟩
abbrev S8192x8 : Shape := ⟨2, ![8192, 8]⟩
abbrev S_ : Shape := ⟨0, ![]⟩

class Facts : Prop where
  bcast_S_S8192x8x64 : S_.BroadcastsInDim S8192x8x64 (![] : Fin 0 → Fin S8192x8x64.rank)
  bcast_S_S8192x8 : S_.BroadcastsInDim S8192x8 (![] : Fin 0 → Fin S8192x8.rank)

variable [Facts]

def fn {F : FTy → Type} [FloatOps F] (main_arg0 : FVec F S8192x8x64 .f32) (main_arg1 : FVec F S8192x8x64 .f32) (main_arg2 : FVec F S8192x8x64 .f32) (main_arg3 : FVec F S8192x8 .f32) (main_arg4 : FVec F S8192x8x64 .f32) : IVec S8192x8x64 1 × IVec S8192x8x64 1 × IVec S8192x8x64 1 × IVec S8192x8 1 × IVec S8192x8x64 1 :=
  let main_v0 : FVec F S8192x8x64 .f32 := Host.absf main_arg0
  let main_cst : FVec F S_ .f32 := constant S_ .f32 0x7F800000#32
  let main_v1 : FVec F S8192x8x64 .f32 := broadcastInDim S8192x8x64 ![] bcast_S_S8192x8x64 main_cst
  let main_v2 : IVec S8192x8x64 1 := cmpf .olt main_v0 main_v1
  let main_v3 : FVec F S8192x8x64 .f32 := Host.absf main_arg1
  let main_cst_0 : FVec F S_ .f32 := constant S_ .f32 0x7F800000#32
  let main_v4 : FVec F S8192x8x64 .f32 := broadcastInDim S8192x8x64 ![] bcast_S_S8192x8x64 main_cst_0
  let main_v5 : IVec S8192x8x64 1 := cmpf .olt main_v3 main_v4
  let main_v6 : FVec F S8192x8x64 .f32 := Host.absf main_arg2
  let main_cst_1 : FVec F S_ .f32 := constant S_ .f32 0x7F800000#32
  let main_v7 : FVec F S8192x8x64 .f32 := broadcastInDim S8192x8x64 ![] bcast_S_S8192x8x64 main_cst_1
  let main_v8 : IVec S8192x8x64 1 := cmpf .olt main_v6 main_v7
  let main_v9 : FVec F S8192x8 .f32 := Host.absf main_arg3
  let main_cst_2 : FVec F S_ .f32 := constant S_ .f32 0x7F800000#32
  let main_v10 : FVec F S8192x8 .f32 := broadcastInDim S8192x8 ![] bcast_S_S8192x8 main_cst_2
  let main_v11 : IVec S8192x8 1 := cmpf .olt main_v9 main_v10
  let main_v12 : FVec F S8192x8x64 .f32 := Host.absf main_arg4
  let main_cst_3 : FVec F S_ .f32 := constant S_ .f32 0x7F800000#32
  let main_v13 : FVec F S8192x8x64 .f32 := broadcastInDim S8192x8x64 ![] bcast_S_S8192x8x64 main_cst_3
  let main_v14 : IVec S8192x8x64 1 := cmpf .olt main_v12 main_v13
  (main_v2, main_v5, main_v8, main_v11, main_v14)
-- ==== Pre_finite2.lean ====
abbrev S8192x2816 : Shape := ⟨2, ![8192, 2816]⟩
abbrev S2816x1024 : Shape := ⟨2, ![2816, 1024]⟩
abbrev S8192x1024 : Shape := ⟨2, ![8192, 1024]⟩
abbrev S_ : Shape := ⟨0, ![]⟩

class Facts : Prop where
  bcast_S_S8192x2816 : S_.BroadcastsInDim S8192x2816 (![] : Fin 0 → Fin S8192x2816.rank)
  bcast_S_S2816x1024 : S_.BroadcastsInDim S2816x1024 (![] : Fin 0 → Fin S2816x1024.rank)
  bcast_S_S8192x1024 : S_.BroadcastsInDim S8192x1024 (![] : Fin 0 → Fin S8192x1024.rank)

variable [Facts]

def fn {F : FTy → Type} [FloatOps F] (main_arg0 : FVec F S8192x2816 .f32) (main_arg1 : FVec F S8192x2816 .f32) (main_arg2 : FVec F S2816x1024 .f32) (main_arg3 : FVec F S8192x1024 .f32) : IVec S8192x2816 1 × IVec S2816x1024 1 × IVec S8192x1024 1 :=
  let main_v0 : FVec F S8192x2816 .f32 := Host.absf main_arg1
  let main_cst : FVec F S_ .f32 := constant S_ .f32 0x7F800000#32
  let main_v1 : FVec F S8192x2816 .f32 := broadcastInDim S8192x2816 ![] bcast_S_S8192x2816 main_cst
  let main_v2 : IVec S8192x2816 1 := cmpf .olt main_v0 main_v1
  let main_v3 : FVec F S2816x1024 .f32 := Host.absf main_arg2
  let main_cst_0 : FVec F S_ .f32 := constant S_ .f32 0x7F800000#32
  let main_v4 : FVec F S2816x1024 .f32 := broadcastInDim S2816x1024 ![] bcast_S_S2816x1024 main_cst_0
  let main_v5 : IVec S2816x1024 1 := cmpf .olt main_v3 main_v4
  let main_v6 : FVec F S8192x1024 .f32 := Host.absf main_arg3
  let main_cst_1 : FVec F S_ .f32 := constant S_ .f32 0x7F800000#32
  let main_v7 : FVec F S8192x1024 .f32 := broadcastInDim S8192x1024 ![] bcast_S_S8192x1024 main_cst_1
  let main_v8 : IVec S8192x1024 1 := cmpf .olt main_v6 main_v7
  (main_v2, main_v5, main_v8)
-- ==== Kernel.lean ====
abbrev S8192x8x64 : Shape := ⟨3, ![8192, 8, 64]⟩
abbrev S8192x8 : Shape := ⟨2, ![8192, 8]⟩
abbrev S8x8192x8192 : Shape := ⟨3, ![8, 8192, 8192]⟩
abbrev S_ : Shape := ⟨0, ![]⟩
abbrev S8x8192 : Shape := ⟨2, ![8, 8192]⟩
abbrev S8x8192x1 : Shape := ⟨3, ![8, 8192, 1]⟩
abbrev S8x1x8192 : Shape := ⟨3, ![8, 1, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S1x8192x8192 : Shape := ⟨3, ![1, 8192, 8192]⟩
abbrev S8x64x8192 : Shape := ⟨3, ![8, 64, 8192]⟩
abbrev S8192x512 : Shape := ⟨2, ![8192, 512]⟩
abbrev S8192x1536 : Shape := ⟨2, ![8192, 1536]⟩
abbrev S8192x1024 : Shape := ⟨2, ![8192, 1024]⟩
abbrev S8192x128 : Shape := ⟨2, ![8192, 128]⟩
abbrev S4x2x8192 : Shape := ⟨3, ![4, 2, 8192]⟩
abbrev S512x8192 : Shape := ⟨2, ![512, 8192]⟩
abbrev S1024x128 : Shape := ⟨2, ![1024, 128]⟩
abbrev S1x2x8192 : Shape := ⟨3, ![1, 2, 8192]⟩
abbrev S128x8192 : Shape := ⟨2, ![128, 8192]⟩
abbrev S1024x1024 : Shape := ⟨2, ![1024, 1024]⟩
abbrev S128x1024 : Shape := ⟨2, ![128, 1024]⟩
abbrev S1024 : Shape := ⟨1, ![1024]⟩
abbrev S1024x1 : Shape := ⟨2, ![1024, 1]⟩
abbrev S1x1x1024 : Shape := ⟨3, ![1, 1, 1024]⟩
abbrev S1x1024 : Shape := ⟨2, ![1, 1024]⟩

abbrev nBuf : Space → Nat
  | .hbm => 68
  | .vmem => 24
  | .smem => 0
  | _ => 0

abbrev bufTy : (tb : Table) → Fin (tcTables nBuf tb) → BufTy
  | .hbm, ⟨0, _⟩ => ⟨S8192x8x64, .f32⟩
  | .hbm, ⟨1, _⟩ => ⟨S8192x8x64, .f32⟩
  | .hbm, ⟨2, _⟩ => ⟨S8192x8x64, .f32⟩
  | .hbm, ⟨3, _⟩ => ⟨S8192x8, .f32⟩
  | .hbm, ⟨4, _⟩ => ⟨S8192x8x64, .f32⟩
  | .hbm, ⟨5, _⟩ => ⟨S8x8192x8192, .f32⟩
  | .hbm, ⟨6, _⟩ => ⟨S_, .f32⟩
  | .hbm, ⟨7, _⟩ => ⟨S8x8192x8192, .f32⟩
  | .hbm, ⟨8, _⟩ => ⟨S8x8192x8192, .f32⟩
  | .hbm, ⟨9, _⟩ => ⟨S8x8192, .f32⟩
  | .hbm, ⟨10, _⟩ => ⟨S8x8192x1, .f32⟩
  | .hbm, ⟨11, _⟩ => ⟨S8x8192x8192, .f32⟩
  | .hbm, ⟨12, _⟩ => ⟨S8x8192x8192, .f32⟩
  | .hbm, ⟨13, _⟩ => ⟨S8x8192, .f32⟩
  | .hbm, ⟨14, _⟩ => ⟨S8x1x8192, .f32⟩
  | .hbm, ⟨15, _⟩ => ⟨S8x8192x8192, .f32⟩
  | .hbm, ⟨16, _⟩ => ⟨S8x8192x8192, .f32⟩
  | .hbm, ⟨17, _⟩ => ⟨S8192, .i32⟩
  | .hbm, ⟨18, _⟩ => ⟨S1x8192, .i32⟩
  | .hbm, ⟨19, _⟩ => ⟨S8192x1, .i32⟩
  | .hbm, ⟨20, _⟩ => ⟨S8192x8192, .i32⟩
  | .hbm, ⟨21, _⟩ => ⟨S8192x8192, .i32⟩
  | .hbm, ⟨22, _⟩ => ⟨S8192x8192, .i1⟩
  | .hbm, ⟨23, _⟩ => ⟨S1x8192x8192, .i1⟩
  | .hbm, ⟨24, _⟩ => ⟨S_, .f32⟩
  | .hbm, ⟨25, _⟩ => ⟨S_, .f32⟩
  | .hbm, ⟨26, _⟩ => ⟨S8x8192x8192, .i1⟩
  | .hbm, ⟨27, _⟩ => ⟨S8x8192x8192, .f32⟩
  | .hbm, ⟨28, _⟩ => ⟨S8x8192x8192, .f32⟩
  | .hbm, ⟨29, _⟩ => ⟨S_, .f32⟩
  | .hbm, ⟨30, _⟩ => ⟨S8x8192, .f32⟩
  | .hbm, ⟨31, _⟩ => ⟨S8x8192x1, .f32⟩
  | .hbm, ⟨32, _⟩ => ⟨S8x8192x8192, .f32⟩
  | .hbm, ⟨33, _⟩ => ⟨S8x8192x8192, .f32⟩
  | .hbm, ⟨34, _⟩ => ⟨S8x8192x8192, .f32⟩
  | .hbm, ⟨35, _⟩ => ⟨S_, .f32⟩
  | .hbm, ⟨36, _⟩ => ⟨S8x8192, .f32⟩
  | .hbm, ⟨37, _⟩ => ⟨S8x8192, .f32⟩
  | .hbm, ⟨38, _⟩ => ⟨S8x8192, .f32⟩
  | .hbm, ⟨39, _⟩ => ⟨S8x8192x1, .f32⟩
  | .hbm, ⟨40, _⟩ => ⟨S8x8192x8192, .f32⟩
  | .hbm, ⟨41, _⟩ => ⟨S8x8192x8192, .f32⟩
  | .hbm, ⟨42, _⟩ => ⟨S8x64x8192, .f32⟩
  | .hbm, ⟨43, _⟩ => ⟨S8192x8x64, .f32⟩
  | .hbm, ⟨44, _⟩ => ⟨S8192x8x64, .f32⟩
  | .hbm, ⟨45, _⟩ => ⟨S_, .f32⟩
  | .hbm, ⟨46, _⟩ => ⟨S8192x8, .f32⟩
  | .hbm, ⟨47, _⟩ => ⟨S8x8192, .f32⟩
  | .hbm, ⟨48, _⟩ => ⟨S8192x512, .f32⟩
  | .hbm, ⟨49, _⟩ => ⟨S8192x512, .f32⟩
  | .hbm, ⟨50, _⟩ => ⟨S8192x512, .f32⟩
  | .hbm, ⟨51, _⟩ => ⟨S8192x1536, .f32⟩
  | .hbm, ⟨52, _⟩ => ⟨S8192x1536, .bf16⟩
  | .hbm, ⟨53, _⟩ => ⟨S8192x512, .f32⟩
  | .hbm, ⟨54, _⟩ => ⟨S_, .i32⟩
  | .hbm, ⟨55, _⟩ => ⟨S_, .f32⟩
  | .hbm, ⟨56, _⟩ => ⟨S8192x1024, .f32⟩
  | .hbm, ⟨57, _⟩ => ⟨S_, .i32⟩
  | .hbm, ⟨58, _⟩ => ⟨S_, .f32⟩
  | .hbm, ⟨59, _⟩ => ⟨S8192x128, .f32⟩
  | .hbm, ⟨60, _⟩ => ⟨S8x8192, .f32⟩
  | .hbm, ⟨61, _⟩ => ⟨S4x2x8192, .f32⟩
  | .hbm, ⟨62, _⟩ => ⟨S4x2x8192, .f32⟩
  | .hbm, ⟨63, _⟩ => ⟨S4x2x8192, .f32⟩
  | .hbm, ⟨64, _⟩ => ⟨S512x8192, .f32⟩
  | .hbm, ⟨65, _⟩ => ⟨S8192x512, .bf16⟩
  | .hbm, ⟨66, _⟩ => ⟨S8192x512, .bf16⟩
  | .hbm, ⟨67, _⟩ => ⟨S8192x512, .f32⟩
  | .local _ .vmem, ⟨0, _⟩ => ⟨S8192x128, .bf16⟩
  | .local _ .vmem, ⟨1, _⟩ => ⟨S8192x128, .bf16⟩
  | .local _ .vmem, ⟨2, _⟩ => ⟨S8192x128, .f32⟩
  | .local _ .vmem, ⟨3, _⟩ => ⟨S8192x128, .f32⟩
  | .local _ .vmem, ⟨4, _⟩ => ⟨S1024x128, .bf16⟩
  | .local _ .vmem, ⟨5, _⟩ => ⟨S1024x128, .bf16⟩
  | .local _ .vmem, ⟨6, _⟩ => ⟨S1024x128, .bf16⟩
  | .local _ .vmem, ⟨7, _⟩ => ⟨S1024x128, .bf16⟩
  | .local _ .vmem, ⟨8, _⟩ => ⟨S1024x128, .f32⟩
  | .local _ .vmem, ⟨9, _⟩ => ⟨S1024x128, .f32⟩
  | .local _ .vmem, ⟨10, _⟩ => ⟨S1x2x8192, .f32⟩
  | .local _ .vmem, ⟨11, _⟩ => ⟨S1x2x8192, .f32⟩
  | .local _ .vmem, ⟨12, _⟩ => ⟨S1x2x8192, .f32⟩
  | .local _ .vmem, ⟨13, _⟩ => ⟨S1x2x8192, .f32⟩
  | .local _ .vmem, ⟨14, _⟩ => ⟨S1x2x8192, .f32⟩
  | .local _ .vmem, ⟨15, _⟩ => ⟨S1x2x8192, .f32⟩
  | .local _ .vmem, ⟨16, _⟩ => ⟨S128x8192, .f32⟩
  | .local _ .vmem, ⟨17, _⟩ => ⟨S128x8192, .f32⟩
  | .local _ .vmem, ⟨18, _⟩ => ⟨S1024x128, .bf16⟩
  | .local _ .vmem, ⟨19, _⟩ => ⟨S1024x128, .bf16⟩
  | .local _ .vmem, ⟨20, _⟩ => ⟨S1024x128, .bf16⟩
  | .local _ .vmem, ⟨21, _⟩ => ⟨S1024x128, .bf16⟩
  | .local _ .vmem, ⟨22, _⟩ => ⟨S1024x128, .f32⟩
  | .local _ .vmem, ⟨23, _⟩ => ⟨S1024x128, .f32⟩
  | _, _ => ⟨S8192x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_0 : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_v18 : Ref sig .tc := ⟨.hbm, 28, rfl⟩
abbrev main_cst_1 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_2 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_3 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_c : Ref sig .tc := ⟨.hbm, 54, rfl⟩
abbrev main_call1_v0 : Ref sig .tc := ⟨.hbm, 55, rfl⟩
abbrev main_v41 : Ref sig .tc := ⟨.hbm, 56, rfl⟩
abbrev main_c_4 : Ref sig .tc := ⟨.hbm, 57, rfl⟩
abbrev main_call2_v0 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47_0 : Ref sig .tc := ⟨.hbm, 64, rfl⟩
abbrev main_v47_1 : Ref sig .tc := ⟨.hbm, 65, rfl⟩
abbrev main_v47_2 : Ref sig .tc := ⟨.hbm, 66, rfl⟩
abbrev main_v47_3 : Ref sig .tc := ⟨.hbm, 67, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨2, ![4, 8], ![false, false]⟩

def k0_mult1 (i : grid0.Coords) : BitVec 32 :=
  let arg1 : BitVec 32 := BitVec.ofNat 32 (i 1).val
  let c1024_i32 : BitVec 32 := 1024#32
  let v100 : BitVec 32 := Scalar.muli arg1 c1024_i32
  v100
def k0_off1 (i : grid0.Coords) : Fin 2 → Nat :=
  let arg1 : BitVec 32 := BitVec.ofNat 32 (i 1).val
  let c1024_i32 : BitVec 32 := 1024#32
  let v100 : BitVec 32 := Scalar.muli arg1 c1024_i32
  let v101 : BitVec 32 := v100
  let v102 : Index := Scalar.indexCast v101
  let c0_35 : Index := 0#32
  ![v102.toNat, 0]
def k0_off2 (i : grid0.Coords) : Fin 3 → Nat :=
  let c0_38 : Index := 0#32
  let c0_39 : Index := 0#32
  let arg1 : BitVec 32 := BitVec.ofNat 32 (i 1).val
  let c1024_i32 : BitVec 32 := 1024#32
  let v100 : BitVec 32 := Scalar.muli arg1 c1024_i32
  let v101 : BitVec 32 := v100
  let v110 : Index := Scalar.indexCast v101
  ![0, 0, v110.toNat]
def k0_off3 (i : grid0.Coords) : Fin 3 → Nat :=
  let c0_51 : Index := 0#32
  let c1 : Index := 1#32
  let arg1 : BitVec 32 := BitVec.ofNat 32 (i 1).val
  let c1024_i32 : BitVec 32 := 1024#32
  let v100 : BitVec 32 := Scalar.muli arg1 c1024_i32
  let v101 : BitVec 32 := v100
  let v143 : Index := Scalar.indexCast v101
  ![0, 1, v143.toNat]
def k0_off4 (i : grid0.Coords) : Fin 2 → Nat :=
  let c0_62 : Index := 0#32
  let arg1 : BitVec 32 := BitVec.ofNat 32 (i 1).val
  let c1024_i32 : BitVec 32 := 1024#32
  let v100 : BitVec 32 := Scalar.muli arg1 c1024_i32
  let v101 : BitVec 32 := v100
  let v176 : Index := Scalar.indexCast v101
  ![0, v176.toNat]
@[reducible] def k0_t1_loop (i : grid0.Coords) : Scf.Loop 32 :=
  let arg1 : BitVec 32 := BitVec.ofNat 32 (i 1).val
  let c1_i32_64 : BitVec 32 := 1#32
  let v182 : BitVec 32 := Scalar.addi arg1 c1_i32_64
  let c8_i32 : BitVec 32 := 8#32
  let v183 : BitVec 32 := Scalar.subi c8_i32 v182
  let c1_i32_65 : BitVec 32 := 1#32
  let v185 : BitVec 32 := Scalar.divsi v183 c1_i32_65
  let v186 : BitVec 32 := Scalar.muli v185 c1_i32_65
  let v187 : BitVec 32 := Scalar.addi v182 v186
  let c1_i32_66 : BitVec 32 := 1#32
  ⟨v182, v187, c1_i32_66⟩
def k0_mult2 (i : grid0.Coords) (k0_t1 : Fin (k0_t1_loop i).trips) : BitVec 32 :=
  let arg1 : BitVec 32 := BitVec.ofNat 32 (i 1).val
  let c1_i32_64 : BitVec 32 := 1#32
  let v182 : BitVec 32 := Scalar.addi arg1 c1_i32_64
  let c1_i32_66 : BitVec 32 := 1#32
  let arg14 : BitVec 32 := Scf.iv v182 c1_i32_66 k0_t1
  let c1024_i32_77 : BitVec 32 := 1024#32
  let v208 : BitVec 32 := Scalar.muli arg14 c1024_i32_77
  v208
def k0_off5 (i : grid0.Coords) (k0_t1 : Fin (k0_t1_loop i).trips) : Fin 2 → Nat :=
  let arg1 : BitVec 32 := BitVec.ofNat 32 (i 1).val
  let c1_i32_64 : BitVec 32 := 1#32
  let v182 : BitVec 32 := Scalar.addi arg1 c1_i32_64
  let c1_i32_66 : BitVec 32 := 1#32
  let arg14 : BitVec 32 := Scf.iv v182 c1_i32_66 k0_t1
  let c1024_i32_77 : BitVec 32 := 1024#32
  let v208 : BitVec 32 := Scalar.muli arg14 c1024_i32_77
  let v209 : BitVec 32 := v208
  let v210 : Index := Scalar.indexCast v209
  let c0_78 : Index := 0#32
  ![v210.toNat, 0]
def k0_off6 (i : grid0.Coords) (k0_t1 : Fin (k0_t1_loop i).trips) : Fin 3 → Nat :=
  let c0_81 : Index := 0#32
  let c0_82 : Index := 0#32
  let arg1 : BitVec 32 := BitVec.ofNat 32 (i 1).val
  let c1_i32_64 : BitVec 32 := 1#32
  let v182 : BitVec 32 := Scalar.addi arg1 c1_i32_64
  let c1_i32_66 : BitVec 32 := 1#32
  let arg14 : BitVec 32 := Scf.iv v182 c1_i32_66 k0_t1
  let c1024_i32_77 : BitVec 32 := 1024#32
  let v208 : BitVec 32 := Scalar.muli arg14 c1024_i32_77
  let v209 : BitVec 32 := v208
  let v218 : Index := Scalar.indexCast v209
  ![0, 0, v218.toNat]
def k0_off7 (i : grid0.Coords) (k0_t1 : Fin (k0_t1_loop i).trips) : Fin 3 → Nat :=
  let c0_93 : Index := 0#32
  let c1_94 : Index := 1#32
  let arg1 : BitVec 32 := BitVec.ofNat 32 (i 1).val
  let c1_i32_64 : BitVec 32 := 1#32
  let v182 : BitVec 32 := Scalar.addi arg1 c1_i32_64
  let c1_i32_66 : BitVec 32 := 1#32
  let arg14 : BitVec 32 := Scf.iv v182 c1_i32_66 k0_t1
  let c1024_i32_77 : BitVec 32 := 1024#32
  let v208 : BitVec 32 := Scalar.muli arg14 c1024_i32_77
  let v209 : BitVec 32 := v208
  let v249 : Index := Scalar.indexCast v209
  ![0, 1, v249.toNat]
def k0_off8 (i : grid0.Coords) (k0_t1 : Fin (k0_t1_loop i).trips) : Fin 2 → Nat :=
  let c0_104 : Index := 0#32
  let arg1 : BitVec 32 := BitVec.ofNat 32 (i 1).val
  let c1_i32_64 : BitVec 32 := 1#32
  let v182 : BitVec 32 := Scalar.addi arg1 c1_i32_64
  let c1_i32_66 : BitVec 32 := 1#32
  let arg14 : BitVec 32 := Scf.iv v182 c1_i32_66 k0_t1
  let c1024_i32_77 : BitVec 32 := 1024#32
  let v208 : BitVec 32 := Scalar.muli arg14 c1024_i32_77
  let v209 : BitVec 32 := v208
  let v280 : Index := Scalar.indexCast v209
  ![0, v280.toNat]
@[reducible] def k0_t2_loop (i : grid0.Coords) : Scf.Loop 32 :=
  let arg1 : BitVec 32 := BitVec.ofNat 32 (i 1).val
  let c1_i32_64 : BitVec 32 := 1#32
  let v182 : BitVec 32 := Scalar.addi arg1 c1_i32_64
  let c8_i32 : BitVec 32 := 8#32
  let v183 : BitVec 32 := Scalar.subi c8_i32 v182
  let c1_i32_65 : BitVec 32 := 1#32
  let v185 : BitVec 32 := Scalar.divsi v183 c1_i32_65
  let v186 : BitVec 32 := Scalar.muli v185 c1_i32_65
  let v187 : BitVec 32 := Scalar.addi v182 v186
  let v184 : BitVec 32 := Scalar.addi v182 v183
  let c1_i32_67 : BitVec 32 := 1#32
  ⟨v187, v184, c1_i32_67⟩
def k0_mult3 (i : grid0.Coords) (k0_t2 : Fin (k0_t2_loop i).trips) : BitVec 32 :=
  let arg1 : BitVec 32 := BitVec.ofNat 32 (i 1).val
  let c1_i32_64 : BitVec 32 := 1#32
  let v182 : BitVec 32 := Scalar.addi arg1 c1_i32_64
  let c8_i32 : BitVec 32 := 8#32
  let v183 : BitVec 32 := Scalar.subi c8_i32 v182
  let c1_i32_65 : BitVec 32 := 1#32
  let v185 : BitVec 32 := Scalar.divsi v183 c1_i32_65
  let v186 : BitVec 32 := Scalar.muli v185 c1_i32_65
  let v187 : BitVec 32 := Scalar.addi v182 v186
  let c1_i32_67 : BitVec 32 := 1#32
  let arg14 : BitVec 32 := Scf.iv v187 c1_i32_67 k0_t2
  let c1024_i32_77 : BitVec 32 := 1024#32
  let v208 : BitVec 32 := Scalar.muli arg14 c1024_i32_77
  v208
def k0_off9 (i : grid0.Coords) (k0_t2 : Fin (k0_t2_loop i).trips) : Fin 2 → Nat :=
  let arg1 : BitVec 32 := BitVec.ofNat 32 (i 1).val
  let c1_i32_64 : BitVec 32 := 1#32
  let v182 : BitVec 32 := Scalar.addi arg1 c1_i32_64
  let c8_i32 : BitVec 32 := 8#32
  let v183 : BitVec 32 := Scalar.subi c8_i32 v182
  let c1_i32_65 : BitVec 32 := 1#32
  let v185 : BitVec 32 := Scalar.divsi v183 c1_i32_65
  let v186 : BitVec 32 := Scalar.muli v185 c1_i32_65
  let v187 : BitVec 32 := Scalar.addi v182 v186
  let c1_i32_67 : BitVec 32 := 1#32
  let arg14 : BitVec 32 := Scf.iv v187 c1_i32_67 k0_t2
  let c1024_i32_77 : BitVec 32 := 1024#32
  let v208 : BitVec 32 := Scalar.muli arg14 c1024_i32_77
  let v209 : BitVec 32 := v208
  let v210 : Index := Scalar.indexCast v209
  let c0_78 : Index := 0#32
  ![v210.toNat, 0]
def k0_off10 (i : grid0.Coords) (k0_t2 : Fin (k0_t2_loop i).trips) : Fin 3 → Nat :=
  let c0_81 : Index := 0#32
  let c0_82 : Index := 0#32
  let arg1 : BitVec 32 := BitVec.ofNat 32 (i 1).val
  let c1_i32_64 : BitVec 32 := 1#32
  let v182 : BitVec 32 := Scalar.addi arg1 c1_i32_64
  let c8_i32 : BitVec 32 := 8#32
  let v183 : BitVec 32 := Scalar.subi c8_i32 v182
  let c1_i32_65 : BitVec 32 := 1#32
  let v185 : BitVec 32 := Scalar.divsi v183 c1_i32_65
  let v186 : BitVec 32 := Scalar.muli v185 c1_i32_65
  let v187 : BitVec 32 := Scalar.addi v182 v186
  let c1_i32_67 : BitVec 32 := 1#32
  let arg14 : BitVec 32 := Scf.iv v187 c1_i32_67 k0_t2
  let c1024_i32_77 : BitVec 32 := 1024#32
  let v208 : BitVec 32 := Scalar.muli arg14 c1024_i32_77
  let v209 : BitVec 32 := v208
  let v218 : Index := Scalar.indexCast v209
  ![0, 0, v218.toNat]
def k0_off11 (i : grid0.Coords) (k0_t2 : Fin (k0_t2_loop i).trips) : Fin 3 → Nat :=
  let c0_93 : Index := 0#32
  let c1_94 : Index := 1#32
  let arg1 : BitVec 32 := BitVec.ofNat 32 (i 1).val
  let c1_i32_64 : BitVec 32 := 1#32
  let v182 : BitVec 32 := Scalar.addi arg1 c1_i32_64
  let c8_i32 : BitVec 32 := 8#32
  let v183 : BitVec 32 := Scalar.subi c8_i32 v182
  let c1_i32_65 : BitVec 32 := 1#32
  let v185 : BitVec 32 := Scalar.divsi v183 c1_i32_65
  let v186 : BitVec 32 := Scalar.muli v185 c1_i32_65
  let v187 : BitVec 32 := Scalar.addi v182 v186
  let c1_i32_67 : BitVec 32 := 1#32
  let arg14 : BitVec 32 := Scf.iv v187 c1_i32_67 k0_t2
  let c1024_i32_77 : BitVec 32 := 1024#32
  let v208 : BitVec 32 := Scalar.muli arg14 c1024_i32_77
  let v209 : BitVec 32 := v208
  let v249 : Index := Scalar.indexCast v209
  ![0, 1, v249.toNat]
def k0_off12 (i : grid0.Coords) (k0_t2 : Fin (k0_t2_loop i).trips) : Fin 2 → Nat :=
  let c0_104 : Index := 0#32
  let arg1 : BitVec 32 := BitVec.ofNat 32 (i 1).val
  let c1_i32_64 : BitVec 32 := 1#32
  let v182 : BitVec 32 := Scalar.addi arg1 c1_i32_64
  let c8_i32 : BitVec 32 := 8#32
  let v183 : BitVec 32 := Scalar.subi c8_i32 v182
  let c1_i32_65 : BitVec 32 := 1#32
  let v185 : BitVec 32 := Scalar.divsi v183 c1_i32_65
  let v186 : BitVec 32 := Scalar.muli v185 c1_i32_65
  let v187 : BitVec 32 := Scalar.addi v182 v186
  let c1_i32_67 : BitVec 32 := 1#32
  let arg14 : BitVec 32 := Scf.iv v187 c1_i32_67 k0_t2
  let c1024_i32_77 : BitVec 32 := 1024#32
  let v208 : BitVec 32 := Scalar.muli arg14 c1024_i32_77
  let v209 : BitVec 32 := v208
  let v280 : Index := Scalar.indexCast v209
  ![0, v280.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S8192x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S8192x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x2x8192 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x2x8192 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x2x8192 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S128x8192 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1024x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1024x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1024x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S8192x8x64 : Shape := ⟨3, ![8192, 8, 64]⟩
abbrev S8192x8 : Shape := ⟨2, ![8192, 8]⟩
abbrev S8x8192x8192 : Shape := ⟨3, ![8, 8192, 8192]⟩
abbrev S_ : Shape := ⟨0, ![]⟩
abbrev S8x8192 : Shape := ⟨2, ![8, 8192]⟩
abbrev S8x8192x1 : Shape := ⟨3, ![8, 8192, 1]⟩
abbrev S8x1x8192 : Shape := ⟨3, ![8, 1, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S1x8192x8192 : Shape := ⟨3, ![1, 8192, 8192]⟩
abbrev S8x64x8192 : Shape := ⟨3, ![8, 64, 8192]⟩
abbrev S8x8192x64 : Shape := ⟨3, ![8, 8192, 64]⟩
abbrev S8192x8x1 : Shape := ⟨3, ![8192, 8, 1]⟩
abbrev S8192x512 : Shape := ⟨2, ![8192, 512]⟩
abbrev S512x8192 : Shape := ⟨2, ![512, 8192]⟩

abbrev nBuf : Space → Nat
  | .hbm => 122
  | .vmem => 0
  | .smem => 0
  | _ => 0

abbrev bufTy : (tb : Table) → Fin (tcTables nBuf tb) → BufTy
  | .hbm, ⟨0, _⟩ => ⟨S8192x8x64, .f32⟩
  | .hbm, ⟨1, _⟩ => ⟨S8192x8x64, .f32⟩
  | .hbm, ⟨2, _⟩ => ⟨S8192x8x64, .f32⟩
  | .hbm, ⟨3, _⟩ => ⟨S8192x8, .f32⟩
  | .hbm, ⟨4, _⟩ => ⟨S8192x8x64, .f32⟩
  | .hbm, ⟨5, _⟩ => ⟨S8x8192x8192, .f32⟩
  | .hbm, ⟨6, _⟩ => ⟨S_, .f32⟩
  | .hbm, ⟨7, _⟩ => ⟨S8x8192x8192, .f32⟩
  | .hbm, ⟨8, _⟩ => ⟨S8x8192x8192, .f32⟩
  | .hbm, ⟨9, _⟩ => ⟨S8x8192, .f32⟩
  | .hbm, ⟨10, _⟩ => ⟨S8x8192x1, .f32⟩
  | .hbm, ⟨11, _⟩ => ⟨S8x8192x8192, .f32⟩
  | .hbm, ⟨12, _⟩ => ⟨S8x8192x8192, .f32⟩
  | .hbm, ⟨13, _⟩ => ⟨S8x8192, .f32⟩
  | .hbm, ⟨14, _⟩ => ⟨S8x1x8192, .f32⟩
  | .hbm, ⟨15, _⟩ => ⟨S8x8192x8192, .f32⟩
  | .hbm, ⟨16, _⟩ => ⟨S8x8192x8192, .f32⟩
  | .hbm, ⟨17, _⟩ => ⟨S8192, .i32⟩
  | .hbm, ⟨18, _⟩ => ⟨S1x8192, .i32⟩
  | .hbm, ⟨19, _⟩ => ⟨S8192x1, .i32⟩
  | .hbm, ⟨20, _⟩ => ⟨S8192x8192, .i32⟩
  | .hbm, ⟨21, _⟩ => ⟨S8192x8192, .i32⟩
  | .hbm, ⟨22, _⟩ => ⟨S8192x8192, .i1⟩
  | .hbm, ⟨23, _⟩ => ⟨S1x8192x8192, .i1⟩
  | .hbm, ⟨24, _⟩ => ⟨S_, .f32⟩
  | .hbm, ⟨25, _⟩ => ⟨S_, .f32⟩
  | .hbm, ⟨26, _⟩ => ⟨S8x8192x8192, .i1⟩
  | .hbm, ⟨27, _⟩ => ⟨S8x8192x8192, .f32⟩
  | .hbm, ⟨28, _⟩ => ⟨S8x8192x8192, .f32⟩
  | .hbm, ⟨29, _⟩ => ⟨S_, .f32⟩
  | .hbm, ⟨30, _⟩ => ⟨S8x8192x8192, .f32⟩
  | .hbm, ⟨31, _⟩ => ⟨S_, .f32⟩
  | .hbm, ⟨32, _⟩ => ⟨S8x8192, .f32⟩
  | .hbm, ⟨33, _⟩ => ⟨S8x8192x1, .f32⟩
  | .hbm, ⟨34, _⟩ => ⟨S8x8192x8192, .f32⟩
  | .hbm, ⟨35, _⟩ => ⟨S8x8192x8192, .i1⟩
  | .hbm, ⟨36, _⟩ => ⟨S8x8192x8192, .f32⟩
  | .hbm, ⟨37, _⟩ => ⟨S_, .f32⟩
  | .hbm, ⟨38, _⟩ => ⟨S8x8192, .f32⟩
  | .hbm, ⟨39, _⟩ => ⟨S_, .f32⟩
  | .hbm, ⟨40, _⟩ => ⟨S8x8192, .f32⟩
  | .hbm, ⟨41, _⟩ => ⟨S8x8192, .f32⟩
  | .hbm, ⟨42, _⟩ => ⟨S_, .f32⟩
  | .hbm, ⟨43, _⟩ => ⟨S8x8192, .f32⟩
  | .hbm, ⟨44, _⟩ => ⟨S8x8192, .i1⟩
  | .hbm, ⟨45, _⟩ => ⟨S_, .f32⟩
  | .hbm, ⟨46, _⟩ => ⟨S8x8192, .f32⟩
  | .hbm, ⟨47, _⟩ => ⟨S8x8192, .i1⟩
  | .hbm, ⟨48, _⟩ => ⟨S_, .f32⟩
  | .hbm, ⟨49, _⟩ => ⟨S8x8192, .f32⟩
  | .hbm, ⟨50, _⟩ => ⟨S_, .f32⟩
  | .hbm, ⟨51, _⟩ => ⟨S8x8192, .f32⟩
  | .hbm, ⟨52, _⟩ => ⟨S_, .f32⟩
  | .hbm, ⟨53, _⟩ => ⟨S8x8192, .f32⟩
  | .hbm, ⟨54, _⟩ => ⟨S8x8192, .f32⟩
  | .hbm, ⟨55, _⟩ => ⟨S8x8192, .f32⟩
  | .hbm, ⟨56, _⟩ => ⟨S8x8192x1, .f32⟩
  | .hbm, ⟨57, _⟩ => ⟨S8x8192x8192, .f32⟩
  | .hbm, ⟨58, _⟩ => ⟨S8x8192x8192, .f32⟩
  | .hbm, ⟨59, _⟩ => ⟨S8x8192x8192, .f32⟩
  | .hbm, ⟨60, _⟩ => ⟨S_, .f32⟩
  | .hbm, ⟨61, _⟩ => ⟨S8x8192, .f32⟩
  | .hbm, ⟨62, _⟩ => ⟨S8x8192x1, .f32⟩
  | .hbm, ⟨63, _⟩ => ⟨S8x8192x8192, .f32⟩
  | .hbm, ⟨64, _⟩ => ⟨S8x8192x8192, .f32⟩
  | .hbm, ⟨65, _⟩ => ⟨S8x8192x1, .f32⟩
  | .hbm, ⟨66, _⟩ => ⟨S_, .f32⟩
  | .hbm, ⟨67, _⟩ => ⟨S8x8192x1, .f32⟩
  | .hbm, ⟨68, _⟩ => ⟨S8x8192x1, .f32⟩
  | .hbm, ⟨69, _⟩ => ⟨S8x64x8192, .f32⟩
  | .hbm, ⟨70, _⟩ => ⟨S8192x8x64, .f32⟩
  | .hbm, ⟨71, _⟩ => ⟨S8x64x8192, .f32⟩
  | .hbm, ⟨72, _⟩ => ⟨S8x8192x8192, .f32⟩
  | .hbm, ⟨73, _⟩ => ⟨S8x64x8192, .f32⟩
  | .hbm, ⟨74, _⟩ => ⟨S8192x8x64, .f32⟩
  | .hbm, ⟨75, _⟩ => ⟨S8x8192x8192, .f32⟩
  | .hbm, ⟨76, _⟩ => ⟨S8x8192x8192, .f32⟩
  | .hbm, ⟨77, _⟩ => ⟨S8x8192x8192, .f32⟩
  | .hbm, ⟨78, _⟩ => ⟨S_, .f32⟩
  | .hbm, ⟨79, _⟩ => ⟨S8x8192, .f32⟩
  | .hbm, ⟨80, _⟩ => ⟨S8x8192x1, .f32⟩
  | .hbm, ⟨81, _⟩ => ⟨S8x8192x1, .f32⟩
  | .hbm, ⟨82, _⟩ => ⟨S8x8192x8192, .f32⟩
  | .hbm, ⟨83, _⟩ => ⟨S8x8192x8192, .f32⟩
  | .hbm, ⟨84, _⟩ => ⟨S_, .f32⟩
  | .hbm, ⟨85, _⟩ => ⟨S8x8192, .f32⟩
  | .hbm, ⟨86, _⟩ => ⟨S8x8192x8192, .f32⟩
  | .hbm, ⟨87, _⟩ => ⟨S8x8192x8192, .f32⟩
  | .hbm, ⟨88, _⟩ => ⟨S8x8192x8192, .f32⟩
  | .hbm, ⟨89, _⟩ => ⟨S_, .f32⟩
  | .hbm, ⟨90, _⟩ => ⟨S8x8192x8192, .f32⟩
  | .hbm, ⟨91, _⟩ => ⟨S8x8192x8192, .f32⟩
  | .hbm, ⟨92, _⟩ => ⟨S8x8192x8192, .f32⟩
  | .hbm, ⟨93, _⟩ => ⟨S_, .f32⟩
  | .hbm, ⟨94, _⟩ => ⟨S8x8192, .f32⟩
  | .hbm, ⟨95, _⟩ => ⟨S8x1x8192, .f32⟩
  | .hbm, ⟨96, _⟩ => ⟨S_, .f32⟩
  | .hbm, ⟨97, _⟩ => ⟨S8x8192, .f32⟩
  | .hbm, ⟨98, _⟩ => ⟨S8192x8, .f32⟩
  | .hbm, ⟨99, _⟩ => ⟨S_, .f32⟩
  | .hbm, ⟨100, _⟩ => ⟨S8x8192, .f32⟩
  | .hbm, ⟨101, _⟩ => ⟨S8x8192x1, .f32⟩
  | .hbm, ⟨102, _⟩ => ⟨S_, .f32⟩
  | .hbm, ⟨103, _⟩ => ⟨S8x8192, .f32⟩
  | .hbm, ⟨104, _⟩ => ⟨S8192x8, .f32⟩
  | .hbm, ⟨105, _⟩ => ⟨S8192x8, .f32⟩
  | .hbm, ⟨106, _⟩ => ⟨S_, .f32⟩
  | .hbm, ⟨107, _⟩ => ⟨S8x8192x8192, .f32⟩
  | .hbm, ⟨108, _⟩ => ⟨S8x8192x8192, .f32⟩
  | .hbm, ⟨109, _⟩ => ⟨S8x8192x64, .f32⟩
  | .hbm, ⟨110, _⟩ => ⟨S8192x8x64, .f32⟩
  | .hbm, ⟨111, _⟩ => ⟨S8x8192x64, .f32⟩
  | .hbm, ⟨112, _⟩ => ⟨S8192x8x64, .f32⟩
  | .hbm, ⟨113, _⟩ => ⟨S8192x8x1, .f32⟩
  | .hbm, ⟨114, _⟩ => ⟨S8192x8x64, .f32⟩
  | .hbm, ⟨115, _⟩ => ⟨S8192x512, .f32⟩
  | .hbm, ⟨116, _⟩ => ⟨S512x8192, .f32⟩
  | .hbm, ⟨117, _⟩ => ⟨S8192x512, .f32⟩
  | .hbm, ⟨118, _⟩ => ⟨S8192x512, .bf16⟩
  | .hbm, ⟨119, _⟩ => ⟨S8192x512, .f32⟩
  | .hbm, ⟨120, _⟩ => ⟨S8192x512, .bf16⟩
  | .hbm, ⟨121, _⟩ => ⟨S8192x512, .f32⟩
  | _, _ => ⟨S8192x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_0 : Ref sig .tc := ⟨.hbm, 24, rfl⟩
abbrev main_call0_v0 : Ref sig .tc := ⟨.hbm, 25, rfl⟩
abbrev main_v18_1 : Ref sig .tc := ⟨.hbm, 26, rfl⟩
abbrev main_call0_v2 : Ref sig .tc := ⟨.hbm, 27, rfl⟩
abbrev main_v18_0 : Ref sig .tc := ⟨.hbm, 28, rfl⟩
abbrev main_call0_cst : Ref sig .tc := ⟨.hbm, 29, rfl⟩
abbrev main_v18_2 : Ref sig .tc := ⟨.hbm, 30, rfl⟩
abbrev main_cst_1 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_2 : Ref sig .tc := ⟨.hbm, 37, rfl⟩
abbrev main_v24 : Ref sig .tc := ⟨.hbm, 38, rfl⟩
abbrev main_cst_3 : Ref sig .tc := ⟨.hbm, 39, rfl⟩
abbrev main_v25 : Ref sig .tc := ⟨.hbm, 40, rfl⟩
abbrev main_v26 : Ref sig .tc := ⟨.hbm, 41, rfl⟩
abbrev main_cst_4 : Ref sig .tc := ⟨.hbm, 42, rfl⟩
abbrev main_v27 : Ref sig .tc := ⟨.hbm, 43, rfl⟩
abbrev main_v28 : Ref sig .tc := ⟨.hbm, 44, rfl⟩
abbrev main_cst_5 : Ref sig .tc := ⟨.hbm, 45, rfl⟩
abbrev main_v29 : Ref sig .tc := ⟨.hbm, 46, rfl⟩
abbrev main_v30 : Ref sig .tc := ⟨.hbm, 47, rfl⟩
abbrev main_cst_6 : Ref sig .tc := ⟨.hbm, 48, rfl⟩
abbrev main_v31 : Ref sig .tc := ⟨.hbm, 49, rfl⟩
abbrev main_cst_7 : Ref sig .tc := ⟨.hbm, 50, rfl⟩
abbrev main_v32 : Ref sig .tc := ⟨.hbm, 51, rfl⟩
abbrev main_cst_8 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_9 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_cst_10 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_cst_11 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_cst_12 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_call1_cst : Ref sig .tc := ⟨.hbm, 89, rfl⟩
abbrev main_call1_v0 : Ref sig .tc := ⟨.hbm, 90, rfl⟩
abbrev main_v65 : Ref sig .tc := ⟨.hbm, 91, rfl⟩
abbrev main_v66 : Ref sig .tc := ⟨.hbm, 92, rfl⟩
abbrev main_cst_13 : Ref sig .tc := ⟨.hbm, 93, rfl⟩
abbrev main_v67 : Ref sig .tc := ⟨.hbm, 94, rfl⟩
abbrev main_v68 : Ref sig .tc := ⟨.hbm, 95, rfl⟩
abbrev main_cst_14 : Ref sig .tc := ⟨.hbm, 96, rfl⟩
abbrev main_v69 : Ref sig .tc := ⟨.hbm, 97, rfl⟩
abbrev main_v70 : Ref sig .tc := ⟨.hbm, 98, rfl⟩
abbrev main_cst_15 : Ref sig .tc := ⟨.hbm, 99, rfl⟩
abbrev main_v71 : Ref sig .tc := ⟨.hbm, 100, rfl⟩
abbrev main_v72 : Ref sig .tc := ⟨.hbm, 101, rfl⟩
abbrev main_cst_16 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_cst_17 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩

abbrev nD : Nat := 1
abbrev τ : Topo := Topo.v7x

variable {F : FTy → Type} [FloatOps F]
-- ==== Kernel2.lean ====
abbrev S8192x2816 : Shape := ⟨2, ![8192, 2816]⟩
abbrev S2816x1024 : Shape := ⟨2, ![2816, 1024]⟩
abbrev S8192x1024 : Shape := ⟨2, ![8192, 1024]⟩
abbrev S2048x1024 : Shape := ⟨2, ![2048, 1024]⟩
abbrev S256x1024 : Shape := ⟨2, ![256, 1024]⟩
abbrev S2048x256 : Shape := ⟨2, ![2048, 256]⟩

abbrev nBuf : Space → Nat
  | .hbm => 9
  | .vmem => 12
  | .smem => 0
  | _ => 0

abbrev bufTy : (tb : Table) → Fin (tcTables nBuf tb) → BufTy
  | .hbm, ⟨0, _⟩ => ⟨S8192x2816, .f32⟩
  | .hbm, ⟨1, _⟩ => ⟨S8192x2816, .f32⟩
  | .hbm, ⟨2, _⟩ => ⟨S2816x1024, .f32⟩
  | .hbm, ⟨3, _⟩ => ⟨S8192x1024, .f32⟩
  | .hbm, ⟨4, _⟩ => ⟨S2816x1024, .bf16⟩
  | .hbm, ⟨5, _⟩ => ⟨S8192x2816, .bf16⟩
  | .hbm, ⟨6, _⟩ => ⟨S8192x2816, .bf16⟩
  | .hbm, ⟨7, _⟩ => ⟨S8192x2816, .bf16⟩
  | .hbm, ⟨8, _⟩ => ⟨S8192x2816, .bf16⟩
  | .local _ .vmem, ⟨0, _⟩ => ⟨S2048x1024, .f32⟩
  | .local _ .vmem, ⟨1, _⟩ => ⟨S2048x1024, .f32⟩
  | .local _ .vmem, ⟨2, _⟩ => ⟨S256x1024, .bf16⟩
  | .local _ .vmem, ⟨3, _⟩ => ⟨S256x1024, .bf16⟩
  | .local _ .vmem, ⟨4, _⟩ => ⟨S2048x256, .bf16⟩
  | .local _ .vmem, ⟨5, _⟩ => ⟨S2048x256, .bf16⟩
  | .local _ .vmem, ⟨6, _⟩ => ⟨S2048x256, .bf16⟩
  | .local _ .vmem, ⟨7, _⟩ => ⟨S2048x256, .bf16⟩
  | .local _ .vmem, ⟨8, _⟩ => ⟨S2048x256, .bf16⟩
  | .local _ .vmem, ⟨9, _⟩ => ⟨S2048x256, .bf16⟩
  | .local _ .vmem, ⟨10, _⟩ => ⟨S2048x256, .bf16⟩
  | .local _ .vmem, ⟨11, _⟩ => ⟨S2048x256, .bf16⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2048x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference2Ideal.lean ====
abbrev S8192x2816 : Shape := ⟨2, ![8192, 2816]⟩
abbrev S2816x1024 : Shape := ⟨2, ![2816, 1024]⟩
abbrev S8192x1024 : Shape := ⟨2, ![8192, 1024]⟩
abbrev S_ : Shape := ⟨0, ![]⟩
abbrev S1024x2816 : Shape := ⟨2, ![1024, 2816]⟩

abbrev nBuf : Space → Nat
  | .hbm => 36
  | .vmem => 0
  | .smem => 0
  | _ => 0

abbrev bufTy : (tb : Table) → Fin (tcTables nBuf tb) → BufTy
  | .hbm, ⟨0, _⟩ => ⟨S8192x2816, .f32⟩
  | .hbm, ⟨1, _⟩ => ⟨S8192x2816, .f32⟩
  | .hbm, ⟨2, _⟩ => ⟨S2816x1024, .f32⟩
  | .hbm, ⟨3, _⟩ => ⟨S8192x1024, .f32⟩
  | .hbm, ⟨4, _⟩ => ⟨S8192x2816, .f32⟩
  | .hbm, ⟨5, _⟩ => ⟨S8192x2816, .f32⟩
  | .hbm, ⟨6, _⟩ => ⟨S_, .f32⟩
  | .hbm, ⟨7, _⟩ => ⟨S8192x2816, .f32⟩
  | .hbm, ⟨8, _⟩ => ⟨S8192x2816, .f32⟩
  | .hbm, ⟨9, _⟩ => ⟨S_, .f32⟩
  | .hbm, ⟨10, _⟩ => ⟨S8192x2816, .f32⟩
  | .hbm, ⟨11, _⟩ => ⟨S8192x2816, .f32⟩
  | .hbm, ⟨12, _⟩ => ⟨S_, .f32⟩
  | .hbm, ⟨13, _⟩ => ⟨S8192x2816, .f32⟩
  | .hbm, ⟨14, _⟩ => ⟨S8192x2816, .f32⟩
  | .hbm, ⟨15, _⟩ => ⟨S8192x2816, .f32⟩
  | .hbm, ⟨16, _⟩ => ⟨S8192x2816, .f32⟩
  | .hbm, ⟨17, _⟩ => ⟨S8192x2816, .f32⟩
  | .hbm, ⟨18, _⟩ => ⟨S8192x1024, .f32⟩
  | .hbm, ⟨19, _⟩ => ⟨S_, .f32⟩
  | .hbm, ⟨20, _⟩ => ⟨S8192x1024, .f32⟩
  | .hbm, ⟨21, _⟩ => ⟨S8192x1024, .f32⟩
  | .hbm, ⟨22, _⟩ => ⟨S_, .f32⟩
  | .hbm, ⟨23, _⟩ => ⟨S8192x1024, .f32⟩
  | .hbm, ⟨24, _⟩ => ⟨S8192x1024, .f32⟩
  | .hbm, ⟨25, _⟩ => ⟨S1024x2816, .f32⟩
  | .hbm, ⟨26, _⟩ => ⟨S2816x1024, .f32⟩
  | .hbm, ⟨27, _⟩ => ⟨S8192x2816, .f32⟩
  | .hbm, ⟨28, _⟩ => ⟨S8192x2816, .f32⟩
  | .hbm, ⟨29, _⟩ => ⟨S8192x2816, .f32⟩
  | .hbm, ⟨30, _⟩ => ⟨S8192x2816, .f32⟩
  | .hbm, ⟨31, _⟩ => ⟨S8192x2816, .f32⟩
  | .hbm, ⟨32, _⟩ => ⟨S8192x2816, .f32⟩
  | .hbm, ⟨33, _⟩ => ⟨S8192x2816, .f32⟩
  | .hbm, ⟨34, _⟩ => ⟨S8192x2816, .bf16⟩
  | .hbm, ⟨35, _⟩ => ⟨S8192x2816, .bf16⟩
  | _, _ => ⟨S8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_v0_2 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_v0_1 : Ref sig .tc := ⟨.hbm, 15, rfl⟩
abbrev main_v0_0 : Ref sig .tc := ⟨.hbm, 16, rfl⟩
abbrev main_v1 : Ref sig .tc := ⟨.hbm, 17, rfl⟩
abbrev main_v2 : Ref sig .tc := ⟨.hbm, 18, rfl⟩
abbrev main_cst : Ref sig .tc := ⟨.hbm, 19, rfl⟩
abbrev main_v3 : Ref sig .tc := ⟨.hbm, 20, rfl⟩
abbrev main_v4 : Ref sig .tc := ⟨.hbm, 21, rfl⟩
abbrev main_cst_0 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩

abbrev nD : Nat := 1
abbrev τ : Topo := Topo.v7x

variable {F : FTy → Type} [FloatOps F]
-- ==== Kernel3.lean ====
abbrev S8192x1024 : Shape := ⟨2, ![8192, 1024]⟩
abbrev S1024 : Shape := ⟨1, ![1024]⟩
abbrev S1024x2816 : Shape := ⟨2, ![1024, 2816]⟩
abbrev S8192x2816 : Shape := ⟨2, ![8192, 2816]⟩
abbrev S2816x1024 : Shape := ⟨2, ![2816, 1024]⟩
abbrev S1x1024 : Shape := ⟨2, ![1, 1024]⟩
abbrev S512x2816 : Shape := ⟨2, ![512, 2816]⟩
abbrev S512x1024 : Shape := ⟨2, ![512, 1024]⟩
abbrev S512 : Shape := ⟨1, ![512]⟩
abbrev S512x1 : Shape := ⟨2, ![512, 1]⟩

abbrev nBuf : Space → Nat
  | .hbm => 16
  | .vmem => 14
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S8192x1024, .f32⟩
  | .hbm, ⟨5, _⟩ => ⟨S8192x2816, .f32⟩
  | .hbm, ⟨6, _⟩ => ⟨S8192x2816, .f32⟩
  | .hbm, ⟨7, _⟩ => ⟨S8192x2816, .bf16⟩
  | .hbm, ⟨8, _⟩ => ⟨S2816x1024, .f32⟩
  | .hbm, ⟨9, _⟩ => ⟨S2816x1024, .bf16⟩
  | .hbm, ⟨10, _⟩ => ⟨S8192x2816, .bf16⟩
  | .hbm, ⟨11, _⟩ => ⟨S2816x1024, .f32⟩
  | .hbm, ⟨12, _⟩ => ⟨S2816x1024, .bf16⟩
  | .hbm, ⟨13, _⟩ => ⟨S1x1024, .f32⟩
  | .hbm, ⟨14, _⟩ => ⟨S8192x1024, .f32⟩
  | .hbm, ⟨15, _⟩ => ⟨S1x1024, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x2816, .bf16⟩
  | .local _ .vmem, ⟨4, _⟩ => ⟨S512x2816, .bf16⟩
  | .local _ .vmem, ⟨5, _⟩ => ⟨S2816x1024, .bf16⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7_0 : Ref sig .tc := ⟨.hbm, 14, rfl⟩
abbrev main_v7_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v42 : BitVec 1 := Scalar.cmpi .eq arg0 c0_i32
  let v43 : BitVec 32 := Scalar.extui v42
  let c0_i32_22 : BitVec 32 := 0#32
  let v44 : BitVec 1 := Scalar.cmpi .ne v43 c0_i32_22
  v44

def k0_cond2 (i : grid0.Coords) : BitVec 1 :=
  let arg0 : BitVec 32 := BitVec.ofNat 32 (i 0).val
  let c0_i32_23 : BitVec 32 := 0#32
  let v45 : BitVec 1 := Scalar.cmpi .sgt arg0 c0_i32_23
  let v46 : BitVec 32 := Scalar.extui v45
  let c0_i32_24 : BitVec 32 := 0#32
  let v47 : BitVec 1 := Scalar.cmpi .ne v46 c0_i32_24
  v47

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference3Ideal.lean ====
abbrev S8192x1024 : Shape := ⟨2, ![8192, 1024]⟩
abbrev S1024 : Shape := ⟨1, ![1024]⟩
abbrev S1024x2816 : Shape := ⟨2, ![1024, 2816]⟩
abbrev S8192x2816 : Shape := ⟨2, ![8192, 2816]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S2816x1024 : Shape := ⟨2, ![2816, 1024]⟩

abbrev nBuf : Space → Nat
  | .hbm => 63
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S8192x1024, .f32⟩
  | .hbm, ⟨5, _⟩ => ⟨S8192x2816, .f32⟩
  | .hbm, ⟨6, _⟩ => ⟨S8192x2816, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1024, .f32⟩
  | .hbm, ⟨23, _⟩ => ⟨S8192x1024, .f32⟩
  | .hbm, ⟨24, _⟩ => ⟨S1x1024, .f32⟩
  | .hbm, ⟨25, _⟩ => ⟨S8192x1024, .f32⟩
  | .hbm, ⟨26, _⟩ => ⟨S8192x1024, .f32⟩
  | .hbm, ⟨27, _⟩ => ⟨S8192x2816, .f32⟩
  | .hbm, ⟨28, _⟩ => ⟨S8192x2816, .f32⟩
  | .hbm, ⟨29, _⟩ => ⟨S2816x1024, .f32⟩
  | .hbm, ⟨30, _⟩ => ⟨S1024x2816, .f32⟩
  | .hbm, ⟨31, _⟩ => ⟨S8192x1024, .f32⟩
  | .hbm, ⟨32, _⟩ => ⟨S2816x1024, .f32⟩
  | .hbm, ⟨33, _⟩ => ⟨S1024x2816, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S_, .f32⟩
  | .hbm, ⟨38, _⟩ => ⟨S1024, .f32⟩
  | .hbm, ⟨39, _⟩ => ⟨S1x1024, .f32⟩
  | .hbm, ⟨40, _⟩ => ⟨S8192x1024, .f32⟩
  | .hbm, ⟨41, _⟩ => ⟨S8192x1024, .f32⟩
  | .hbm, ⟨42, _⟩ => ⟨S_, .f32⟩
  | .hbm, ⟨43, _⟩ => ⟨S1024, .f32⟩
  | .hbm, ⟨44, _⟩ => ⟨S8192x1024, .f32⟩
  | .hbm, ⟨45, _⟩ => ⟨S_, .f32⟩
  | .hbm, ⟨46, _⟩ => ⟨S8192, .f32⟩
  | .hbm, ⟨47, _⟩ => ⟨S8192x1, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1, .f32⟩
  | .hbm, ⟨52, _⟩ => ⟨S_, .f32⟩
  | .hbm, ⟨53, _⟩ => ⟨S8192x1, .f32⟩
  | .hbm, ⟨54, _⟩ => ⟨S8192x1, .f32⟩
  | .hbm, ⟨55, _⟩ => ⟨S_, .f32⟩
  | .hbm, ⟨56, _⟩ => ⟨S8192, .f32⟩
  | .hbm, ⟨57, _⟩ => ⟨S8192x1024, .f32⟩
  | .hbm, ⟨58, _⟩ => ⟨S8192x1024, .f32⟩
  | .hbm, ⟨59, _⟩ => ⟨S8192x1024, .f32⟩
  | .hbm, ⟨60, _⟩ => ⟨S8192x1024, .f32⟩
  | .hbm, ⟨61, _⟩ => ⟨S8192x1024, .f32⟩
  | .hbm, ⟨62, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_3 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_4 : Ref sig .tc := ⟨.hbm, 42, rfl⟩
abbrev main_v30 : Ref sig .tc := ⟨.hbm, 43, rfl⟩
abbrev main_v31 : Ref sig .tc := ⟨.hbm, 44, rfl⟩
abbrev main_cst_5 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_6 : Ref sig .tc := ⟨.hbm, 52, rfl⟩
abbrev main_v38 : Ref sig .tc := ⟨.hbm, 53, rfl⟩
abbrev main_v39 : Ref sig .tc := ⟨.hbm, 54, rfl⟩
abbrev main_cst_7 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩

abbrev nD : Nat := 1
abbrev τ : Topo := Topo.v7x

variable {F : FTy → Type} [FloatOps F]
-- ==== Kernel4.lean ====
abbrev S8192x1024 : Shape := ⟨2, ![8192, 1024]⟩
abbrev S1024x2816 : Shape := ⟨2, ![1024, 2816]⟩
abbrev S8192x2816 : Shape := ⟨2, ![8192, 2816]⟩
abbrev S2816x1024 : Shape := ⟨2, ![2816, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 6
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1024x2816, .f32⟩
  | .hbm, ⟨2, _⟩ => ⟨S8192x2816, .f32⟩
  | .hbm, ⟨3, _⟩ => ⟨S8192x2816, .bf16⟩
  | .hbm, ⟨4, _⟩ => ⟨S8192x1024, .bf16⟩
  | .hbm, ⟨5, _⟩ => ⟨S2816x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S8192x1024 : Shape := ⟨2, ![8192, 1024]⟩
abbrev S1024x2816 : Shape := ⟨2, ![1024, 2816]⟩
abbrev S8192x2816 : Shape := ⟨2, ![8192, 2816]⟩
abbrev S2816x1024 : Shape := ⟨2, ![2816, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x2816, .f32⟩
  | .hbm, ⟨2, _⟩ => ⟨S8192x2816, .f32⟩
  | .hbm, ⟨3, _⟩ => ⟨S8192x2816, .f32⟩
  | .hbm, ⟨4, _⟩ => ⟨S2816x1024, .f32⟩
  | .hbm, ⟨5, _⟩ => ⟨S1024x2816, .f32⟩
  | .hbm, ⟨6, _⟩ => ⟨S8192x1024, .f32⟩
  | .hbm, ⟨7, _⟩ => ⟨S2816x1024, .f32⟩
  | .hbm, ⟨8, _⟩ => ⟨S2816x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel5.lean ====
abbrev S8192x2816 : Shape := ⟨2, ![8192, 2816]⟩
abbrev S2816x1024 : Shape := ⟨2, ![2816, 1024]⟩
abbrev S8192x1024 : Shape := ⟨2, ![8192, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x2816, .f32⟩
  | .hbm, ⟨1, _⟩ => ⟨S2816x1024, .f32⟩
  | .hbm, ⟨2, _⟩ => ⟨S8192x1024, .f32⟩
  | .hbm, ⟨3, _⟩ => ⟨S8192x2816, .bf16⟩
  | .hbm, ⟨4, _⟩ => ⟨S2816x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .f32⟩
  | .local _ .vmem, ⟨3, _⟩ => ⟨S2048x1024, .f32⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S8192x2816 : Shape := ⟨2, ![8192, 2816]⟩
abbrev S2816x1024 : Shape := ⟨2, ![2816, 1024]⟩
abbrev S8192x1024 : Shape := ⟨2, ![8192, 1024]⟩
abbrev S_ : Shape := ⟨0, ![]⟩
abbrev S1024x2816 : Shape := ⟨2, ![1024, 2816]⟩

abbrev nBuf : Space → Nat
  | .hbm => 14
  | .vmem => 0
  | .smem => 0
  | _ => 0

abbrev bufTy : (tb : Table) → Fin (tcTables nBuf tb) → BufTy
  | .hbm, ⟨0, _⟩ => ⟨S8192x2816, .f32⟩
  | .hbm, ⟨1, _⟩ => ⟨S2816x1024, .f32⟩
  | .hbm, ⟨2, _⟩ => ⟨S8192x1024, .f32⟩
  | .hbm, ⟨3, _⟩ => ⟨S8192x1024, .f32⟩
  | .hbm, ⟨4, _⟩ => ⟨S_, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S8192x1024, .f32⟩
  | .hbm, ⟨9, _⟩ => ⟨S8192x1024, .f32⟩
  | .hbm, ⟨10, _⟩ => ⟨S1024x2816, .f32⟩
  | .hbm, ⟨11, _⟩ => ⟨S2816x1024, .f32⟩
  | .hbm, ⟨12, _⟩ => ⟨S8192x2816, .f32⟩
  | .hbm, ⟨13, _⟩ => ⟨S2816x1024, .bf16⟩
  | _, _ => ⟨S8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]
-- ==== Kernel6.lean ====
abbrev S8192x1024 : Shape := ⟨2, ![8192, 1024]⟩
abbrev S1024x2816 : Shape := ⟨2, ![1024, 2816]⟩
abbrev S2816x1024 : Shape := ⟨2, ![2816, 1024]⟩
abbrev S8192x2816 : Shape := ⟨2, ![8192, 2816]⟩
abbrev S4096x1024 : Shape := ⟨2, ![4096, 1024]⟩
abbrev S256x1024 : Shape := ⟨2, ![256, 1024]⟩
abbrev S4096x256 : Shape := ⟨2, ![4096, 256]⟩

abbrev nBuf : Space → Nat
  | .hbm => 11
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S1024x2816, .f32⟩
  | .hbm, ⟨2, _⟩ => ⟨S1024x2816, .f32⟩
  | .hbm, ⟨3, _⟩ => ⟨S8192x1024, .bf16⟩
  | .hbm, ⟨4, _⟩ => ⟨S2816x1024, .f32⟩
  | .hbm, ⟨5, _⟩ => ⟨S2816x1024, .bf16⟩
  | .hbm, ⟨6, _⟩ => ⟨S2816x1024, .f32⟩
  | .hbm, ⟨7, _⟩ => ⟨S2816x1024, .bf16⟩
  | .hbm, ⟨8, _⟩ => ⟨S8192x2816, .bf16⟩
  | .hbm, ⟨9, _⟩ => ⟨S8192x2816, .bf16⟩
  | .hbm, ⟨10, _⟩ => ⟨S8192x2816, .bf16⟩
  | .local _ .vmem, ⟨0, _⟩ => ⟨S4096x1024, .bf16⟩
  | .local _ .vmem, ⟨1, _⟩ => ⟨S4096x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S4096x256, .bf16⟩
  | .local _ .vmem, ⟨7, _⟩ => ⟨S4096x256, .bf16⟩
  | .local _ .vmem, ⟨8, _⟩ => ⟨S4096x256, .bf16⟩
  | .local _ .vmem, ⟨9, _⟩ => ⟨S4096x256, .bf16⟩
  | .local _ .vmem, ⟨10, _⟩ => ⟨S4096x256, .bf16⟩
  | .local _ .vmem, ⟨11, _⟩ => ⟨S4096x256, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5_0 : Ref sig .tc := ⟨.hbm, 8, rfl⟩
abbrev main_v5_1 : Ref sig .tc := ⟨.hbm, 9, rfl⟩
abbrev main_v5_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S4096x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S4096x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S4096x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference6Ideal.lean ====
abbrev S8192x1024 : Shape := ⟨2, ![8192, 1024]⟩
abbrev S1024x2816 : Shape := ⟨2, ![1024, 2816]⟩
abbrev S8192x2816 : Shape := ⟨2, ![8192, 2816]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x2816, .f32⟩
  | .hbm, ⟨2, _⟩ => ⟨S1024x2816, .f32⟩
  | .hbm, ⟨3, _⟩ => ⟨S8192x2816, .f32⟩
  | .hbm, ⟨4, _⟩ => ⟨S8192x2816, .f32⟩
  | .hbm, ⟨5, _⟩ => ⟨S8192x2816, .bf16⟩
  | .hbm, ⟨6, _⟩ => ⟨S8192x2816, .bf16⟩
  | .hbm, ⟨7, _⟩ => ⟨S8192x2816, .f32⟩
  | .hbm, ⟨8, _⟩ => ⟨S8192x2816, .f32⟩
  | .hbm, ⟨9, _⟩ => ⟨S_, .f32⟩
  | .hbm, ⟨10, _⟩ => ⟨S8192x2816, .f32⟩
  | .hbm, ⟨11, _⟩ => ⟨S8192x2816, .f32⟩
  | .hbm, ⟨12, _⟩ => ⟨S_, .f32⟩
  | .hbm, ⟨13, _⟩ => ⟨S8192x2816, .f32⟩
  | .hbm, ⟨14, _⟩ => ⟨S8192x2816, .f32⟩
  | .hbm, ⟨15, _⟩ => ⟨S8192x2816, .f32⟩
  | .hbm, ⟨16, _⟩ => ⟨S8192x2816, .f32⟩
  | .hbm, ⟨17, _⟩ => ⟨S8192x2816, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩

abbrev nD : Nat := 1
abbrev τ : Topo := Topo.v7x

variable {F : FTy → Type} [FloatOps F]
-- ==== Kernel7.lean ====
abbrev S8192x2816 : Shape := ⟨2, ![8192, 2816]⟩
abbrev S2816x1024 : Shape := ⟨2, ![2816, 1024]⟩
abbrev S8192x1024 : Shape := ⟨2, ![8192, 1024]⟩
abbrev S1024x2816 : Shape := ⟨2, ![1024, 2816]⟩
abbrev S1024x1024 : Shape := ⟨2, ![1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S8192x2816, .f32⟩
  | .hbm, ⟨1, _⟩ => ⟨S2816x1024, .f32⟩
  | .hbm, ⟨2, _⟩ => ⟨S8192x1024, .f32⟩
  | .hbm, ⟨3, _⟩ => ⟨S8192x2816, .bf16⟩
  | .hbm, ⟨4, _⟩ => ⟨S2816x1024, .bf16⟩
  | .hbm, ⟨5, _⟩ => ⟨S8192x1024, .f32⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference7Ideal.lean ====
abbrev S8192x2816 : Shape := ⟨2, ![8192, 2816]⟩
abbrev S2816x1024 : Shape := ⟨2, ![2816, 1024]⟩
abbrev S8192x1024 : Shape := ⟨2, ![8192, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S8192x2816, .f32⟩
  | .hbm, ⟨1, _⟩ => ⟨S2816x1024, .f32⟩
  | .hbm, ⟨2, _⟩ => ⟨S8192x1024, .f32⟩
  | .hbm, ⟨3, _⟩ => ⟨S8192x1024, .f32⟩
  | .hbm, ⟨4, _⟩ => ⟨S_, .f32⟩
  | .hbm, ⟨5, _⟩ => ⟨S8192x1024, .f32⟩
  | .hbm, ⟨6, _⟩ => ⟨S8192x1024, .f32⟩
  | .hbm, ⟨7, _⟩ => ⟨S8192x1024, .f32⟩
  | _, _ => ⟨S8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== Kernel8.lean ====
abbrev S8192x1024 : Shape := ⟨2, ![8192, 1024]⟩
abbrev S1024 : Shape := ⟨1, ![1024]⟩
abbrev S1x1024 : Shape := ⟨2, ![1, 1024]⟩
abbrev S1024x1024 : Shape := ⟨2, ![1024, 1024]⟩
abbrev S1024x1 : Shape := ⟨2, ![1024, 1]⟩

abbrev nBuf : Space → Nat
  | .hbm => 4
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1x1024, .f32⟩
  | .hbm, ⟨3, _⟩ => ⟨S8192x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference8Ideal.lean ====
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 19
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8192x1024, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x1024, .f32⟩
  | .hbm, ⟨14, _⟩ => ⟨S8192x1024, .f32⟩
  | .hbm, ⟨15, _⟩ => ⟨S1x1024, .f32⟩
  | .hbm, ⟨16, _⟩ => ⟨S8192x1024, .f32⟩
  | .hbm, ⟨17, _⟩ => ⟨S8192x1024, .f32⟩
  | .hbm, ⟨18, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Kernel9.lean ====
abbrev S8192x8 : Shape := ⟨2, ![8192, 8]⟩
abbrev S8 : Shape := ⟨1, ![8]⟩
abbrev S_ : Shape := ⟨0, ![]⟩
abbrev S8192x896 : Shape := ⟨2, ![8192, 896]⟩
abbrev S8192x8x64 : Shape := ⟨3, ![8192, 8, 64]⟩
abbrev S8192x512 : Shape := ⟨2, ![8192, 512]⟩
abbrev S128 : Shape := ⟨1, ![128]⟩
abbrev S1x128 : Shape := ⟨2, ![1, 128]⟩
abbrev S8192x128 : Shape := ⟨2, ![8192, 128]⟩
abbrev S512x512 : Shape := ⟨2, ![512, 512]⟩
abbrev S512x128 : Shape := ⟨2, ![512, 128]⟩
abbrev S512x1 : Shape := ⟨2, ![512, 1]⟩

abbrev nBuf : Space → Nat
  | .hbm => 14
  | .vmem => 9
  | .smem => 0
  | _ => 0

abbrev bufTy : (tb : Table) → Fin (tcTables nBuf tb) → BufTy
  | .hbm, ⟨0, _⟩ => ⟨S8192x8, .f32⟩
  | .hbm, ⟨1, _⟩ => ⟨S8192x8, .f32⟩
  | .hbm, ⟨2, _⟩ => ⟨S8, .f32⟩
  | .hbm, ⟨3, _⟩ => ⟨S_, .i32⟩
  | .hbm, ⟨4, _⟩ => ⟨S_, .f32⟩
  | .hbm, ⟨5, _⟩ => ⟨S8192x896, .f32⟩
  | .hbm, ⟨6, _⟩ => ⟨S8192x8x64, .f32⟩
  | .hbm, ⟨7, _⟩ => ⟨S8192x512, .f32⟩
  | .hbm, ⟨8, _⟩ => ⟨S_, .i32⟩
  | .hbm, ⟨9, _⟩ => ⟨S_, .f32⟩
  | .hbm, ⟨10, _⟩ => ⟨S128, .f32⟩
  | .hbm, ⟨11, _⟩ => ⟨S1x128, .f32⟩
  | .hbm, ⟨12, _⟩ => ⟨S8192x128, .bf16⟩
  | .hbm, ⟨13, _⟩ => ⟨S1x128, .f32⟩
  | .local _ .vmem, ⟨0, _⟩ => ⟨S512x512, .f32⟩
  | .local _ .vmem, ⟨1, _⟩ => ⟨S512x512, .f32⟩
  | .local _ .vmem, ⟨2, _⟩ => ⟨S512x128, .f32⟩
  | .local _ .vmem, ⟨3, _⟩ => ⟨S512x128, .f32⟩
  | .local _ .vmem, ⟨4, _⟩ => ⟨S1x128, .f32⟩
  | .local _ .vmem, ⟨5, _⟩ => ⟨S512x128, .bf16⟩
  | .local _ .vmem, ⟨6, _⟩ => ⟨S512x128, .bf16⟩
  | .local _ .vmem, ⟨7, _⟩ => ⟨S1x128, .f32⟩
  | .local _ .vmem, ⟨8, _⟩ => ⟨S1x128, .f32⟩
  | _, _ => ⟨S8192x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_call1_v0 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c0_i32_41 : BitVec 32 := 0#32
  let v159 : BitVec 1 := Scalar.cmpi .eq arg0 c0_i32_41
  let v160 : BitVec 32 := Scalar.extui v159
  let c0_i32_42 : BitVec 32 := 0#32
  let v161 : BitVec 1 := Scalar.cmpi .ne v160 c0_i32_42
  v161

def k0_cond3 (i : grid0.Coords) : BitVec 1 :=
  let arg0 : BitVec 32 := BitVec.ofNat 32 (i 0).val
  let c0_i32_43 : BitVec 32 := 0#32
  let v162 : BitVec 1 := Scalar.cmpi .sgt arg0 c0_i32_43
  let v163 : BitVec 32 := Scalar.extui v162
  let c0_i32_44 : BitVec 32 := 0#32
  let v164 : BitVec 1 := Scalar.cmpi .ne v163 c0_i32_44
  v164

def cc0_transform_0 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c15_i32 : BitVec 32 := 15#32
  let v0 : BitVec 32 := Scalar.subi c15_i32 arg0
  let c6_i32 : BitVec 32 := 6#32
  let c0_i32 : BitVec 32 := 0#32
  ![v0.toNat, c6_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== Reference9Ideal.lean ====
abbrev S8192x8 : Shape := ⟨2, ![8192, 8]⟩
abbrev S8 : Shape := ⟨1, ![8]⟩
abbrev S1x8 : Shape := ⟨2, ![1, 8]⟩
abbrev S_ : Shape := ⟨0, ![]⟩
abbrev S8192x128 : Shape := ⟨2, ![8192, 128]⟩
abbrev S128 : Shape := ⟨1, ![128]⟩
abbrev S1x128 : Shape := ⟨2, ![1, 128]⟩

abbrev nBuf : Space → Nat
  | .hbm => 76
  | .vmem => 0
  | .smem => 0
  | _ => 0

abbrev bufTy : (tb : Table) → Fin (tcTables nBuf tb) → BufTy
  | .hbm, ⟨0, _⟩ => ⟨S8192x8, .f32⟩
  | .hbm, ⟨1, _⟩ => ⟨S8192x8, .f32⟩
  | .hbm, ⟨2, _⟩ => ⟨S8, .f32⟩
  | .hbm, ⟨3, _⟩ => ⟨S1x8, .f32⟩
  | .hbm, ⟨4, _⟩ => ⟨S8192x8, .f32⟩
  | .hbm, ⟨5, _⟩ => ⟨S8192x8, .f32⟩
  | .hbm, ⟨6, _⟩ => ⟨S8192x8, .f32⟩
  | .hbm, ⟨7, _⟩ => ⟨S_, .f32⟩
  | .hbm, ⟨8, _⟩ => ⟨S8192x8, .f32⟩
  | .hbm, ⟨9, _⟩ => ⟨S8192x8, .f32⟩
  | .hbm, ⟨10, _⟩ => ⟨S8192x8, .f32⟩
  | .hbm, ⟨11, _⟩ => ⟨S8192x8, .f32⟩
  | .hbm, ⟨12, _⟩ => ⟨S8192x8, .i1⟩
  | .hbm, ⟨13, _⟩ => ⟨S8192x8, .f32⟩
  | .hbm, ⟨14, _⟩ => ⟨S8192x8, .f32⟩
  | .hbm, ⟨15, _⟩ => ⟨S8192x8, .f32⟩
  | .hbm, ⟨16, _⟩ => ⟨S8192x8, .f32⟩
  | .hbm, ⟨17, _⟩ => ⟨S8192x8, .f32⟩
  | .hbm, ⟨18, _⟩ => ⟨S8192x8, .f32⟩
  | .hbm, ⟨19, _⟩ => ⟨S8192x8, .f32⟩
  | .hbm, ⟨20, _⟩ => ⟨S8192x8, .f32⟩
  | .hbm, ⟨21, _⟩ => ⟨S_, .f32⟩
  | .hbm, ⟨22, _⟩ => ⟨S8192x8, .f32⟩
  | .hbm, ⟨23, _⟩ => ⟨S8192x8, .i1⟩
  | .hbm, ⟨24, _⟩ => ⟨S_, .f32⟩
  | .hbm, ⟨25, _⟩ => ⟨S8192x8, .f32⟩
  | .hbm, ⟨26, _⟩ => ⟨S8192x8, .f32⟩
  | .hbm, ⟨27, _⟩ => ⟨S_, .f32⟩
  | .hbm, ⟨28, _⟩ => ⟨S8192x8, .f32⟩
  | .hbm, ⟨29, _⟩ => ⟨S8192x8, .i1⟩
  | .hbm, ⟨30, _⟩ => ⟨S_, .f32⟩
  | .hbm, ⟨31, _⟩ => ⟨S8192x8, .f32⟩
  | .hbm, ⟨32, _⟩ => ⟨S8192x8, .f32⟩
  | .hbm, ⟨33, _⟩ => ⟨S8192x8, .f32⟩
  | .hbm, ⟨34, _⟩ => ⟨S8192x8, .f32⟩
  | .hbm, ⟨35, _⟩ => ⟨S_, .f32⟩
  | .hbm, ⟨36, _⟩ => ⟨S_, .f32⟩
  | .hbm, ⟨37, _⟩ => ⟨S_, .i1⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S8192x8, .f32⟩
  | .hbm, ⟨43, _⟩ => ⟨S8192x8, .i1⟩
  | .hbm, ⟨44, _⟩ => ⟨S_, .f32⟩
  | .hbm, ⟨45, _⟩ => ⟨S8192x8, .f32⟩
  | .hbm, ⟨46, _⟩ => ⟨S8192x8, .f32⟩
  | .hbm, ⟨47, _⟩ => ⟨S8192x8, .f32⟩
  | .hbm, ⟨48, _⟩ => ⟨S8192x8, .f32⟩
  | .hbm, ⟨49, _⟩ => ⟨S8192x8, .f32⟩
  | .hbm, ⟨50, _⟩ => ⟨S_, .f32⟩
  | .hbm, ⟨51, _⟩ => ⟨S8192x8, .f32⟩
  | .hbm, ⟨52, _⟩ => ⟨S8192x8, .f32⟩
  | .hbm, ⟨53, _⟩ => ⟨S8192x8, .f32⟩
  | .hbm, ⟨54, _⟩ => ⟨S_, .f32⟩
  | .hbm, ⟨55, _⟩ => ⟨S_, .f32⟩
  | .hbm, ⟨56, _⟩ => ⟨S8192x8, .f32⟩
  | .hbm, ⟨57, _⟩ => ⟨S_, .f32⟩
  | .hbm, ⟨58, _⟩ => ⟨S_, .f32⟩
  | .hbm, ⟨59, _⟩ => ⟨S8192x8, .f32⟩
  | .hbm, ⟨60, _⟩ => ⟨S8192x8, .f32⟩
  | .hbm, ⟨61, _⟩ => ⟨S8192x8, .f32⟩
  | .hbm, ⟨62, _⟩ => ⟨S8192x8, .f32⟩
  | .hbm, ⟨63, _⟩ => ⟨S_, .f32⟩
  | .hbm, ⟨64, _⟩ => ⟨S8, .f32⟩
  | .hbm, ⟨65, _⟩ => ⟨S1x8, .f32⟩
  | .hbm, ⟨66, _⟩ => ⟨S_, .f32⟩
  | .hbm, ⟨67, _⟩ => ⟨S8, .f32⟩
  | .hbm, ⟨68, _⟩ => ⟨S_, .i32⟩
  | .hbm, ⟨69, _⟩ => ⟨S_, .f32⟩
  | .hbm, ⟨70, _⟩ => ⟨S8192x128, .f32⟩
  | .hbm, ⟨71, _⟩ => ⟨S8192x128, .bf16⟩
  | .hbm, ⟨72, _⟩ => ⟨S_, .i32⟩
  | .hbm, ⟨73, _⟩ => ⟨S_, .f32⟩
  | .hbm, ⟨74, _⟩ => ⟨S128, .f32⟩
  | .hbm, ⟨75, _⟩ => ⟨S1x128, .f32⟩
  | _, _ => ⟨S8192x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_v0 : Ref sig .tc := ⟨.hbm, 6, rfl⟩
abbrev main_call0_call0_cst : Ref sig .tc := ⟨.hbm, 7, rfl⟩
abbrev main_call0_call0_v0 : Ref sig .tc := ⟨.hbm, 8, rfl⟩
abbrev main_call0_call0_v1 : Ref sig .tc := ⟨.hbm, 9, rfl⟩
abbrev main_call0_call0_v2 : Ref sig .tc := ⟨.hbm, 10, rfl⟩
abbrev main_call0_call0_v3 : Ref sig .tc := ⟨.hbm, 11, rfl⟩
abbrev main_call0_call0_v4 : Ref sig .tc := ⟨.hbm, 12, rfl⟩
abbrev main_call0_call0_v5 : Ref sig .tc := ⟨.hbm, 13, rfl⟩
abbrev main_call0_call0_v6 : Ref sig .tc := ⟨.hbm, 14, rfl⟩
abbrev main_call0_call0_v7 : Ref sig .tc := ⟨.hbm, 15, rfl⟩
abbrev main_call0_call0_v8 : Ref sig .tc := ⟨.hbm, 16, rfl⟩
abbrev main_call0_call0_v9 : Ref sig .tc := ⟨.hbm, 17, rfl⟩
abbrev main_call0_call0_v10 : Ref sig .tc := ⟨.hbm, 18, rfl⟩
abbrev main_call0_call0_v11 : Ref sig .tc := ⟨.hbm, 19, rfl⟩
abbrev main_call0_v1_0 : Ref sig .tc := ⟨.hbm, 20, rfl⟩
abbrev main_call0_call0_cst_0 : Ref sig .tc := ⟨.hbm, 21, rfl⟩
abbrev main_call0_call0_v13 : Ref sig .tc := ⟨.hbm, 22, rfl⟩
abbrev main_call0_call0_v14 : Ref sig .tc := ⟨.hbm, 23, rfl⟩
abbrev main_call0_call0_cst_1 : Ref sig .tc := ⟨.hbm, 24, rfl⟩
abbrev main_call0_call0_v15 : Ref sig .tc := ⟨.hbm, 25, rfl⟩
abbrev main_call0_call0_v16 : Ref sig .tc := ⟨.hbm, 26, rfl⟩
abbrev main_call0_call0_cst_2 : Ref sig .tc := ⟨.hbm, 27, rfl⟩
abbrev main_call0_call0_v17 : Ref sig .tc := ⟨.hbm, 28, rfl⟩
abbrev main_call0_call0_v18 : Ref sig .tc := ⟨.hbm, 29, rfl⟩
abbrev main_call0_call0_cst_3 : Ref sig .tc := ⟨.hbm, 30, rfl⟩
abbrev main_call0_call0_v19 : Ref sig .tc := ⟨.hbm, 31, rfl⟩
abbrev main_call0_call0_v20 : Ref sig .tc := ⟨.hbm, 32, rfl⟩
abbrev main_call0_call0_v21 : Ref sig .tc := ⟨.hbm, 33, rfl⟩
abbrev main_v3_1 : Ref sig .tc := ⟨.hbm, 34, rfl⟩
abbrev main_call0_call0_cst_4 : Ref sig .tc := ⟨.hbm, 35, rfl⟩
abbrev main_call0_call0_cst_5 : Ref sig .tc := ⟨.hbm, 36, rfl⟩
abbrev main_call0_call0_v23 : Ref sig .tc := ⟨.hbm, 37, rfl⟩
abbrev main_call0_call0_cst_6 : Ref sig .tc := ⟨.hbm, 38, rfl⟩
abbrev main_call0_call0_cst_7 : Ref sig .tc := ⟨.hbm, 39, rfl⟩
abbrev main_call0_call0_v24 : Ref sig .tc := ⟨.hbm, 40, rfl⟩
abbrev main_call0_call0_cst_8 : Ref sig .tc := ⟨.hbm, 41, rfl⟩
abbrev main_call0_call0_v25 : Ref sig .tc := ⟨.hbm, 42, rfl⟩
abbrev main_call0_call0_v26 : Ref sig .tc := ⟨.hbm, 43, rfl⟩
abbrev main_call0_call0_cst_9 : Ref sig .tc := ⟨.hbm, 44, rfl⟩
abbrev main_call0_call0_v27 : Ref sig .tc := ⟨.hbm, 45, rfl⟩
abbrev main_call0_call0_v28 : Ref sig .tc := ⟨.hbm, 46, rfl⟩
abbrev main_call0_call0_v29 : Ref sig .tc := ⟨.hbm, 47, rfl⟩
abbrev main_call0_call0_v30 : Ref sig .tc := ⟨.hbm, 48, rfl⟩
abbrev main_call0_call0_v31 : Ref sig .tc := ⟨.hbm, 49, rfl⟩
abbrev main_call0_call0_cst_10 : Ref sig .tc := ⟨.hbm, 50, rfl⟩
abbrev main_call0_call0_v32 : Ref sig .tc := ⟨.hbm, 51, rfl⟩
abbrev main_v3_2 : Ref sig .tc := ⟨.hbm, 52, rfl⟩
abbrev main_v3_0 : Ref sig .tc := ⟨.hbm, 53, rfl⟩
abbrev main_call1_call0_cst : Ref sig .tc := ⟨.hbm, 54, rfl⟩
abbrev main_call1_call0_v0 : Ref sig .tc := ⟨.hbm, 55, rfl⟩
abbrev main_v4 : Ref sig .tc := ⟨.hbm, 56, rfl⟩
abbrev main_call2_call0_cst : Ref sig .tc := ⟨.hbm, 57, rfl⟩
abbrev main_call2_call0_v0 : Ref sig .tc := ⟨.hbm, 58, rfl⟩
abbrev main_v5 : Ref sig .tc := ⟨.hbm, 59, rfl⟩
abbrev main_call3_v0 : Ref sig .tc := ⟨.hbm, 60, rfl⟩
abbrev main_call3_v1 : Ref sig .tc := ⟨.hbm, 61, rfl⟩
abbrev main_v6 : Ref sig .tc := ⟨.hbm, 62, rfl⟩
abbrev main_cst : Ref sig .tc := ⟨.hbm, 63, rfl⟩
abbrev main_v7 : Ref sig .tc := ⟨.hbm, 64, rfl⟩
abbrev main_v8 : Ref sig .tc := ⟨.hbm, 65, rfl⟩
abbrev main_cst_0 : Ref sig .tc := ⟨.hbm, 66, rfl⟩
abbrev main_v9 : Ref sig .tc := ⟨.hbm, 67, rfl⟩
abbrev main_c : Ref sig .tc := ⟨.hbm, 68, rfl⟩
abbrev main_call4_v0 : Ref sig .tc := ⟨.hbm, 69, rfl⟩
abbrev main_v10 : Ref sig .tc := ⟨.hbm, 70, rfl⟩
abbrev main_v11 : Ref sig .tc := ⟨.hbm, 71, rfl⟩
abbrev main_c_1 : Ref sig .tc := ⟨.hbm, 72, rfl⟩
abbrev main_call5_v0 : Ref sig .tc := ⟨.hbm, 73, rfl⟩
abbrev main_v12 : Ref sig .tc := ⟨.hbm, 74, rfl⟩
abbrev main_v13 : Ref sig .tc := ⟨.hbm, 75, rfl⟩

abbrev nD : Nat := 1
abbrev τ : Topo := Topo.v7x

variable {F : FTy → Type} [FloatOps F]
-- ==== Proof.BitsA.lean ====
/- The body of the attention gradient at float words, run once at the first point of a pair of heads. -/
module

public import proofs.«01_k».proof.Proof.Gen.Kernel.Frame
public import proofs.«01_k».proof.Proof.Gen.Kernel.Skeleton
public import proofs.«01_k».proof.Proof.Gen.Kernel.Loops

@[expose] public section

set_option maxRecDepth 16384

noncomputable section

namespace Cert.Kernel.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)
open Cert.Kernel.Gen

variable {F : FTy → Type} [FloatOps F]

local notation "𝕄" => MT nD τ sig Unit (Elt F) ℕ (UR sig nD τ) ℕ

/-- The body's branch on the key block: this point is the first of its pair. -/
abbrev isFirst (i : grid0.Coords) : Prop := (Scalar.cmpi .ne (Scalar.extui (Scalar.cmpi .eq (BitVec.ofNat 32 (i 1).val) 0#32)) 0#32) = 1#1

set_option maxHeartbeats 1000000 in
/-- The body at a first point of a pair ends with its inputs as they were and its outputs at some contents. -/
theorem runA (c : Dev nD) (i : grid0.Coords) (arg2 : Memref sig .tc .vmem S8192x128 .bf16) (harg2 : arg2.IsWhole) (arg3 : Memref sig .tc .vmem S8192x128 .f32) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S1024x128 .f32) (harg6 : arg6.IsWhole) (arg7 : Memref sig .tc .vmem S1x2x8192 .f32) (harg7 : arg7.IsWhole) (arg8 : Memref sig .tc .vmem S1x2x8192 .f32) (harg8 : arg8.IsWhole) (arg9 : Memref sig .tc .vmem S1x2x8192 .f32) (harg9 : arg9.IsWhole) (arg10 : Memref sig .tc .vmem S128x8192 .f32) (harg10 : arg10.IsWhole) (arg11 : Memref sig .tc .vmem S1024x128 .bf16) (harg11 : arg11.IsWhole) (arg12 : Memref sig .tc .vmem S1024x128 .bf16) (harg12 : arg12.IsWhole) (arg13 : Memref sig .tc .vmem S1024x128 .f32) (harg13 : arg13.IsWhole) (hc0 : isFirst i)
    (x0 : Vec F S8192x128 .bf16) (x1 : Vec F S8192x128 .f32) (x2 : Vec F S1024x128 .bf16) (x3 : Vec F S1024x128 .bf16) (x4 : Vec F S1024x128 .f32) (x5 : Vec F S1x2x8192 .f32) (x6 : Vec F S1x2x8192 .f32) (x7 : Vec F S1x2x8192 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)) -∗ K ⟨⟩))
      ⊢ wp frame (wpE (defs₀ (F := F)) Variants.none c none) E (cc0_attn_bwd i arg2 harg2 arg3 harg3 arg4 harg4 arg5 harg5 arg6 harg6 arg7 harg7 arg8 harg8 arg9 harg9 arg10 harg10 arg11 harg11 arg12 harg12 arg13 harg13) K := by
  simp only [cc0_attn_bwd_eq_skeleton]; unfold cc0_attn_bwd_skel
  simp only [k0_part3_eq_skeleton, k0_part4_eq_skeleton, k0_part5_eq_skeleton, k0_part6_eq_skeleton, k0_part7_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
  sl_exec (disch := first | sl_exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _, _; isplitr; swap; · iexact H8
    ipureintro; rfl
  isplitl [H9]
  · iexists _, _; isplitr; swap; · iexact H9
    ipureintro; rfl
  isplitl [H10]
  · iexists _, _; isplitr; swap; · iexact H10
    ipureintro; rfl
  iexists _, _; isplitr; swap; · iexact H11
  ipureintro; rfl

end Cert.Kernel.Attn

end
-- ==== Proof.BitsB.lean ====
/- The body of the attention gradient at float words, run once at a later point of a pair of heads. -/
module

public import proofs.«01_k».proof.Proof.BitsA

@[expose] public section

set_option maxRecDepth 16384

noncomputable section

namespace Cert.Kernel.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)
open Cert.Kernel.Gen

variable {F : FTy → Type} [FloatOps F]

local notation "𝕄" => MT nD τ sig Unit (Elt F) ℕ (UR sig nD τ) ℕ

set_option maxHeartbeats 1000000 in
/-- The body at a later point of a pair ends with its inputs as they were and its outputs at some contents. -/
theorem runB (c : Dev nD) (i : grid0.Coords) (arg2 : Memref sig .tc .vmem S8192x128 .bf16) (harg2 : arg2.IsWhole) (arg3 : Memref sig .tc .vmem S8192x128 .f32) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S1024x128 .f32) (harg6 : arg6.IsWhole) (arg7 : Memref sig .tc .vmem S1x2x8192 .f32) (harg7 : arg7.IsWhole) (arg8 : Memref sig .tc .vmem S1x2x8192 .f32) (harg8 : arg8.IsWhole) (arg9 : Memref sig .tc .vmem S1x2x8192 .f32) (harg9 : arg9.IsWhole) (arg10 : Memref sig .tc .vmem S128x8192 .f32) (harg10 : arg10.IsWhole) (arg11 : Memref sig .tc .vmem S1024x128 .bf16) (harg11 : arg11.IsWhole) (arg12 : Memref sig .tc .vmem S1024x128 .bf16) (harg12 : arg12.IsWhole) (arg13 : Memref sig .tc .vmem S1024x128 .f32) (harg13 : arg13.IsWhole) (hc0 : ¬ isFirst i)
    (x0 : Vec F S8192x128 .bf16) (x1 : Vec F S8192x128 .f32) (x2 : Vec F S1024x128 .bf16) (x3 : Vec F S1024x128 .bf16) (x4 : Vec F S1024x128 .f32) (x5 : Vec F S1x2x8192 .f32) (x6 : Vec F S1x2x8192 .f32) (x7 : Vec F S1x2x8192 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)) -∗ K ⟨⟩))
      ⊢ wp frame (wpE (defs₀ (F := F)) Variants.none c none) E (cc0_attn_bwd i arg2 harg2 arg3 harg3 arg4 harg4 arg5 harg5 arg6 harg6 arg7 harg7 arg8 harg8 arg9 harg9 arg10 harg10 arg11 harg11 arg12 harg12 arg13 harg13) K := by
  simp only [cc0_attn_bwd_eq_skeleton]; unfold cc0_attn_bwd_skel
  simp only [k0_part3_eq_skeleton, k0_part4_eq_skeleton, k0_part5_eq_skeleton, k0_part6_eq_skeleton, k0_part7_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
  sl_exec (disch := first | sl_exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _, _; isplitr; swap; · iexact H8
    ipureintro; rfl
  isplitl [H9]
  · iexists _, _; isplitr; swap; · iexact H9
    ipureintro; rfl
  isplitl [H10]
  · iexists _, _; isplitr; swap; · iexact H10
    ipureintro; rfl
  iexists _, _; isplitr; swap; · iexact H11
  ipureintro; rfl

end Cert.Kernel.Attn

end
-- ==== Proof.Bits.lean ====
/- The program at float words: it ends, its arguments unchanged. -/
module

public import proofs.«01_k».proof.Proof.BitsB
public import Idealize.ShloMosaic.Lib.Claim

@[expose] public section

set_option maxRecDepth 16384

noncomputable section

namespace Cert.Kernel.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first point of a pair is the one with key block 0. -/
theorem isFirst_iff : ∀ t : Fin cfg0.N, isFirst (grid0.coords t) ↔ t.val % 8 = 0 :=
  (fun t => by
    have ht : t.val < 32 := Nat.lt_of_lt_of_eq t.isLt N_0
    have e0 : (grid0.coords t 0).val = t.val / 8 % 4 := Pipeline.Grid.coords_val t 0 (by decide) rfl
    have e1 : (grid0.coords t 1).val = t.val / 1 % 8 := Pipeline.Grid.coords_val t 1 (by decide) rfl
    simp only [isFirst, e0, e1]
    word_cmp
   : ∀ t : Fin grid0.N, isFirst (grid0.coords t) ↔ t.val % 8 = 0)

/-- The staging buffer of window 0 at point `t`. -/
abbrev buf0 (t : Fin cfg0.N) : Memref sig .tc .vmem S8192x128 .bf16 := win0_0.stage (cfg0.slots t 0)
/-- The staging buffer of window 1 at point `t`. -/
abbrev buf1 (t : Fin cfg0.N) : Memref sig .tc .vmem S8192x128 .f32 := win0_1.stage (cfg0.slots t 1)
/-- The staging buffer of window 2 at point `t`. -/
abbrev buf2 (t : Fin cfg0.N) : Memref sig .tc .vmem S1024x128 .bf16 := win0_2.stage (cfg0.slots t 2)
/-- The staging buffer of window 3 at point `t`. -/
abbrev buf3 (t : Fin cfg0.N) : Memref sig .tc .vmem S1024x128 .bf16 := win0_3.stage (cfg0.slots t 3)
/-- The staging buffer of window 4 at point `t`. -/
abbrev buf4 (t : Fin cfg0.N) : Memref sig .tc .vmem S1024x128 .f32 := win0_4.stage (cfg0.slots t 4)
/-- The staging buffer of window 5 at point `t`. -/
abbrev buf5 (t : Fin cfg0.N) : Memref sig .tc .vmem S1x2x8192 .f32 := win0_5.stage (cfg0.slots t 5)
/-- The staging buffer of window 6 at point `t`. -/
abbrev buf6 (t : Fin cfg0.N) : Memref sig .tc .vmem S1x2x8192 .f32 := win0_6.stage (cfg0.slots t 6)
/-- The staging buffer of window 7 at point `t`. -/
abbrev buf7 (t : Fin cfg0.N) : Memref sig .tc .vmem S1x2x8192 .f32 := win0_7.stage (cfg0.slots t 7)
/-- The staging buffer of window 8 at point `t`. -/
abbrev buf8 (t : Fin cfg0.N) : Memref sig .tc .vmem S128x8192 .f32 := win0_8.stage (cfg0.slots t 8)
/-- The staging buffer of window 9 at point `t`. -/
abbrev buf9 (t : Fin cfg0.N) : Memref sig .tc .vmem S1024x128 .bf16 := win0_9.stage (cfg0.slots t 9)
/-- The staging buffer of window 10 at point `t`. -/
abbrev buf10 (t : Fin cfg0.N) : Memref sig .tc .vmem S1024x128 .bf16 := win0_10.stage (cfg0.slots t 10)
/-- The staging buffer of window 11 at point `t`. -/
abbrev buf11 (t : Fin cfg0.N) : Memref sig .tc .vmem S1024x128 .f32 := win0_11.stage (cfg0.slots t 11)

/-- The outputs, of which nothing is stated. -/
def outs : Fin 12 → Bool := fun w => decide (8 ≤ w.val)

/-- What each window's buffer holds after the body at each point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, h⟩ => Pipeline.Dat.unnamed (cfg := cfg0) ⟨8, h⟩ t
    | ⟨9, h⟩ => Pipeline.Dat.unnamed (cfg := cfg0) ⟨9, h⟩ t
    | ⟨10, h⟩ => Pipeline.Dat.unnamed (cfg := cfg0) ⟨10, h⟩ t
    | ⟨11, h⟩ => Pipeline.Dat.unnamed (cfg := cfg0) ⟨11, h⟩ t
  Φ _ := Pipeline.ΦA spec0 c
  q w := Pipeline.shareOf spec0 w
  owed _ := 0

/-- The arrays are what the host operations left. -/
theorem dats_A (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]

theorem before_0 (c : Dev nD) (t : Fin cfg0.N) (d) : (dats m 0 c).before 0 t d = iblk m c 0 t :=
  before0_0_of m (dats m 0 c) (dats_A m c 0) (after_0 m c) t d
theorem before_1 (c : Dev nD) (t : Fin cfg0.N) (d) : (dats m 0 c).before 1 t d = iblk m c 1 t :=
  before0_1_of m (dats m 0 c) (dats_A m c 1) (after_1 m c) t d
theorem before_2 (c : Dev nD) (t : Fin cfg0.N) (d) : (dats m 0 c).before 2 t d = iblk m c 2 t :=
  before0_2_of m (dats m 0 c) (dats_A m c 2) (after_2 m c) t d
theorem before_3 (c : Dev nD) (t : Fin cfg0.N) (d) : (dats m 0 c).before 3 t d = iblk m c 3 t :=
  before0_3_of m (dats m 0 c) (dats_A m c 3) (after_3 m c) t d
theorem before_4 (c : Dev nD) (t : Fin cfg0.N) (d) : (dats m 0 c).before 4 t d = iblk m c 4 t :=
  before0_4_of m (dats m 0 c) (dats_A m c 4) (after_4 m c) t d
theorem before_5 (c : Dev nD) (t : Fin cfg0.N) (d) : (dats m 0 c).before 5 t d = iblk m c 5 t :=
  before0_5_of m (dats m 0 c) (dats_A m c 5) (after_5 m c) t d
theorem before_6 (c : Dev nD) (t : Fin cfg0.N) (d) : (dats m 0 c).before 6 t d = iblk m c 6 t :=
  before0_6_of m (dats m 0 c) (dats_A m c 6) (after_6 m c) t d
theorem before_7 (c : Dev nD) (t : Fin cfg0.N) (d) : (dats m 0 c).before 7 t d = iblk m c 7 t :=
  before0_7_of m (dats m 0 c) (dats_A m c 7) (after_7 m c) t d

/-- What the body is given at point `t`. -/
def given (c : Dev nD) (t : Fin cfg0.N) : sProp 𝕄 :=
  iprop((dats m 0 c).Φ t.castSucc ∗ (dats m 0 c).owesAt () t.castSucc
    ∗ (∃ d, owns (c : Thread nD τ) (buf0 t) fullShare ((dats m 0 c).before 0 t d))
    ∗ (∃ d, owns (c : Thread nD τ) (buf1 t) fullShare ((dats m 0 c).before 1 t d))
    ∗ (∃ d, owns (c : Thread nD τ) (buf2 t) fullShare ((dats m 0 c).before 2 t d))
    ∗ (∃ d, owns (c : Thread nD τ) (buf3 t) fullShare ((dats m 0 c).before 3 t d))
    ∗ (∃ d, owns (c : Thread nD τ) (buf4 t) fullShare ((dats m 0 c).before 4 t d))
    ∗ (∃ d, owns (c : Thread nD τ) (buf5 t) fullShare ((dats m 0 c).before 5 t d))
    ∗ (∃ d, owns (c : Thread nD τ) (buf6 t) fullShare ((dats m 0 c).before 6 t d))
    ∗ (∃ d, owns (c : Thread nD τ) (buf7 t) fullShare ((dats m 0 c).before 7 t d))
    ∗ (∃ d, owns (c : Thread nD τ) (buf8 t) fullShare d)
    ∗ (∃ d, owns (c : Thread nD τ) (buf9 t) fullShare d)
    ∗ (∃ d, owns (c : Thread nD τ) (buf10 t) fullShare d)
    ∗ (∃ d, owns (c : Thread nD τ) (buf11 t) fullShare d))

/-- What the body hands back at point `t`. -/
def handed (c : Dev nD) (t : Fin cfg0.N) : sProp 𝕄 :=
  iprop((dats m 0 c).Φ t.succ ∗ (dats m 0 c).owesAt () t.succ
    ∗ owns (c : Thread nD τ) (buf0 t) fullShare ((dats m 0 c).after 0 t)
    ∗ owns (c : Thread nD τ) (buf1 t) fullShare ((dats m 0 c).after 1 t)
    ∗ owns (c : Thread nD τ) (buf2 t) fullShare ((dats m 0 c).after 2 t)
    ∗ owns (c : Thread nD τ) (buf3 t) fullShare ((dats m 0 c).after 3 t)
    ∗ owns (c : Thread nD τ) (buf4 t) fullShare ((dats m 0 c).after 4 t)
    ∗ owns (c : Thread nD τ) (buf5 t) fullShare ((dats m 0 c).after 5 t)
    ∗ owns (c : Thread nD τ) (buf6 t) fullShare ((dats m 0 c).after 6 t)
    ∗ owns (c : Thread nD τ) (buf7 t) fullShare ((dats m 0 c).after 7 t)
    ∗ (∃ d, owns (c : Thread nD τ) (buf8 t) fullShare d)
    ∗ (∃ d, owns (c : Thread nD τ) (buf9 t) fullShare d)
    ∗ (∃ d, owns (c : Thread nD τ) (buf10 t) fullShare d)
    ∗ (∃ d, owns (c : Thread nD τ) (buf11 t) fullShare d))

set_option maxHeartbeats 2400000 in
/-- The body at any point. -/
theorem body_at (c : Dev nD) (t : Fin cfg0.N) :
    given m c t ⊢ wp frame (wpE (defs₀ (F := F)) Variants.none c none) Set.univ (bodyAt0 t) (fun _ => handed m c t) := by
  unfold given handed bodyAt0
  simp only [before_0, before_1, before_2, before_3, before_4, before_5, before_6, before_7]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7]
  by_cases h0 : t.val % 8 = 0
  · iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply (runA c (grid0.coords t) _ _ _ _ _ _ _ _ _ _ _ _ _ _ _ _ _ _ _ _ _ _ _ _ ((isFirst_iff t).mpr h0) (iblk m c 0 t) (iblk m c 1 t) (iblk m c 2 t) (iblk m c 3 t) (iblk m c 4 t) (iblk m c 5 t) (iblk m c 6 t) (iblk m c 7 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    isplitl [H11]; · iexists _; iexact H11
    iintro ⟨H0, H1, H2, H3, H4, H5, H6, H7, H8, H9, H10, H11⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  · iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply (runB c (grid0.coords t) _ _ _ _ _ _ _ _ _ _ _ _ _ _ _ _ _ _ _ _ _ _ _ _ (fun h => h0 ((isFirst_iff t).mp h)) (iblk m c 0 t) (iblk m c 1 t) (iblk m c 2 t) (iblk m c 3 t) (iblk m c 4 t) (iblk m c 5 t) (iblk m c 6 t) (iblk m c 7 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    isplitl [H11]; · iexists _; iexact H11
    iintro ⟨H0, H1, H2, H3, H4, H5, H6, H7, H8, H9, H10, H11⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11

/-- The pipeline's body is the printed kernel at the point's buffers. -/
theorem body_row (t : Fin cfg0.N) :
    defs₀ (F := F) .tc cfg0.body (cfg0.bodyArgs t (cfg0.slots t)) = bodyAt0 t := by
  unfold defs₀; rw [Defs.onTc_tc]

theorem body_ok (c : Dev nD) : BodyObligation (dats (F := F) m 0 c) (defs₀ (F := F)) Variants.none () Set.univ outs := fun t => by
  rw [bigSep_W0, bigSep_W0, body_row]
  exact triple_restated (body_at m c t) rfl .rfl fun _ => .rfl

set_option backward.isDefEq.respectTransparency.types false in
/-- The program from any memory with no counter raised: it ends, with the pipeline's arrays as stated and no counter raised. -/
theorem launched : θ_run defs (onTc (τ := τ) (main (F := F))) (s₀ m ρ)
    (fun r => Pipeline.RDat.FramePost (cfgs 0) (fun c => (dats m 0 c).toRForget outs) (V m) r ∧ r.2.sem = fun _ => 0) :=
  Pipeline.θ_run_frame_forget_shared (Q' := _) cfgs (dats m) (0 : Fin 1) launch₀0 defs₀ Variants.none outs m ρ main
    (hbody := fun c => (body_ok m c).loose) (hq := fun _ _ _ => rfl)
    (howed := fun _ _ => rfl) (V := V m) (hmain := hmain m Variants.none) (hA := dats_A m) (hΦ := fun _ _ => rfl)

/-- The program ends with its arguments unchanged and no counter raised. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c)⟩, h.2⟩)
    (launched m ρ)

end Cert.Kernel.Attn

end
-- ==== Proof.Body.lean ====
/- What one grid point of the attention gradient computes, as plain functions of the vectors it loads: the tile of queries on the diagonal,
   then one tile after another below it, and the counted loop shown to be that recursion. -/
module

public import proofs.«01_k».proof.Proof.Gen.KernelIdeal.Skeleton
public import proofs.«01_k».proof.Proof.Gen.KernelIdeal.Loops
public import Idealize.ShloMosaic.Lib.VecWindow
public import Idealize.ShloMosaic.Lib.Pointwise

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F] [Named F]

/-! ## The parts of the arrays a tile reads and writes -/

section Parts
variable {α : Type}

/-- Row `r` of tile `n`, of the 8192. -/
def at8 (n : Fin 8) (r : Fin 1024) : Fin 8192 := ⟨n.val * 1024 + r.val, by have := n.isLt; have := r.isLt; omega⟩

/-- The rows of tile `n` of a column block. -/
def rows (x : S8192x128.Idx → α) (n : Fin 8) : S1024x128.Idx → α := fun y => x (ix2 (at8 n (y 0)) (y 1))

/-- Head `a`'s entries of tile `n` of a pair of rows. -/
def lrow (x : S1x2x8192.Idx → α) (a : Fin 2) (n : Fin 8) : S1x1x1024.Idx → α := fun y => x (ix3 0 a (at8 n (y 2)))

/-- The columns of tile `n`. -/
def cols (x : S128x8192.Idx → α) (n : Fin 8) : S128x1024.Idx → α := fun y => x (ix2 (y 0) (at8 n (y 1)))

/-- `x` with `w` as the columns of tile `n`. -/
def putCols (x : S128x8192.Idx → α) (n : Fin 8) (w : S128x1024.Idx → α) : S128x8192.Idx → α :=
  fun y => if (y 1).val / 1024 = n.val then w (ix2 (y 0) ⟨(y 1).val % 1024, Nat.mod_lt _ (by omega)⟩) else x y

theorem window_rows (x : S8192x128.Idx → α) (off : Fin 2 → ℕ) (inb : ∀ a, off a + S1024x128.size a ≤ S8192x128.size a) (n : Fin 8)
    (h0 : off 0 = n.val * 1024) (h1 : off 1 = 0) : VecWindow.window x off S1024x128.size inb = rows x n := by
  funext y
  refine congrArg x (funext fun a => Fin.ext ?_)
  match a with
  | ⟨0, _⟩ => show off 0 + 1 * (y 0).val = n.val * 1024 + (y 0).val; omega
  | ⟨1, _⟩ => show off 1 + 1 * (y 1).val = (y 1).val; omega

theorem window_lrow (x : S1x2x8192.Idx → α) (off : Fin 3 → ℕ) (inb : ∀ a, off a + S1x1x1024.size a ≤ S1x2x8192.size a) (a : Fin 2) (n : Fin 8)
    (h0 : off 0 = 0) (h1 : off 1 = a.val) (h2 : off 2 = n.val * 1024) : VecWindow.window x off S1x1x1024.size inb = lrow x a n := by
  funext y
  refine congrArg x (funext fun b => Fin.ext ?_)
  match b with
  | ⟨0, _⟩ => have e : (y 0).val < 1 := (y 0).isLt; show off 0 + 1 * (y 0).val = 0; omega
  | ⟨1, _⟩ => have e : (y 1).val < 1 := (y 1).isLt; show off 1 + 1 * (y 1).val = a.val; omega
  | ⟨2, _⟩ => show off 2 + 1 * (y 2).val = n.val * 1024 + (y 2).val; omega

theorem window_cols (x : S128x8192.Idx → α) (off : Fin 2 → ℕ) (inb : ∀ a, off a + S128x1024.size a ≤ S128x8192.size a) (n : Fin 8)
    (h0 : off 0 = 0) (h1 : off 1 = n.val * 1024) : VecWindow.window x off S128x1024.size inb = cols x n := by
  funext y
  refine congrArg x (funext fun a => Fin.ext ?_)
  match a with
  | ⟨0, _⟩ => show off 0 + 1 * (y 0).val = (y 0).val; omega
  | ⟨1, _⟩ => show off 1 + 1 * (y 1).val = n.val * 1024 + (y 1).val; omega

theorem put_cols (x : S128x8192.Idx → α) (off : Fin 2 → ℕ) (w : S128x1024.Idx → α) (n : Fin 8)
    (h0 : off 0 = 0) (h1 : off 1 = n.val * 1024) : VecWindow.put x off S128x1024.size w = putCols x n w := by
  funext y
  have y0 : (y 0).val < 128 := (y 0).isLt
  by_cases h : (y 1).val / 1024 = n.val
  · have hm : ∀ a, off a ≤ (y a).val ∧ (y a).val < off a + S128x1024.size a := fun a => by
      match a with
      | ⟨0, _⟩ => show off 0 ≤ (y 0).val ∧ (y 0).val < off 0 + 128; omega
      | ⟨1, _⟩ => show off 1 ≤ (y 1).val ∧ (y 1).val < off 1 + 1024; omega
    have e1 : VecWindow.put x off S128x1024.size w y = w (Rect.unitLocal (s := S128x8192) (off := off) (size := S128x1024.size) y hm) := dif_pos hm
    have e2 : putCols x n w y = w (ix2 (y 0) ⟨(y 1).val % 1024, Nat.mod_lt _ (by omega)⟩) := if_pos h
    rw [e1, e2]
    refine congrArg w (funext fun a => Fin.ext ?_)
    match a with
    | ⟨0, _⟩ => show (y 0).val - off 0 = (y 0).val; omega
    | ⟨1, _⟩ => show (y 1).val - off 1 = (y 1).val % 1024; omega
  · have hm : ¬ ∀ a, off a ≤ (y a).val ∧ (y a).val < off a + S128x1024.size a := fun hall => by
      have := hall 1
      have e : S128x1024.size 1 = 1024 := rfl
      omega
    exact (dif_neg hm).trans (if_neg h).symm

end Parts

/-- The load's values, read off any contents. -/
theorem readAt_window {sig : RefSig} {κ : Kind} {sp : Space} {s : Shape} {e : EltTy} {Val : EltTy → Type} (v : View sig κ sp s e) (f : v.ty.Contents Val)
    {off size : Fin s.rank → ℕ} (inb : ∀ a, off a + size a ≤ s.size a) :
    v.readAt Val (Rect.unit off size inb).toLoadRect f = VecWindow.window (v.read Val f) off size inb := rfl

/-! ## Where the program's offsets lie -/

/-- The grid point's key tile. -/
def jOf (i : grid0.Coords) : Fin 8 := i 1

theorem off1_eq : ∀ i : grid0.Coords, k0_off1 i 0 = (jOf i).val * 1024 ∧ k0_off1 i 1 = 0 := by decide +kernel
theorem off2_eq : ∀ i : grid0.Coords, k0_off2 i 0 = 0 ∧ k0_off2 i 1 = 0 ∧ k0_off2 i 2 = (jOf i).val * 1024 := by decide +kernel
theorem off3_eq : ∀ i : grid0.Coords, k0_off3 i 0 = 0 ∧ k0_off3 i 1 = 1 ∧ k0_off3 i 2 = (jOf i).val * 1024 := by decide +kernel
theorem off4_eq : ∀ i : grid0.Coords, k0_off4 i 0 = 0 ∧ k0_off4 i 1 = (jOf i).val * 1024 := by decide +kernel
theorem trips1_eq : ∀ i : grid0.Coords, (k0_t1_loop i).trips = 7 - (jOf i).val := by decide +kernel
theorem trips2_eq : ∀ i : grid0.Coords, (k0_t2_loop i).trips = 0 := fun i => Nat.le_zero.mp (k0_t2_abs i).2.1

/-- The query tile of trip `k`: the tiles below the diagonal, in order. -/
def nOf (i : grid0.Coords) (k : Fin (k0_t1_loop i).trips) : Fin 8 :=
  ⟨(jOf i).val + 1 + k.val, by have := Nat.lt_of_lt_of_eq k.isLt (trips1_eq i); omega⟩

theorem off5_eq : ∀ (i : grid0.Coords) (k : Fin (k0_t1_loop i).trips), k0_off5 i k 0 = (nOf i k).val * 1024 ∧ k0_off5 i k 1 = 0 := by decide +kernel
theorem off6_eq : ∀ (i : grid0.Coords) (k : Fin (k0_t1_loop i).trips), k0_off6 i k 0 = 0 ∧ k0_off6 i k 1 = 0 ∧ k0_off6 i k 2 = (nOf i k).val * 1024 := by decide +kernel
theorem off7_eq : ∀ (i : grid0.Coords) (k : Fin (k0_t1_loop i).trips), k0_off7 i k 0 = 0 ∧ k0_off7 i k 1 = 1 ∧ k0_off7 i k 2 = (nOf i k).val * 1024 := by decide +kernel
theorem off8_eq : ∀ (i : grid0.Coords) (k : Fin (k0_t1_loop i).trips), k0_off8 i k 0 = 0 ∧ k0_off8 i k 1 = (nOf i k).val * 1024 := by decide +kernel

section Loads
variable {sig' : RefSig} {κ : Kind} {sp : Space} {Val : EltTy → Type} {e : EltTy}

theorem ld1 (v : View sig' κ sp S8192x128 e) (f : v.ty.Contents Val) (i : grid0.Coords) (inb : ∀ a, k0_off1 i a + (![1024, 128] : Fin 2 → ℕ) a ≤ S8192x128.size a) :
    v.readAt Val (Rect.unit (s := S8192x128) (k0_off1 i) ![1024, 128] inb).toLoadRect f = rows (v.read Val f) (jOf i) :=
  (readAt_window v f inb).trans (window_rows _ _ _ _ (off1_eq i).1 (off1_eq i).2)
theorem ld2 (v : View sig' κ sp S1x2x8192 e) (f : v.ty.Contents Val) (i : grid0.Coords) (inb : ∀ a, k0_off2 i a + (![1, 1, 1024] : Fin 3 → ℕ) a ≤ S1x2x8192.size a) :
    v.readAt Val (Rect.unit (s := S1x2x8192) (k0_off2 i) ![1, 1, 1024] inb).toLoadRect f = lrow (v.read Val f) 0 (jOf i) :=
  (readAt_window v f inb).trans (window_lrow _ _ _ 0 _ (off2_eq i).1 (off2_eq i).2.1 (off2_eq i).2.2)
theorem ld3 (v : View sig' κ sp S1x2x8192 e) (f : v.ty.Contents Val) (i : grid0.Coords) (inb : ∀ a, k0_off3 i a + (![1, 1, 1024] : Fin 3 → ℕ) a ≤ S1x2x8192.size a) :
    v.readAt Val (Rect.unit (s := S1x2x8192) (k0_off3 i) ![1, 1, 1024] inb).toLoadRect f = lrow (v.read Val f) 1 (jOf i) :=
  (readAt_window v f inb).trans (window_lrow _ _ _ 1 _ (off3_eq i).1 (off3_eq i).2.1 (off3_eq i).2.2)
theorem ld4 (v : View sig' κ sp S128x8192 e) (f : v.ty.Contents Val) (i : grid0.Coords) (inb : ∀ a, k0_off4 i a + (![128, 1024] : Fin 2 → ℕ) a ≤ S128x8192.size a) :
    v.readAt Val (Rect.unit (s := S128x8192) (k0_off4 i) ![128, 1024] inb).toLoadRect f = cols (v.read Val f) (jOf i) :=
  (readAt_window v f inb).trans (window_cols _ _ _ _ (off4_eq i).1 (off4_eq i).2)
theorem ld5 (v : View sig' κ sp S8192x128 e) (f : v.ty.Contents Val) (i : grid0.Coords) (k) (inb : ∀ a, k0_off5 i k a + (![1024, 128] : Fin 2 → ℕ) a ≤ S8192x128.size a) :
    v.readAt Val (Rect.unit (s := S8192x128) (k0_off5 i k) ![1024, 128] inb).toLoadRect f = rows (v.read Val f) (nOf i k) :=
  (readAt_window v f inb).trans (window_rows _ _ _ _ (off5_eq i k).1 (off5_eq i k).2)
theorem ld6 (v : View sig' κ sp S1x2x8192 e) (f : v.ty.Contents Val) (i : grid0.Coords) (k) (inb : ∀ a, k0_off6 i k a + (![1, 1, 1024] : Fin 3 → ℕ) a ≤ S1x2x8192.size a) :
    v.readAt Val (Rect.unit (s := S1x2x8192) (k0_off6 i k) ![1, 1, 1024] inb).toLoadRect f = lrow (v.read Val f) 0 (nOf i k) :=
  (readAt_window v f inb).trans (window_lrow _ _ _ 0 _ (off6_eq i k).1 (off6_eq i k).2.1 (off6_eq i k).2.2)
theorem ld7 (v : View sig' κ sp S1x2x8192 e) (f : v.ty.Contents Val) (i : grid0.Coords) (k) (inb : ∀ a, k0_off7 i k a + (![1, 1, 1024] : Fin 3 → ℕ) a ≤ S1x2x8192.size a) :
    v.readAt Val (Rect.unit (s := S1x2x8192) (k0_off7 i k) ![1, 1, 1024] inb).toLoadRect f = lrow (v.read Val f) 1 (nOf i k) :=
  (readAt_window v f inb).trans (window_lrow _ _ _ 1 _ (off7_eq i k).1 (off7_eq i k).2.1 (off7_eq i k).2.2)
theorem ld8 (v : View sig' κ sp S128x8192 e) (f : v.ty.Contents Val) (i : grid0.Coords) (k) (inb : ∀ a, k0_off8 i k a + (![128, 1024] : Fin 2 → ℕ) a ≤ S128x8192.size a) :
    v.readAt Val (Rect.unit (s := S128x8192) (k0_off8 i k) ![128, 1024] inb).toLoadRect f = cols (v.read Val f) (nOf i k) :=
  (readAt_window v f inb).trans (window_cols _ _ _ _ (off8_eq i k).1 (off8_eq i k).2)

/-- The store into tile `n`'s columns, read back. -/
theorem st8 (v : View sig' κ sp S128x8192 e) (f : v.ty.Contents Val) (i : grid0.Coords) (k) (inb : ∀ a, k0_off8 i k a + (![128, 1024] : Fin 2 → ℕ) a ≤ S128x8192.size a)
    (w : S128x1024.Idx → Val e) (L : List (View.Piece Val S128x8192 e)) :
    v.read Val (v.writes Val f (⟨Rect.unit (s := S128x8192) (k0_off8 i k) ![128, 1024] inb, w⟩ :: L)) = putCols (v.read Val (v.writes Val f L)) (nOf i k) w :=
  (View.read_writes_cons_put v f inb w L rfl).trans (put_cols _ _ _ _ (off8_eq i k).1 (off8_eq i k).2)
theorem st4 (v : View sig' κ sp S128x8192 e) (f : v.ty.Contents Val) (i : grid0.Coords) (inb : ∀ a, k0_off4 i a + (![128, 1024] : Fin 2 → ℕ) a ≤ S128x8192.size a)
    (w : S128x1024.Idx → Val e) (L : List (View.Piece Val S128x8192 e)) :
    v.read Val (v.writes Val f (⟨Rect.unit (s := S128x8192) (k0_off4 i) ![128, 1024] inb, w⟩ :: L)) = putCols (v.read Val (v.writes Val f L)) (jOf i) w :=
  (View.read_writes_cons_put v f inb w L rfl).trans (put_cols _ _ _ _ (off4_eq i).1 (off4_eq i).2)

/-- Loads of whole buffers. -/
theorem ldw (v : View sig' κ sp S1024x128 e) (f : v.ty.Contents Val) (inb : ∀ a, (![0, 0] : Fin 2 → ℕ) a + (![1024, 128] : Fin 2 → ℕ) a ≤ S1024x128.size a) :
    v.readAt Val (Rect.unit (s := S1024x128) ![0, 0] ![1024, 128] inb).toLoadRect f = v.read Val f := View.readAt_full v f inb

/-- Stores of whole buffers, read back. -/
theorem stw [∀ e, Nonempty (Val e)] (v : View sig' κ sp S1024x128 e) (f : v.ty.Contents Val) (inb : ∀ a, (![0, 0] : Fin 2 → ℕ) a + (![1024, 128] : Fin 2 → ℕ) a ≤ S1024x128.size a)
    (w : S1024x128.Idx → Val e) (L : List (View.Piece Val S1024x128 e)) :
    v.read Val (v.writes Val f (⟨Rect.unit (s := S1024x128) ![0, 0] ![1024, 128] inb, w⟩ :: L)) = w := View.read_writes_full v f inb w L
theorem stwq [∀ e, Nonempty (Val e)] (v : View sig' κ sp S128x8192 e) (f : v.ty.Contents Val) (inb : ∀ a, (![0, 0] : Fin 2 → ℕ) a + (![128, 8192] : Fin 2 → ℕ) a ≤ S128x8192.size a)
    (w : S128x8192.Idx → Val e) (L : List (View.Piece Val S128x8192 e)) :
    v.read Val (v.writes Val f (⟨Rect.unit (s := S128x8192) ![0, 0] ![128, 8192] inb, w⟩ :: L)) = w := View.read_writes_full v f inb w L

end Loads

/-- The condition of the body's branch, from the grid coordinates: the point is the first of its pair. -/
abbrev isFirst (i : grid0.Coords) : Prop := (Scalar.cmpi .ne (Scalar.extui (Scalar.cmpi .eq (BitVec.ofNat 32 (i 1).val) 0#32)) 0#32) = 1#1

/-! ## The recursion over the tiles -/

/-- The sums carried down the tiles: of each of the pair's two heads the gradient of k, that of v, and the column sums. -/
abbrev Acc (F : FTy → Type) := FVec F S1024x128 .f32 × FVec F S1024x128 .f32 × FVec F S1024x1 .f32 × FVec F S1024x128 .f32 × FVec F S1024x128 .f32 × FVec F S1024x1 .f32

/-- The carried sums after one more tile below the diagonal. -/
def stepAcc (v70 v74 v78 v80 : FVec F S1024x128 .bf16) (v88 v96 : FVec F S1024x1 .f32) (q : Vec F S8192x128 .bf16) (d : Vec F S8192x128 .f32) (fr ls dl : Vec F S1x2x8192 .f32)
    (n : Fin 8) (acc : Acc F) : Acc F :=
  (k0_pay8 v70 v78 v88 acc.1 (rows q n) (rows d n) (lrow fr 0 n) (lrow ls 0 n) (lrow dl 0 n),
   k0_pay7 v70 v88 acc.2.1 (rows q n) (rows d n) (lrow fr 0 n) (lrow ls 0 n),
   k0_pay6 v70 v78 v88 acc.2.2.1 (rows q n) (rows d n) (lrow fr 0 n) (lrow ls 0 n) (lrow dl 0 n),
   k0_pay63 v80 v96 acc.2.2.2.1 (k0_pay1 (rows q n)) (k0_pay2 (rows d n)) (k0_pay10 v74 (rows q n)) (lrow fr 1 n) (lrow ls 1 n) (lrow dl 1 n),
   k0_pay62 v96 acc.2.2.2.2.1 (k0_pay2 (rows d n)) (k0_pay10 v74 (rows q n)) (lrow fr 1 n) (lrow ls 1 n),
   k0_pay61 v80 v96 acc.2.2.2.2.2 (k0_pay2 (rows d n)) (k0_pay10 v74 (rows q n)) (lrow fr 1 n) (lrow ls 1 n) (lrow dl 1 n))

/-- The gradient of q after one more tile below the diagonal. -/
def stepDq (v70 v74 : FVec F S1024x128 .bf16) (v75 v76 : FVec F S128x1024 .bf16) (v78 v80 : FVec F S1024x128 .bf16) (v88 v96 : FVec F S1024x1 .f32)
    (q : Vec F S8192x128 .bf16) (d : Vec F S8192x128 .f32) (fr ls dl : Vec F S1x2x8192 .f32) (n : Fin 8) (D : Vec F S128x8192 .f32) : Vec F S128x8192 .f32 :=
  putCols D n (k0_pay64 v76 v80 v96 (k0_pay2 (rows d n)) (k0_pay9 v70 v75 v78 v88 (rows q n) (rows d n) (lrow fr 0 n) (lrow ls 0 n) (lrow dl 0 n))
    (k0_pay10 v74 (rows q n)) (lrow fr 1 n) (lrow ls 1 n) (lrow dl 1 n) (cols D n))

/-- The carried sums after `k` tiles below tile `j`. -/
def accs (v70 v74 v78 v80 : FVec F S1024x128 .bf16) (v88 v96 : FVec F S1024x1 .f32) (q : Vec F S8192x128 .bf16) (d : Vec F S8192x128 .f32) (fr ls dl : Vec F S1x2x8192 .f32)
    (j : Fin 8) (init : Acc F) : ℕ → Acc F
  | 0 => init
  | k + 1 => if h : j.val + 1 + k < 8 then stepAcc v70 v74 v78 v80 v88 v96 q d fr ls dl ⟨j.val + 1 + k, h⟩ (accs v70 v74 v78 v80 v88 v96 q d fr ls dl j init k)
      else accs v70 v74 v78 v80 v88 v96 q d fr ls dl j init k

/-- The gradient of q after `k` tiles below tile `j`. -/
def dqs (v70 v74 : FVec F S1024x128 .bf16) (v75 v76 : FVec F S128x1024 .bf16) (v78 v80 : FVec F S1024x128 .bf16) (v88 v96 : FVec F S1024x1 .f32)
    (q : Vec F S8192x128 .bf16) (d : Vec F S8192x128 .f32) (fr ls dl : Vec F S1x2x8192 .f32) (j : Fin 8) (D : Vec F S128x8192 .f32) : ℕ → Vec F S128x8192 .f32
  | 0 => D
  | k + 1 => if h : j.val + 1 + k < 8 then stepDq v70 v74 v75 v76 v78 v80 v88 v96 q d fr ls dl ⟨j.val + 1 + k, h⟩ (dqs v70 v74 v75 v76 v78 v80 v88 v96 q d fr ls dl j D k)
      else dqs v70 v74 v75 v76 v78 v80 v88 v96 q d fr ls dl j D k

theorem accs_succ (v70 v74 v78 v80 : FVec F S1024x128 .bf16) (v88 v96 : FVec F S1024x1 .f32) (q : Vec F S8192x128 .bf16) (d : Vec F S8192x128 .f32) (fr ls dl : Vec F S1x2x8192 .f32)
    (j : Fin 8) (init : Acc F) (k : ℕ) (h : j.val + 1 + k < 8) :
    accs v70 v74 v78 v80 v88 v96 q d fr ls dl j init (k + 1) = stepAcc v70 v74 v78 v80 v88 v96 q d fr ls dl ⟨j.val + 1 + k, h⟩ (accs v70 v74 v78 v80 v88 v96 q d fr ls dl j init k) := by rw [accs, dif_pos h]

theorem dqs_succ (v70 v74 : FVec F S1024x128 .bf16) (v75 v76 : FVec F S128x1024 .bf16) (v78 v80 : FVec F S1024x128 .bf16) (v88 v96 : FVec F S1024x1 .f32) (q : Vec F S8192x128 .bf16) (d : Vec F S8192x128 .f32) (fr ls dl : Vec F S1x2x8192 .f32)
    (j : Fin 8) (D : Vec F S128x8192 .f32) (k : ℕ) (h : j.val + 1 + k < 8) :
    dqs v70 v74 v75 v76 v78 v80 v88 v96 q d fr ls dl j D (k + 1) = stepDq v70 v74 v75 v76 v78 v80 v88 v96 q d fr ls dl ⟨j.val + 1 + k, h⟩ (dqs v70 v74 v75 v76 v78 v80 v88 v96 q d fr ls dl j D k) := by rw [dqs, dif_pos h]

/-! ## A grid point's outputs -/

section Point
variable (i : grid0.Coords) (x0 : Vec F S8192x128 .bf16) (x1 : Vec F S8192x128 .f32) (x2 x3 : Vec F S1024x128 .bf16) (x4 : Vec F S1024x128 .f32) (x5 x6 x7 : Vec F S1x2x8192 .f32)

/-- Head 0's keys, scaled; head 1's; the two transposed; the two heads' values; the two heads' running sums. -/
def w70 : FVec F S1024x128 .bf16 := k0_pay28 (k0_pay22 x2) k0_pay26
def w74 : FVec F S1024x128 .bf16 := k0_pay29 (k0_pay22 x2) (iota .tc S1024x128 32 [1] iota_S1024x128_d1_w32)
def w75 : FVec F S128x1024 .bf16 := k0_pay30 (k0_pay22 x2) k0_pay26
def w76 : FVec F S128x1024 .bf16 := k0_pay31 (k0_pay22 x2) (iota .tc S1024x128 32 [1] iota_S1024x128_d1_w32)
def w78 : FVec F S1024x128 .bf16 := k0_pay32 (k0_pay23 x3) k0_pay26
def w80 : FVec F S1024x128 .bf16 := k0_pay33 (k0_pay23 x3) (iota .tc S1024x128 32 [1] iota_S1024x128_d1_w32)
def w88 : FVec F S1024x1 .f32 := k0_pay35 (k0_pay24 x4) (k0_pay34 (BitVec.ofNat 32 (i 0).val) (iota .tc S1024x128 32 [1] iota_S1024x128_d1_w32))
def w96 : FVec F S1024x1 .f32 := k0_pay36 (BitVec.ofNat 32 (i 0).val) (k0_pay24 x4) (iota .tc S1024x128 32 [1] iota_S1024x128_d1_w32)

/-- Head 0's weights on the diagonal tile. -/
def w124 : FVec F S1024x1024 .f32 :=
  k0_pay42 (k0_pay24 x4) k0_pay25 (w70 x2) (k0_pay34 (BitVec.ofNat 32 (i 0).val) (iota .tc S1024x128 32 [1] iota_S1024x128_d1_w32)) (rows x0 (jOf i)) (lrow x5 0 (jOf i)) (lrow x6 0 (jOf i))
/-- Head 0's value products on the diagonal tile. -/
def w125 : FVec F S1024x1024 .f32 := k0_pay43 (w78 x3) (rows x1 (jOf i))
/-- Head 1's score gradient on the diagonal tile, and its weights. -/
def w165 : FVec F S1024x1024 .bf16 :=
  k0_pay52 k0_pay25 (w74 x2) (w80 x3) (w96 i x4) (k0_pay40 (rows x0 (jOf i))) (k0_pay41 (rows x1 (jOf i))) (lrow x5 1 (jOf i)) (lrow x6 1 (jOf i)) (lrow x7 1 (jOf i))
def w169 : FVec F S1024x1024 .bf16 :=
  k0_pay54 k0_pay25 (w74 x2) (w96 i x4) (k0_pay40 (rows x0 (jOf i))) (lrow x5 1 (jOf i)) (lrow x6 1 (jOf i))

/-- The sums after the diagonal tile. -/
def acc0 : Acc F :=
  (k0_pay48 k0_pay37 (k0_pay40 (rows x0 (jOf i))) (w124 i x0 x2 x4 x5 x6) (w125 i x1 x3) (lrow x7 0 (jOf i)),
   k0_pay47 k0_pay38 (k0_pay41 (rows x1 (jOf i))) (w124 i x0 x2 x4 x5 x6),
   k0_pay46 k0_pay39 (w124 i x0 x2 x4 x5 x6) (w125 i x1 x3) (lrow x7 0 (jOf i)),
   k0_pay56 k0_pay37 (k0_pay40 (rows x0 (jOf i))) (w165 i x0 x1 x2 x3 x4 x5 x6 x7),
   k0_pay55 k0_pay38 (k0_pay41 (rows x1 (jOf i))) (w169 i x0 x2 x4 x5 x6),
   k0_pay53 k0_pay25 (w74 x2) (w80 x3) (w96 i x4) k0_pay39 (k0_pay40 (rows x0 (jOf i))) (k0_pay41 (rows x1 (jOf i))) (lrow x5 1 (jOf i)) (lrow x6 1 (jOf i)) (lrow x7 1 (jOf i)))

/-- The gradient of q after the diagonal tile, from what it held before. -/
def dq0 (D : Vec F S128x8192 .f32) : Vec F S128x8192 .f32 :=
  putCols D (jOf i) (k0_pay57 (w76 x2) (k0_pay49 (w75 x2) (w124 i x0 x2 x4 x5 x6) (w125 i x1 x3) (lrow x7 0 (jOf i))) (w165 i x0 x1 x2 x3 x4 x5 x6 x7) (cols D (jOf i)))

/-- The sums after every tile. -/
def accEnd : Acc F :=
  accs (w70 x2) (w74 x2) (w78 x3) (w80 x3) (w88 i x4) (w96 i x4) x0 x1 x5 x6 x7 (jOf i) (acc0 i x0 x1 x2 x3 x4 x5 x6 x7) (7 - (jOf i).val)

/-- The four outputs. -/
def outDq (D : Vec F S128x8192 .f32) : Vec F S128x8192 .f32 :=
  dqs (w70 x2) (w74 x2) (w75 x2) (w76 x2) (w78 x3) (w80 x3) (w88 i x4) (w96 i x4) x0 x1 x5 x6 x7 (jOf i) (dq0 i x0 x1 x2 x3 x4 x5 x6 x7 D) (7 - (jOf i).val)
def outDk : Vec F S1024x128 .bf16 :=
  k0_pay73 (iota .tc S1024x128 32 [1] iota_S1024x128_d1_w32) (accEnd i x0 x1 x2 x3 x4 x5 x6 x7).1 (accEnd i x0 x1 x2 x3 x4 x5 x6 x7).2.2.2.1
def outDv : Vec F S1024x128 .bf16 :=
  k0_pay74 (iota .tc S1024x128 32 [1] iota_S1024x128_d1_w32) (accEnd i x0 x1 x2 x3 x4 x5 x6 x7).2.1 (accEnd i x0 x1 x2 x3 x4 x5 x6 x7).2.2.2.2.1
def outDf : Vec F S1024x128 .f32 :=
  k0_pay75 (iota .tc S1024x128 32 [1] iota_S1024x128_d1_w32) (accEnd i x0 x1 x2 x3 x4 x5 x6 x7).2.2.1 (accEnd i x0 x1 x2 x3 x4 x5 x6 x7).2.2.2.2.2

end Point

/-! ## The counted loop is the recursion -/

set_option maxHeartbeats 1000000 in
/-- What one trip yields. -/
theorem tripR_eq (𝒱 : Variants) (c : Dev nD) (bd : Option 𝒱.V) (i : grid0.Coords) (arg2 : Memref sig .tc .vmem S8192x128 .bf16) (harg2 : arg2.IsWhole) (arg3 : Memref sig .tc .vmem S8192x128 .f32) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S1024x128 .f32) (harg6 : arg6.IsWhole) (arg7 : Memref sig .tc .vmem S1x2x8192 .f32) (harg7 : arg7.IsWhole) (arg8 : Memref sig .tc .vmem S1x2x8192 .f32) (harg8 : arg8.IsWhole) (arg9 : Memref sig .tc .vmem S1x2x8192 .f32) (harg9 : arg9.IsWhole) (arg10 : Memref sig .tc .vmem S128x8192 .f32) (harg10 : arg10.IsWhole) (arg11 : Memref sig .tc .vmem S1024x128 .bf16) (harg11 : arg11.IsWhole) (arg12 : Memref sig .tc .vmem S1024x128 .bf16) (harg12 : arg12.IsWhole) (arg13 : Memref sig .tc .vmem S1024x128 .f32) (harg13 : arg13.IsWhole) (arg1 : BitVec 32) (v9 : IVec S1024x128 32) (v70 : FVec F S1024x128 .bf16) (v74 : FVec F S1024x128 .bf16) (v75 : FVec F S128x1024 .bf16) (v76 : FVec F S128x1024 .bf16) (v78 : FVec F S1024x128 .bf16) (v80 : FVec F S1024x128 .bf16) (v88 : FVec F S1024x1 .f32) (v96 : FVec F S1024x1 .f32) (v97 : FVec F S1024x128 .f32) (v98 : FVec F S1024x128 .f32) (v101 : BitVec 32) (v104 : FVec F S1024x128 .bf16) (v108 : FVec F S1024x128 .bf16) (v135 : FVec F S1024x1 .f32) (v138 : FVec F S1024x128 .f32) (v140 : FVec F S1024x128 .f32) (v141 : FVec F S128x1024 .f32) (v165 : FVec F S1024x1024 .bf16) (v168 : FVec F S1024x1 .f32) (v169 : FVec F S1024x1024 .bf16) (v182 : BitVec 32)  (q : Vec F S8192x128 .bf16) (d : Vec F S8192x128 .f32) (fr ls dl : Vec F S1x2x8192 .f32) (k : Fin (k0_t1_loop i).trips) (acc : Acc F) (g : BufTy.Contents (Elt F) arg10.view.ty) :
    tripR_k0_t1 (F := F) 𝒱 c bd i arg2 harg2 arg3 harg3 arg4 harg4 arg5 harg5 arg6 harg6 arg7 harg7 arg8 harg8 arg9 harg9 arg10 harg10 arg11 harg11 arg12 harg12 arg13 harg13 arg1 v9 v70 v74 v75 v76 v78 v80 v88 v96 v97 v98 v101 v104 v108 v135 v138 v140 v141 v165 v168 v169 v182 (harg2.unread q) (harg3.unread d) (harg7.unread fr) (harg8.unread ls) (harg9.unread dl) k acc g
      = stepAcc v70 v74 v78 v80 v88 v96 q d fr ls dl (nOf i k) acc := by
  unfold tripR_k0_t1 trip_k0_t1
  dsimp only
  sl_unfold_run_names
  simp only [ld5, ld6, ld7, harg2.read_unread, harg3.read_unread, harg7.read_unread, harg8.read_unread, harg9.read_unread]
  rfl

set_option maxHeartbeats 1000000 in
/-- What one trip leaves in the gradient of q. -/
theorem tripL_eq (𝒱 : Variants) (c : Dev nD) (bd : Option 𝒱.V) (i : grid0.Coords) (arg2 : Memref sig .tc .vmem S8192x128 .bf16) (harg2 : arg2.IsWhole) (arg3 : Memref sig .tc .vmem S8192x128 .f32) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S1024x128 .f32) (harg6 : arg6.IsWhole) (arg7 : Memref sig .tc .vmem S1x2x8192 .f32) (harg7 : arg7.IsWhole) (arg8 : Memref sig .tc .vmem S1x2x8192 .f32) (harg8 : arg8.IsWhole) (arg9 : Memref sig .tc .vmem S1x2x8192 .f32) (harg9 : arg9.IsWhole) (arg10 : Memref sig .tc .vmem S128x8192 .f32) (harg10 : arg10.IsWhole) (arg11 : Memref sig .tc .vmem S1024x128 .bf16) (harg11 : arg11.IsWhole) (arg12 : Memref sig .tc .vmem S1024x128 .bf16) (harg12 : arg12.IsWhole) (arg13 : Memref sig .tc .vmem S1024x128 .f32) (harg13 : arg13.IsWhole) (arg1 : BitVec 32) (v9 : IVec S1024x128 32) (v70 : FVec F S1024x128 .bf16) (v74 : FVec F S1024x128 .bf16) (v75 : FVec F S128x1024 .bf16) (v76 : FVec F S128x1024 .bf16) (v78 : FVec F S1024x128 .bf16) (v80 : FVec F S1024x128 .bf16) (v88 : FVec F S1024x1 .f32) (v96 : FVec F S1024x1 .f32) (v97 : FVec F S1024x128 .f32) (v98 : FVec F S1024x128 .f32) (v101 : BitVec 32) (v104 : FVec F S1024x128 .bf16) (v108 : FVec F S1024x128 .bf16) (v135 : FVec F S1024x1 .f32) (v138 : FVec F S1024x128 .f32) (v140 : FVec F S1024x128 .f32) (v141 : FVec F S128x1024 .f32) (v165 : FVec F S1024x1024 .bf16) (v168 : FVec F S1024x1 .f32) (v169 : FVec F S1024x1024 .bf16) (v182 : BitVec 32)  (q : Vec F S8192x128 .bf16) (d : Vec F S8192x128 .f32) (fr ls dl : Vec F S1x2x8192 .f32) (k : Fin (k0_t1_loop i).trips) (acc : Acc F) (g : BufTy.Contents (Elt F) arg10.view.ty) (L : List (View.Piece (Elt F) S128x8192 .f32)) :
    arg10.view.read (Elt F) (arg10.view.writes (Elt F) g (tripL_k0_t1 (F := F) 𝒱 c bd i arg2 harg2 arg3 harg3 arg4 harg4 arg5 harg5 arg6 harg6 arg7 harg7 arg8 harg8 arg9 harg9 arg10 harg10 arg11 harg11 arg12 harg12 arg13 harg13 arg1 v9 v70 v74 v75 v76 v78 v80 v88 v96 v97 v98 v101 v104 v108 v135 v138 v140 v141 v165 v168 v169 v182 (harg2.unread q) (harg3.unread d) (harg7.unread fr) (harg8.unread ls) (harg9.unread dl) k acc (arg10.view.writes (Elt F) g L) ++ L))
      = stepDq v70 v74 v75 v76 v78 v80 v88 v96 q d fr ls dl (nOf i k) (arg10.view.read (Elt F) (arg10.view.writes (Elt F) g L)) := by
  unfold tripL_k0_t1 trip_k0_t1
  dsimp only
  sl_unfold_run_names
  simp only [List.cons_append, List.nil_append, st8, ld5, ld6, ld7, ld8, harg2.read_unread, harg3.read_unread, harg7.read_unread, harg8.read_unread, harg9.read_unread]
  rfl

set_option maxHeartbeats 1000000 in
/-- The state before trip `k`: the sums and the gradient of q after `k` tiles. -/
theorem st_eq (𝒱 : Variants) (c : Dev nD) (bd : Option 𝒱.V) (i : grid0.Coords) (arg2 : Memref sig .tc .vmem S8192x128 .bf16) (harg2 : arg2.IsWhole) (arg3 : Memref sig .tc .vmem S8192x128 .f32) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S1024x128 .f32) (harg6 : arg6.IsWhole) (arg7 : Memref sig .tc .vmem S1x2x8192 .f32) (harg7 : arg7.IsWhole) (arg8 : Memref sig .tc .vmem S1x2x8192 .f32) (harg8 : arg8.IsWhole) (arg9 : Memref sig .tc .vmem S1x2x8192 .f32) (harg9 : arg9.IsWhole) (arg10 : Memref sig .tc .vmem S128x8192 .f32) (harg10 : arg10.IsWhole) (arg11 : Memref sig .tc .vmem S1024x128 .bf16) (harg11 : arg11.IsWhole) (arg12 : Memref sig .tc .vmem S1024x128 .bf16) (harg12 : arg12.IsWhole) (arg13 : Memref sig .tc .vmem S1024x128 .f32) (harg13 : arg13.IsWhole) (arg1 : BitVec 32) (v9 : IVec S1024x128 32) (v70 : FVec F S1024x128 .bf16) (v74 : FVec F S1024x128 .bf16) (v75 : FVec F S128x1024 .bf16) (v76 : FVec F S128x1024 .bf16) (v78 : FVec F S1024x128 .bf16) (v80 : FVec F S1024x128 .bf16) (v88 : FVec F S1024x1 .f32) (v96 : FVec F S1024x1 .f32) (v97 : FVec F S1024x128 .f32) (v98 : FVec F S1024x128 .f32) (v101 : BitVec 32) (v104 : FVec F S1024x128 .bf16) (v108 : FVec F S1024x128 .bf16) (v135 : FVec F S1024x1 .f32) (v138 : FVec F S1024x128 .f32) (v140 : FVec F S1024x128 .f32) (v141 : FVec F S128x1024 .f32) (v165 : FVec F S1024x1024 .bf16) (v168 : FVec F S1024x1 .f32) (v169 : FVec F S1024x1024 .bf16) (v182 : BitVec 32)  (q : Vec F S8192x128 .bf16) (d : Vec F S8192x128 .f32) (fr ls dl : Vec F S1x2x8192 .f32) (g : BufTy.Contents (Elt F) arg10.view.ty) (init : Acc F) (k : ℕ) (hk : k ≤ (k0_t1_loop i).trips) :
    (st_k0_t1 (F := F) 𝒱 c bd i arg2 harg2 arg3 harg3 arg4 harg4 arg5 harg5 arg6 harg6 arg7 harg7 arg8 harg8 arg9 harg9 arg10 harg10 arg11 harg11 arg12 harg12 arg13 harg13 arg1 v9 v70 v74 v75 v76 v78 v80 v88 v96 v97 v98 v101 v104 v108 v135 v138 v140 v141 v165 v168 v169 v182 (harg2.unread q) (harg3.unread d) (harg7.unread fr) (harg8.unread ls) (harg9.unread dl) g init k).1 = accs v70 v74 v78 v80 v88 v96 q d fr ls dl (jOf i) init k
      ∧ arg10.view.read (Elt F) (arg10.view.writes (Elt F) g (st_k0_t1 (F := F) 𝒱 c bd i arg2 harg2 arg3 harg3 arg4 harg4 arg5 harg5 arg6 harg6 arg7 harg7 arg8 harg8 arg9 harg9 arg10 harg10 arg11 harg11 arg12 harg12 arg13 harg13 arg1 v9 v70 v74 v75 v76 v78 v80 v88 v96 v97 v98 v101 v104 v108 v135 v138 v140 v141 v165 v168 v169 v182 (harg2.unread q) (harg3.unread d) (harg7.unread fr) (harg8.unread ls) (harg9.unread dl) g init k).2)
        = dqs v70 v74 v75 v76 v78 v80 v88 v96 q d fr ls dl (jOf i) (arg10.view.read (Elt F) g) k := by
  induction k with
  | zero => exact ⟨rfl, rfl⟩
  | succ k ih =>
    obtain ⟨ihR, ihD⟩ := ih (by omega)
    have hk' : (jOf i).val + 1 + k < 8 := (nOf i ⟨k, hk⟩).isLt
    have hs := st_k0_t1_succ (F := F) 𝒱 c bd i arg2 harg2 arg3 harg3 arg4 harg4 arg5 harg5 arg6 harg6 arg7 harg7 arg8 harg8 arg9 harg9 arg10 harg10 arg11 harg11 arg12 harg12 arg13 harg13 arg1 v9 v70 v74 v75 v76 v78 v80 v88 v96 v97 v98 v101 v104 v108 v135 v138 v140 v141 v165 v168 v169 v182 (harg2.unread q) (harg3.unread d) (harg7.unread fr) (harg8.unread ls) (harg9.unread dl) g init ⟨k, hk⟩
    constructor
    · rw [hs]
      refine (tripR_eq 𝒱 c bd i arg2 harg2 arg3 harg3 arg4 harg4 arg5 harg5 arg6 harg6 arg7 harg7 arg8 harg8 arg9 harg9 arg10 harg10 arg11 harg11 arg12 harg12 arg13 harg13 arg1 v9 v70 v74 v75 v76 v78 v80 v88 v96 v97 v98 v101 v104 v108 v135 v138 v140 v141 v165 v168 v169 v182 q d fr ls dl ⟨k, hk⟩ _ _).trans ?_
      rw [accs_succ _ _ _ _ _ _ _ _ _ _ _ _ _ _ hk', ← ihR]
      rfl
    · rw [hs]
      refine (tripL_eq 𝒱 c bd i arg2 harg2 arg3 harg3 arg4 harg4 arg5 harg5 arg6 harg6 arg7 harg7 arg8 harg8 arg9 harg9 arg10 harg10 arg11 harg11 arg12 harg12 arg13 harg13 arg1 v9 v70 v74 v75 v76 v78 v80 v88 v96 v97 v98 v101 v104 v108 v135 v138 v140 v141 v165 v168 v169 v182 q d fr ls dl ⟨k, hk⟩ _ g _).trans ?_
      rw [dqs_succ _ _ _ _ _ _ _ _ _ _ _ _ _ _ _ _ hk', ← ihD]
      rfl

/-- After the last trip. -/
theorem st_fst (𝒱 : Variants) (c : Dev nD) (bd : Option 𝒱.V) (i : grid0.Coords) (arg2 : Memref sig .tc .vmem S8192x128 .bf16) (harg2 : arg2.IsWhole) (arg3 : Memref sig .tc .vmem S8192x128 .f32) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S1024x128 .f32) (harg6 : arg6.IsWhole) (arg7 : Memref sig .tc .vmem S1x2x8192 .f32) (harg7 : arg7.IsWhole) (arg8 : Memref sig .tc .vmem S1x2x8192 .f32) (harg8 : arg8.IsWhole) (arg9 : Memref sig .tc .vmem S1x2x8192 .f32) (harg9 : arg9.IsWhole) (arg10 : Memref sig .tc .vmem S128x8192 .f32) (harg10 : arg10.IsWhole) (arg11 : Memref sig .tc .vmem S1024x128 .bf16) (harg11 : arg11.IsWhole) (arg12 : Memref sig .tc .vmem S1024x128 .bf16) (harg12 : arg12.IsWhole) (arg13 : Memref sig .tc .vmem S1024x128 .f32) (harg13 : arg13.IsWhole) (arg1 : BitVec 32) (v9 : IVec S1024x128 32) (v70 : FVec F S1024x128 .bf16) (v74 : FVec F S1024x128 .bf16) (v75 : FVec F S128x1024 .bf16) (v76 : FVec F S128x1024 .bf16) (v78 : FVec F S1024x128 .bf16) (v80 : FVec F S1024x128 .bf16) (v88 : FVec F S1024x1 .f32) (v96 : FVec F S1024x1 .f32) (v97 : FVec F S1024x128 .f32) (v98 : FVec F S1024x128 .f32) (v101 : BitVec 32) (v104 : FVec F S1024x128 .bf16) (v108 : FVec F S1024x128 .bf16) (v135 : FVec F S1024x1 .f32) (v138 : FVec F S1024x128 .f32) (v140 : FVec F S1024x128 .f32) (v141 : FVec F S128x1024 .f32) (v165 : FVec F S1024x1024 .bf16) (v168 : FVec F S1024x1 .f32) (v169 : FVec F S1024x1024 .bf16) (v182 : BitVec 32)  (q : Vec F S8192x128 .bf16) (d : Vec F S8192x128 .f32) (fr ls dl : Vec F S1x2x8192 .f32) (g : BufTy.Contents (Elt F) arg10.view.ty) (init : Acc F) (k : ℕ) (hk : k = (k0_t1_loop i).trips) :
    (st_k0_t1 (F := F) 𝒱 c bd i arg2 harg2 arg3 harg3 arg4 harg4 arg5 harg5 arg6 harg6 arg7 harg7 arg8 harg8 arg9 harg9 arg10 harg10 arg11 harg11 arg12 harg12 arg13 harg13 arg1 v9 v70 v74 v75 v76 v78 v80 v88 v96 v97 v98 v101 v104 v108 v135 v138 v140 v141 v165 v168 v169 v182 (harg2.unread q) (harg3.unread d) (harg7.unread fr) (harg8.unread ls) (harg9.unread dl) g init k).1 = accs v70 v74 v78 v80 v88 v96 q d fr ls dl (jOf i) init (7 - (jOf i).val) := by
  subst hk
  rw [← trips1_eq]
  exact (st_eq 𝒱 c bd i arg2 harg2 arg3 harg3 arg4 harg4 arg5 harg5 arg6 harg6 arg7 harg7 arg8 harg8 arg9 harg9 arg10 harg10 arg11 harg11 arg12 harg12 arg13 harg13 arg1 v9 v70 v74 v75 v76 v78 v80 v88 v96 v97 v98 v101 v104 v108 v135 v138 v140 v141 v165 v168 v169 v182 q d fr ls dl g init _ le_rfl).1

theorem st_snd (𝒱 : Variants) (c : Dev nD) (bd : Option 𝒱.V) (i : grid0.Coords) (arg2 : Memref sig .tc .vmem S8192x128 .bf16) (harg2 : arg2.IsWhole) (arg3 : Memref sig .tc .vmem S8192x128 .f32) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S1024x128 .f32) (harg6 : arg6.IsWhole) (arg7 : Memref sig .tc .vmem S1x2x8192 .f32) (harg7 : arg7.IsWhole) (arg8 : Memref sig .tc .vmem S1x2x8192 .f32) (harg8 : arg8.IsWhole) (arg9 : Memref sig .tc .vmem S1x2x8192 .f32) (harg9 : arg9.IsWhole) (arg10 : Memref sig .tc .vmem S128x8192 .f32) (harg10 : arg10.IsWhole) (arg11 : Memref sig .tc .vmem S1024x128 .bf16) (harg11 : arg11.IsWhole) (arg12 : Memref sig .tc .vmem S1024x128 .bf16) (harg12 : arg12.IsWhole) (arg13 : Memref sig .tc .vmem S1024x128 .f32) (harg13 : arg13.IsWhole) (arg1 : BitVec 32) (v9 : IVec S1024x128 32) (v70 : FVec F S1024x128 .bf16) (v74 : FVec F S1024x128 .bf16) (v75 : FVec F S128x1024 .bf16) (v76 : FVec F S128x1024 .bf16) (v78 : FVec F S1024x128 .bf16) (v80 : FVec F S1024x128 .bf16) (v88 : FVec F S1024x1 .f32) (v96 : FVec F S1024x1 .f32) (v97 : FVec F S1024x128 .f32) (v98 : FVec F S1024x128 .f32) (v101 : BitVec 32) (v104 : FVec F S1024x128 .bf16) (v108 : FVec F S1024x128 .bf16) (v135 : FVec F S1024x1 .f32) (v138 : FVec F S1024x128 .f32) (v140 : FVec F S1024x128 .f32) (v141 : FVec F S128x1024 .f32) (v165 : FVec F S1024x1024 .bf16) (v168 : FVec F S1024x1 .f32) (v169 : FVec F S1024x1024 .bf16) (v182 : BitVec 32)  (q : Vec F S8192x128 .bf16) (d : Vec F S8192x128 .f32) (fr ls dl : Vec F S1x2x8192 .f32) (g : BufTy.Contents (Elt F) arg10.view.ty) (init : Acc F) (k : ℕ) (hk : k = (k0_t1_loop i).trips) :
    arg10.view.read (Elt F) (arg10.view.writes (Elt F) g (st_k0_t1 (F := F) 𝒱 c bd i arg2 harg2 arg3 harg3 arg4 harg4 arg5 harg5 arg6 harg6 arg7 harg7 arg8 harg8 arg9 harg9 arg10 harg10 arg11 harg11 arg12 harg12 arg13 harg13 arg1 v9 v70 v74 v75 v76 v78 v80 v88 v96 v97 v98 v101 v104 v108 v135 v138 v140 v141 v165 v168 v169 v182 (harg2.unread q) (harg3.unread d) (harg7.unread fr) (harg8.unread ls) (harg9.unread dl) g init k).2)
        = dqs v70 v74 v75 v76 v78 v80 v88 v96 q d fr ls dl (jOf i) (arg10.view.read (Elt F) g) (7 - (jOf i).val) := by
  subst hk
  rw [← trips1_eq]
  exact (st_eq 𝒱 c bd i arg2 harg2 arg3 harg3 arg4 harg4 arg5 harg5 arg6 harg6 arg7 harg7 arg8 harg8 arg9 harg9 arg10 harg10 arg11 harg11 arg12 harg12 arg13 harg13 arg1 v9 v70 v74 v75 v76 v78 v80 v88 v96 v97 v98 v101 v104 v108 v135 v138 v140 v141 v165 v168 v169 v182 q d fr ls dl g init _ le_rfl).2

/-- The second loop makes no trip: its state stays as it starts. -/
theorem st2_any (𝒱 : Variants) (c : Dev nD) (bd : Option 𝒱.V) (i : grid0.Coords) (arg2 : Memref sig .tc .vmem S8192x128 .bf16) (harg2 : arg2.IsWhole) (arg3 : Memref sig .tc .vmem S8192x128 .f32) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S1024x128 .f32) (harg6 : arg6.IsWhole) (arg7 : Memref sig .tc .vmem S1x2x8192 .f32) (harg7 : arg7.IsWhole) (arg8 : Memref sig .tc .vmem S1x2x8192 .f32) (harg8 : arg8.IsWhole) (arg9 : Memref sig .tc .vmem S1x2x8192 .f32) (harg9 : arg9.IsWhole) (arg10 : Memref sig .tc .vmem S128x8192 .f32) (harg10 : arg10.IsWhole) (arg11 : Memref sig .tc .vmem S1024x128 .bf16) (harg11 : arg11.IsWhole) (arg12 : Memref sig .tc .vmem S1024x128 .bf16) (harg12 : arg12.IsWhole) (arg13 : Memref sig .tc .vmem S1024x128 .f32) (harg13 : arg13.IsWhole) (arg1 : BitVec 32) (v9 : IVec S1024x128 32) (v70 : FVec F S1024x128 .bf16) (v74 : FVec F S1024x128 .bf16) (v75 : FVec F S128x1024 .bf16) (v76 : FVec F S128x1024 .bf16) (v78 : FVec F S1024x128 .bf16) (v80 : FVec F S1024x128 .bf16) (v88 : FVec F S1024x1 .f32) (v96 : FVec F S1024x1 .f32) (v97 : FVec F S1024x128 .f32) (v98 : FVec F S1024x128 .f32) (v101 : BitVec 32) (v104 : FVec F S1024x128 .bf16) (v108 : FVec F S1024x128 .bf16) (v135 : FVec F S1024x1 .f32) (v138 : FVec F S1024x128 .f32) (v140 : FVec F S1024x128 .f32) (v141 : FVec F S128x1024 .f32) (v165 : FVec F S1024x1024 .bf16) (v168 : FVec F S1024x1 .f32) (v169 : FVec F S1024x1024 .bf16) (v187 : BitVec 32) (X_arg2 : BufTy.Contents (Elt F) arg2.view.ty) (X_arg3 : BufTy.Contents (Elt F) arg3.view.ty) (X_arg7 : BufTy.Contents (Elt F) arg7.view.ty) (X_arg8 : BufTy.Contents (Elt F) arg8.view.ty) (X_arg9 : BufTy.Contents (Elt F) arg9.view.ty) (G_arg10 : BufTy.Contents (Elt F) arg10.view.ty) (init : FVec F S1024x128 .f32 × FVec F S1024x128 .f32 × FVec F S1024x1 .f32 × FVec F S1024x128 .f32 × FVec F S1024x128 .f32 × FVec F S1024x1 .f32) (k : ℕ) :
    st_k0_t2 (F := F) 𝒱 c bd i arg2 harg2 arg3 harg3 arg4 harg4 arg5 harg5 arg6 harg6 arg7 harg7 arg8 harg8 arg9 harg9 arg10 harg10 arg11 harg11 arg12 harg12 arg13 harg13 arg1 v9 v70 v74 v75 v76 v78 v80 v88 v96 v97 v98 v101 v104 v108 v135 v138 v140 v141 v165 v168 v169 v187 X_arg2 X_arg3 X_arg7 X_arg8 X_arg9 G_arg10 init k = (init, []) := by
  induction k with
  | zero => rfl
  | succ k ih =>
    rw [st_k0_t2.eq_2, st_k0_t2Step, dif_neg (by rw [trips2_eq]; omega)]
    exact ih

end Cert.KernelIdeal.Attn

end
-- ==== Proof.RunA.lean ====
/- The body of the attention gradient run once, at the first point of a pair of heads: the four outputs at the functions of the loaded vectors. -/
module

public import proofs.«01_k».proof.Proof.Body
public import proofs.«01_k».proof.Proof.Gen.KernelIdeal.Frame

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F] [Named F]

local notation "𝕄" => MT nD τ sig Unit (Elt F) ℕ (UR sig nD τ) ℕ

set_option maxHeartbeats 2000000 in
/-- The body at the first point of a pair: whatever the block of the gradient of q held, it starts from zero. -/
theorem runA (c : Dev nD) (i : grid0.Coords) (arg2 : Memref sig .tc .vmem S8192x128 .bf16) (harg2 : arg2.IsWhole) (arg3 : Memref sig .tc .vmem S8192x128 .f32) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S1024x128 .f32) (harg6 : arg6.IsWhole) (arg7 : Memref sig .tc .vmem S1x2x8192 .f32) (harg7 : arg7.IsWhole) (arg8 : Memref sig .tc .vmem S1x2x8192 .f32) (harg8 : arg8.IsWhole) (arg9 : Memref sig .tc .vmem S1x2x8192 .f32) (harg9 : arg9.IsWhole) (arg10 : Memref sig .tc .vmem S128x8192 .f32) (harg10 : arg10.IsWhole) (arg11 : Memref sig .tc .vmem S1024x128 .bf16) (harg11 : arg11.IsWhole) (arg12 : Memref sig .tc .vmem S1024x128 .bf16) (harg12 : arg12.IsWhole) (arg13 : Memref sig .tc .vmem S1024x128 .f32) (harg13 : arg13.IsWhole) (hc0 : isFirst i)
    (x0 : Vec F S8192x128 .bf16) (x1 : Vec F S8192x128 .f32) (x2 x3 : Vec F S1024x128 .bf16) (x4 : Vec F S1024x128 .f32) (x5 x6 x7 : Vec F S1x2x8192 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare (outDq i x0 x1 x2 x3 x4 x5 x6 x7 k0_pay21) ∗ owns (c : Thread nD τ) arg11 fullShare (outDk i x0 x1 x2 x3 x4 x5 x6 x7) ∗ owns (c : Thread nD τ) arg12 fullShare (outDv i x0 x1 x2 x3 x4 x5 x6 x7) ∗ owns (c : Thread nD τ) arg13 fullShare (outDf i x0 x1 x2 x3 x4 x5 x6 x7)) -∗ K ⟨⟩))
          ⊢ wp frame (wpE (defs₀ (F := F)) Variants.none c none) E (cc0_attn_bwd i arg2 harg2 arg3 harg3 arg4 harg4 arg5 harg5 arg6 harg6 arg7 harg7 arg8 harg8 arg9 harg9 arg10 harg10 arg11 harg11 arg12 harg12 arg13 harg13) K := by
    intro E K
    simp only [cc0_attn_bwd_eq_skeleton]; unfold cc0_attn_bwd_skel
    simp only [k0_part3_eq_skeleton, k0_part4_eq_skeleton, k0_part5_eq_skeleton, k0_part6_eq_skeleton, k0_part7_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; swap; · iexact H8
      ipureintro
      sl_unfold_run_names
      simp only [st2_any, List.nil_append, View.writes_append]
      simp only [st_snd]
      simp only [st4, stwq, View.writes_nil, ldw, ld1, ld2, ld3, ld4, harg2.read_unread, harg3.read_unread, harg4.read_unread, harg5.read_unread, harg6.read_unread, harg7.read_unread, harg8.read_unread, harg9.read_unread]
      rfl
    isplitl [H9]
    · iexists _; isplitr; swap; · iexact H9
      ipureintro
      sl_unfold_run_names
      simp only [st2_any, stw, st_fst]
      simp only [ldw, ld1, ld2, ld3, harg2.read_unread, harg3.read_unread, harg4.read_unread, harg5.read_unread, harg6.read_unread, harg7.read_unread, harg8.read_unread, harg9.read_unread]
      rfl
    isplitl [H10]
    · iexists _; isplitr; swap; · iexact H10
      ipureintro
      sl_unfold_run_names
      simp only [st2_any, stw, st_fst]
      simp only [ldw, ld1, ld2, ld3, harg2.read_unread, harg3.read_unread, harg4.read_unread, harg5.read_unread, harg6.read_unread, harg7.read_unread, harg8.read_unread, harg9.read_unread]
      rfl
    iexists _; isplitr; swap; · iexact H11
    ipureintro
    sl_unfold_run_names
    simp only [st2_any, stw, st_fst]
    simp only [ldw, ld1, ld2, ld3, harg2.read_unread, harg3.read_unread, harg4.read_unread, harg5.read_unread, harg6.read_unread, harg7.read_unread, harg8.read_unread, harg9.read_unread]
    rfl

end Cert.KernelIdeal.Attn

end
-- ==== Proof.RunB.lean ====
/- The body of the attention gradient run once, at a later point of a pair of heads: the gradient of q is added to what the point before left. -/
module

public import proofs.«01_k».proof.Proof.Body
public import proofs.«01_k».proof.Proof.Gen.KernelIdeal.Frame

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F] [Named F]

local notation "𝕄" => MT nD τ sig Unit (Elt F) ℕ (UR sig nD τ) ℕ

set_option maxHeartbeats 2000000 in
/-- The body at a later point of a pair: the gradient of q is added to what its block holds. -/
theorem runB (c : Dev nD) (i : grid0.Coords) (arg2 : Memref sig .tc .vmem S8192x128 .bf16) (harg2 : arg2.IsWhole) (arg3 : Memref sig .tc .vmem S8192x128 .f32) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S1024x128 .f32) (harg6 : arg6.IsWhole) (arg7 : Memref sig .tc .vmem S1x2x8192 .f32) (harg7 : arg7.IsWhole) (arg8 : Memref sig .tc .vmem S1x2x8192 .f32) (harg8 : arg8.IsWhole) (arg9 : Memref sig .tc .vmem S1x2x8192 .f32) (harg9 : arg9.IsWhole) (arg10 : Memref sig .tc .vmem S128x8192 .f32) (harg10 : arg10.IsWhole) (arg11 : Memref sig .tc .vmem S1024x128 .bf16) (harg11 : arg11.IsWhole) (arg12 : Memref sig .tc .vmem S1024x128 .bf16) (harg12 : arg12.IsWhole) (arg13 : Memref sig .tc .vmem S1024x128 .f32) (harg13 : arg13.IsWhole) (hc0 : ¬ isFirst i)
    (x0 : Vec F S8192x128 .bf16) (x1 : Vec F S8192x128 .f32) (x2 x3 : Vec F S1024x128 .bf16) (x4 : Vec F S1024x128 .f32) (x5 x6 x7 : Vec F S1x2x8192 .f32) (x8 : Vec F S128x8192 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare (outDq i x0 x1 x2 x3 x4 x5 x6 x7 x8) ∗ owns (c : Thread nD τ) arg11 fullShare (outDk i x0 x1 x2 x3 x4 x5 x6 x7) ∗ owns (c : Thread nD τ) arg12 fullShare (outDv i x0 x1 x2 x3 x4 x5 x6 x7) ∗ owns (c : Thread nD τ) arg13 fullShare (outDf i x0 x1 x2 x3 x4 x5 x6 x7)) -∗ K ⟨⟩))
          ⊢ wp frame (wpE (defs₀ (F := F)) Variants.none c none) E (cc0_attn_bwd i arg2 harg2 arg3 harg3 arg4 harg4 arg5 harg5 arg6 harg6 arg7 harg7 arg8 harg8 arg9 harg9 arg10 harg10 arg11 harg11 arg12 harg12 arg13 harg13) K := by
    intro E K
    simp only [cc0_attn_bwd_eq_skeleton]; unfold cc0_attn_bwd_skel
    simp only [k0_part3_eq_skeleton, k0_part4_eq_skeleton, k0_part5_eq_skeleton, k0_part6_eq_skeleton, k0_part7_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; swap; · iexact H8
      ipureintro
      sl_unfold_run_names
      simp only [st2_any, List.nil_append, View.writes_append]
      simp only [st_snd]
      simp only [st4, stwq, View.writes_nil, ldw, ld1, ld2, ld3, ld4, harg2.read_unread, harg3.read_unread, harg4.read_unread, harg5.read_unread, harg6.read_unread, harg7.read_unread, harg8.read_unread, harg9.read_unread, harg10.read_unread]
      rfl
    isplitl [H9]
    · iexists _; isplitr; swap; · iexact H9
      ipureintro
      sl_unfold_run_names
      simp only [st2_any, stw, st_fst]
      simp only [ldw, ld1, ld2, ld3, harg2.read_unread, harg3.read_unread, harg4.read_unread, harg5.read_unread, harg6.read_unread, harg7.read_unread, harg8.read_unread, harg9.read_unread, harg10.read_unread]
      rfl
    isplitl [H10]
    · iexists _; isplitr; swap; · iexact H10
      ipureintro
      sl_unfold_run_names
      simp only [st2_any, stw, st_fst]
      simp only [ldw, ld1, ld2, ld3, harg2.read_unread, harg3.read_unread, harg4.read_unread, harg5.read_unread, harg6.read_unread, harg7.read_unread, harg8.read_unread, harg9.read_unread, harg10.read_unread]
      rfl
    iexists _; isplitr; swap; · iexact H11
    ipureintro
    sl_unfold_run_names
    simp only [st2_any, stw, st_fst]
    simp only [ldw, ld1, ld2, ld3, harg2.read_unread, harg3.read_unread, harg4.read_unread, harg5.read_unread, harg6.read_unread, harg7.read_unread, harg8.read_unread, harg9.read_unread, harg10.read_unread]
    rfl

end Cert.KernelIdeal.Attn

end
-- ==== Proof.Launch.lean ====
/- The program on exact values: it ends, its arguments unchanged, its outputs at the values the body leaves. -/
module

public import proofs.«01_k».proof.Proof.RunA
public import proofs.«01_k».proof.Proof.RunB
public import Idealize.ShloMosaic.Lib.Claim

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)
open Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The first point of a pair is the one with key block 0. -/
theorem isFirst_iff : ∀ t : Fin cfg0.N, isFirst (grid0.coords t) ↔ t.val % 8 = 0 :=
  (fun t => by
    have ht : t.val < 32 := Nat.lt_of_lt_of_eq t.isLt N_0
    have e0 : (grid0.coords t 0).val = t.val / 8 % 4 := Pipeline.Grid.coords_val t 0 (by decide) rfl
    have e1 : (grid0.coords t 1).val = t.val / 1 % 8 := Pipeline.Grid.coords_val t 1 (by decide) rfl
    simp only [isFirst, e0, e1]
    word_cmp
   : ∀ t : Fin grid0.N, isFirst (grid0.coords t) ↔ t.val % 8 = 0)

/-- The staging buffer of window 0 at point `t`. -/
abbrev buf0 (t : Fin cfg0.N) : Memref sig .tc .vmem S8192x128 .bf16 := win0_0.stage (cfg0.slots t 0)
/-- The staging buffer of window 1 at point `t`. -/
abbrev buf1 (t : Fin cfg0.N) : Memref sig .tc .vmem S8192x128 .f32 := win0_1.stage (cfg0.slots t 1)
/-- The staging buffer of window 2 at point `t`. -/
abbrev buf2 (t : Fin cfg0.N) : Memref sig .tc .vmem S1024x128 .bf16 := win0_2.stage (cfg0.slots t 2)
/-- The staging buffer of window 3 at point `t`. -/
abbrev buf3 (t : Fin cfg0.N) : Memref sig .tc .vmem S1024x128 .bf16 := win0_3.stage (cfg0.slots t 3)
/-- The staging buffer of window 4 at point `t`. -/
abbrev buf4 (t : Fin cfg0.N) : Memref sig .tc .vmem S1024x128 .f32 := win0_4.stage (cfg0.slots t 4)
/-- The staging buffer of window 5 at point `t`. -/
abbrev buf5 (t : Fin cfg0.N) : Memref sig .tc .vmem S1x2x8192 .f32 := win0_5.stage (cfg0.slots t 5)
/-- The staging buffer of window 6 at point `t`. -/
abbrev buf6 (t : Fin cfg0.N) : Memref sig .tc .vmem S1x2x8192 .f32 := win0_6.stage (cfg0.slots t 6)
/-- The staging buffer of window 7 at point `t`. -/
abbrev buf7 (t : Fin cfg0.N) : Memref sig .tc .vmem S1x2x8192 .f32 := win0_7.stage (cfg0.slots t 7)
/-- The staging buffer of window 8 at point `t`. -/
abbrev buf8 (t : Fin cfg0.N) : Memref sig .tc .vmem S128x8192 .f32 := win0_8.stage (cfg0.slots t 8)
/-- The staging buffer of window 9 at point `t`. -/
abbrev buf9 (t : Fin cfg0.N) : Memref sig .tc .vmem S1024x128 .bf16 := win0_9.stage (cfg0.slots t 9)
/-- The staging buffer of window 10 at point `t`. -/
abbrev buf10 (t : Fin cfg0.N) : Memref sig .tc .vmem S1024x128 .bf16 := win0_10.stage (cfg0.slots t 10)
/-- The staging buffer of window 11 at point `t`. -/
abbrev buf11 (t : Fin cfg0.N) : Memref sig .tc .vmem S1024x128 .f32 := win0_11.stage (cfg0.slots t 11)

/-- The gradient of q after point `t`: started at the pair's first point, then added to. -/
def dqAt (c : Dev nD) : (t : ℕ) → (ht : t < cfg0.N) → Vec F S128x8192 .f32
  | 0, ht => outDq (grid0.coords ⟨0, ht⟩) (iblk m c 0 ⟨0, ht⟩) (iblk m c 1 ⟨0, ht⟩) (iblk m c 2 ⟨0, ht⟩) (iblk m c 3 ⟨0, ht⟩) (iblk m c 4 ⟨0, ht⟩) (iblk m c 5 ⟨0, ht⟩) (iblk m c 6 ⟨0, ht⟩) (iblk m c 7 ⟨0, ht⟩) k0_pay21
  | t + 1, ht => outDq (grid0.coords ⟨t + 1, ht⟩) (iblk m c 0 ⟨t + 1, ht⟩) (iblk m c 1 ⟨t + 1, ht⟩) (iblk m c 2 ⟨t + 1, ht⟩) (iblk m c 3 ⟨t + 1, ht⟩) (iblk m c 4 ⟨t + 1, ht⟩) (iblk m c 5 ⟨t + 1, ht⟩) (iblk m c 6 ⟨t + 1, ht⟩) (iblk m c 7 ⟨t + 1, ht⟩) (if (t + 1) % 8 = 0 then k0_pay21 else dqAt c t (Nat.lt_of_succ_lt ht))

theorem dqAt_first (c : Dev nD) (t : Fin cfg0.N) (h : t.val % 8 = 0) :
    dqAt m c t.val t.isLt = outDq (grid0.coords t) (iblk m c 0 t) (iblk m c 1 t) (iblk m c 2 t) (iblk m c 3 t) (iblk m c 4 t) (iblk m c 5 t) (iblk m c 6 t) (iblk m c 7 t) k0_pay21 := by
  obtain ⟨t, ht⟩ := t
  cases t with
  | zero => rfl
  | succ t => rw [dqAt, if_pos h]

theorem dqAt_later (c : Dev nD) (t : Fin cfg0.N) (h : t.val % 8 ≠ 0) :
    dqAt m c t.val t.isLt = outDq (grid0.coords t) (iblk m c 0 t) (iblk m c 1 t) (iblk m c 2 t) (iblk m c 3 t) (iblk m c 4 t) (iblk m c 5 t) (iblk m c 6 t) (iblk m c 7 t) (dqAt m c (t.val - 1) (Nat.lt_of_le_of_lt (Nat.sub_le _ _) t.isLt)) := by
  obtain ⟨t, ht⟩ := t
  cases t with
  | zero => exact absurd rfl h
  | succ t => rw [dqAt, if_neg h]; rfl

/-- The gradient of k at point `t`. -/
def dkAt (c : Dev nD) (t : Fin cfg0.N) : Vec F S1024x128 .bf16 :=
  outDk (grid0.coords t) (iblk m c 0 t) (iblk m c 1 t) (iblk m c 2 t) (iblk m c 3 t) (iblk m c 4 t) (iblk m c 5 t) (iblk m c 6 t) (iblk m c 7 t)

/-- The gradient of v at point `t`. -/
def dvAt (c : Dev nD) (t : Fin cfg0.N) : Vec F S1024x128 .bf16 :=
  outDv (grid0.coords t) (iblk m c 0 t) (iblk m c 1 t) (iblk m c 2 t) (iblk m c 3 t) (iblk m c 4 t) (iblk m c 5 t) (iblk m c 6 t) (iblk m c 7 t)

/-- The gradient of the log-gates at point `t`. -/
def dfAt (c : Dev nD) (t : Fin cfg0.N) : Vec F S1024x128 .f32 :=
  outDf (grid0.coords t) (iblk m c 0 t) (iblk m c 1 t) (iblk m c 2 t) (iblk m c 3 t) (iblk m c 4 t) (iblk m c 5 t) (iblk m c 6 t) (iblk m c 7 t)

/-- What each window's buffer holds after the body at each point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => dqAt m c t.val t.isLt
    | ⟨9, _⟩ => dkAt m c t
    | ⟨10, _⟩ => dvAt m c t
    | ⟨11, _⟩ => dfAt m c t
  Φ _ := Pipeline.ΦA spec0 c
  q w := Pipeline.shareOf spec0 w
  owed _ := 0

/-- The arrays are what the host operations left. -/
theorem dats_A (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = dqAt m c t.val t.isLt := by dsimp only [dats]
theorem after_9 (c : Dev nD) (t : Fin cfg0.N) : (dats m 0 c).after 9 t = dkAt m c t := by dsimp only [dats]
theorem after_10 (c : Dev nD) (t : Fin cfg0.N) : (dats m 0 c).after 10 t = dvAt m c t := by dsimp only [dats]
theorem after_11 (c : Dev nD) (t : Fin cfg0.N) : (dats m 0 c).after 11 t = dfAt m c t := by dsimp only [dats]

theorem before_0 (c : Dev nD) (t : Fin cfg0.N) (d) : (dats m 0 c).before 0 t d = iblk m c 0 t :=
  before0_0_of m (dats m 0 c) (dats_A m c 0) (after_0 m c) t d
theorem before_1 (c : Dev nD) (t : Fin cfg0.N) (d) : (dats m 0 c).before 1 t d = iblk m c 1 t :=
  before0_1_of m (dats m 0 c) (dats_A m c 1) (after_1 m c) t d
theorem before_2 (c : Dev nD) (t : Fin cfg0.N) (d) : (dats m 0 c).before 2 t d = iblk m c 2 t :=
  before0_2_of m (dats m 0 c) (dats_A m c 2) (after_2 m c) t d
theorem before_3 (c : Dev nD) (t : Fin cfg0.N) (d) : (dats m 0 c).before 3 t d = iblk m c 3 t :=
  before0_3_of m (dats m 0 c) (dats_A m c 3) (after_3 m c) t d
theorem before_4 (c : Dev nD) (t : Fin cfg0.N) (d) : (dats m 0 c).before 4 t d = iblk m c 4 t :=
  before0_4_of m (dats m 0 c) (dats_A m c 4) (after_4 m c) t d
theorem before_5 (c : Dev nD) (t : Fin cfg0.N) (d) : (dats m 0 c).before 5 t d = iblk m c 5 t :=
  before0_5_of m (dats m 0 c) (dats_A m c 5) (after_5 m c) t d
theorem before_6 (c : Dev nD) (t : Fin cfg0.N) (d) : (dats m 0 c).before 6 t d = iblk m c 6 t :=
  before0_6_of m (dats m 0 c) (dats_A m c 6) (after_6 m c) t d
theorem before_7 (c : Dev nD) (t : Fin cfg0.N) (d) : (dats m 0 c).before 7 t d = iblk m c 7 t :=
  before0_7_of m (dats m 0 c) (dats_A m c 7) (after_7 m c) t d

/-- At a later point of a pair the gradient of q still holds what the point before left. -/
theorem before_8 (c : Dev nD) (t : Fin cfg0.N) (h : t.val % 8 ≠ 0) (d) :
    (dats m 0 c).before 8 t d = dqAt m c (t.val - 1) (Nat.lt_of_le_of_lt (Nat.sub_le _ _) t.isLt) :=
  ((dats m 0 c).before_out_kept 8 rfl t (fun h0 => h (by rw [h0]))
    (by
      rw [Bool.eq_false_iff]
      intro hf
      have := (flush0_8 _).mp hf
      dsimp only at this
      omega)
    (fun _ => rfl) (fun _ _ => rfl) d).trans (after_8 m c _)

/-- What the body is given at point `t`. -/
def given (c : Dev nD) (t : Fin cfg0.N) : sProp 𝕄 :=
  iprop((dats m 0 c).Φ t.castSucc ∗ (dats m 0 c).owesAt () t.castSucc
    ∗ (∃ d, owns (c : Thread nD τ) (buf0 t) fullShare ((dats m 0 c).before 0 t d))
    ∗ (∃ d, owns (c : Thread nD τ) (buf1 t) fullShare ((dats m 0 c).before 1 t d))
    ∗ (∃ d, owns (c : Thread nD τ) (buf2 t) fullShare ((dats m 0 c).before 2 t d))
    ∗ (∃ d, owns (c : Thread nD τ) (buf3 t) fullShare ((dats m 0 c).before 3 t d))
    ∗ (∃ d, owns (c : Thread nD τ) (buf4 t) fullShare ((dats m 0 c).before 4 t d))
    ∗ (∃ d, owns (c : Thread nD τ) (buf5 t) fullShare ((dats m 0 c).before 5 t d))
    ∗ (∃ d, owns (c : Thread nD τ) (buf6 t) fullShare ((dats m 0 c).before 6 t d))
    ∗ (∃ d, owns (c : Thread nD τ) (buf7 t) fullShare ((dats m 0 c).before 7 t d))
    ∗ (∃ d, owns (c : Thread nD τ) (buf8 t) fullShare ((dats m 0 c).before 8 t d))
    ∗ (∃ d, owns (c : Thread nD τ) (buf9 t) fullShare ((dats m 0 c).before 9 t d))
    ∗ (∃ d, owns (c : Thread nD τ) (buf10 t) fullShare ((dats m 0 c).before 10 t d))
    ∗ (∃ d, owns (c : Thread nD τ) (buf11 t) fullShare ((dats m 0 c).before 11 t d)))

/-- What the body hands back at point `t`. -/
def handed (c : Dev nD) (t : Fin cfg0.N) : sProp 𝕄 :=
  iprop((dats m 0 c).Φ t.succ ∗ (dats m 0 c).owesAt () t.succ
    ∗ owns (c : Thread nD τ) (buf0 t) fullShare ((dats m 0 c).after 0 t)
    ∗ owns (c : Thread nD τ) (buf1 t) fullShare ((dats m 0 c).after 1 t)
    ∗ owns (c : Thread nD τ) (buf2 t) fullShare ((dats m 0 c).after 2 t)
    ∗ owns (c : Thread nD τ) (buf3 t) fullShare ((dats m 0 c).after 3 t)
    ∗ owns (c : Thread nD τ) (buf4 t) fullShare ((dats m 0 c).after 4 t)
    ∗ owns (c : Thread nD τ) (buf5 t) fullShare ((dats m 0 c).after 5 t)
    ∗ owns (c : Thread nD τ) (buf6 t) fullShare ((dats m 0 c).after 6 t)
    ∗ owns (c : Thread nD τ) (buf7 t) fullShare ((dats m 0 c).after 7 t)
    ∗ owns (c : Thread nD τ) (buf8 t) fullShare ((dats m 0 c).after 8 t)
    ∗ owns (c : Thread nD τ) (buf9 t) fullShare ((dats m 0 c).after 9 t)
    ∗ owns (c : Thread nD τ) (buf10 t) fullShare ((dats m 0 c).after 10 t)
    ∗ owns (c : Thread nD τ) (buf11 t) fullShare ((dats m 0 c).after 11 t))

set_option maxHeartbeats 2400000 in
/-- The body at any point. -/
theorem body_at (c : Dev nD) (t : Fin cfg0.N) :
    given m c t ⊢ wp frame (wpE (defs₀ (F := F)) Variants.none c none) Set.univ (bodyAt0 t) (fun _ => handed m c t) := by
  unfold given handed bodyAt0
  simp only [before_0, before_1, before_2, before_3, before_4, before_5, before_6, before_7]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9, after_10, after_11]
  by_cases h0 : t.val % 8 = 0
  · rw [dqAt_first m c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply (runA c (grid0.coords t) _ _ _ _ _ _ _ _ _ _ _ _ _ _ _ _ _ _ _ _ _ _ _ _ ((isFirst_iff t).mpr h0) (iblk m c 0 t) (iblk m c 1 t) (iblk m c 2 t) (iblk m c 3 t) (iblk m c 4 t) (iblk m c 5 t) (iblk m c 6 t) (iblk m c 7 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    isplitl [H11]; · iexists _; iexact H11
    iintro ⟨H0, H1, H2, H3, H4, H5, H6, H7, H8, H9, H10, H11⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  · simp only [before_8 m c t h0]; rw [dqAt_later m c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply (runB c (grid0.coords t) _ _ _ _ _ _ _ _ _ _ _ _ _ _ _ _ _ _ _ _ _ _ _ _ (fun h => h0 ((isFirst_iff t).mp h)) (iblk m c 0 t) (iblk m c 1 t) (iblk m c 2 t) (iblk m c 3 t) (iblk m c 4 t) (iblk m c 5 t) (iblk m c 6 t) (iblk m c 7 t) (dqAt m c (t.val - 1) (Nat.lt_of_le_of_lt (Nat.sub_le _ _) t.isLt)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [H11]; · iexists _; iexact H11
    iintro ⟨H0, H1, H2, H3, H4, H5, H6, H7, H8, H9, H10, H11⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11

/-- The pipeline's body is the printed kernel at the point's buffers. -/
theorem body_row (t : Fin cfg0.N) :
    defs₀ (F := F) .tc cfg0.body (cfg0.bodyArgs t (cfg0.slots t)) = bodyAt0 t := by
  unfold defs₀; rw [Defs.onTc_tc]

theorem body_ok (c : Dev nD) : BodyObligation (dats (F := F) m 0 c) (defs₀ (F := F)) Variants.none () Set.univ := fun t => by
  rw [bigSep_W0, bigSep_W0, body_row]
  exact triple_restated (body_at m c t) rfl .rfl fun _ => .rfl

set_option backward.isDefEq.respectTransparency.types false in
/-- The program from any memory with no counter raised: it ends, with the pipeline's arrays as stated and no counter raised. -/
theorem launched : θ_run defs (onTc (τ := τ) (main (F := F))) (s₀ m ρ)
    (fun r => Pipeline.FramePost cfgs (dats m) 0 (V m) r ∧ r.2.sem = fun _ => 0) :=
  Pipeline.θ_run_frame_shared (Q' := _) cfgs (dats m) (0 : Fin 1) launch₀0 defs₀ Variants.none m ρ main
    (hbody := fun c => (body_ok m c).loose) (hq := fun _ _ _ => rfl)
    (howed := fun _ _ => rfl) (V := V m) (hmain := hmain m Variants.none) (hA := dats_A m) (hΦ := fun _ _ => rfl)

/-- The program ends with its arguments unchanged and no counter raised. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (dats_A m) ((θ_run defs _ _).mono (fun _ h => h.1) (launched m ρ)))
    ((θ_run defs _ _).mono (fun _ h => h.2) (launched m ρ))

end Cert.KernelIdeal.Attn

end
-- ==== Proof.Tile.lean ====
/- The body's vector expressions on exact values, read at an index, where their operands are real numbers. -/
module

public import proofs.«01_k».proof.Proof.Body
public import Idealize.ShloMosaic.Lib.Pointwise
public import Idealize.ShloMosaic.Lib.WordCmp

@[expose] public section

set_option maxRecDepth 16384

noncomputable section

namespace Cert.KernelIdeal.Attn

open Idealize.ShloMosaic Idealize.ShloMosaic.Tactic
open Cert.KernelIdeal.Gen

/-- A finite sum of real numbers is the same among the extended reals. -/
theorem coe_sum {ι : Type} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

theorem eighth_bf16 : Ideal.ofBits .bf16 0x3E00#16 = (((1 / 8 : ℝ)) : EReal) := by
  simp [Ideal.ofBits, Ideal.ieee, -EReal.coe_mul]; norm_num
theorem eighth_f32 : Ideal.ofBits .f32 0x3E000000#32 = (((1 / 8 : ℝ)) : EReal) := by
  simp [Ideal.ofBits, Ideal.ieee, -EReal.coe_mul]; norm_num

/-! ## A tile below the diagonal -/

section Head0
variable {v70 v78 : FVec Ideal S1024x128 .bf16} {v75 : FVec Ideal S128x1024 .bf16} {v88 : FVec Ideal S1024x1 .f32} {q : Vec Ideal S1024x128 .bf16} {d : Vec Ideal S1024x128 .f32}
  {fr ls dl : Vec Ideal S1x1x1024 .f32} {ka va Q C : Fin 1024 → Fin 128 → ℝ} {Fk Fr Ls Dl : Fin 1024 → ℝ}
  (h70 : ∀ r l, v70 (ix2 r l) = ((ka r l : ℝ) : EReal)) (h75 : ∀ l r, v75 (ix2 l r) = ((ka r l : ℝ) : EReal)) (h78 : ∀ r l, v78 (ix2 r l) = ((va r l : ℝ) : EReal))
  (h88 : ∀ r, v88 (ix2 r 0) = ((Fk r : ℝ) : EReal)) (hq : ∀ t l, q (ix2 t l) = ((Q t l : ℝ) : EReal)) (hd : ∀ t l, d (ix2 t l) = ((C t l : ℝ) : EReal))
  (hfr : ∀ t, fr (ix3 0 0 t) = ((Fr t : ℝ) : EReal)) (hls : ∀ t, ls (ix3 0 0 t) = ((Ls t : ℝ) : EReal)) (hdl : ∀ t, dl (ix3 0 0 t) = ((Dl t : ℝ) : EReal))

/-- The logarithm of a weight. -/
def sc (ka Q : Fin 1024 → Fin 128 → ℝ) (Fk Fr Ls : Fin 1024 → ℝ) (r t : Fin 1024) : ℝ := ∑ l, ka r l * Q t l + (Fr t - Fk r) - Ls t
/-- The gradient of a score, from its weight `w`. -/
def ds (w : Fin 1024 → Fin 1024 → ℝ) (va C : Fin 1024 → Fin 128 → ℝ) (Dl : Fin 1024 → ℝ) (r t : Fin 1024) : ℝ := w r t * (∑ l, va r l * C t l - Dl t)

include h70 h88 hq hfr hls in
theorem pay3_at (r t : Fin 1024) : k0_pay3 v70 v88 q fr ls (ix2 r t) = ((Real.exp (sc ka Q Fk Fr Ls r t) : ℝ) : EReal) := by
  pointwise [k0_pay3, k0_pay1]
  simp only [h70, h88, hq, hfr, hls, ← EReal.coe_mul, coe_sum, ← EReal.coe_sub, ← EReal.coe_add, zero_add, Ideal.exp_coe]
  rfl

include h70 h78 h88 hq hd hfr hls hdl in
theorem pay4_at (r t : Fin 1024) : k0_pay4 v70 v78 v88 q d fr ls dl (ix2 r t) = ((ds (fun r t => Real.exp (sc ka Q Fk Fr Ls r t)) va C Dl r t : ℝ) : EReal) := by
  pointwise [k0_pay4, k0_pay2]
  simp only [pay3_at h70 h88 hq hfr hls, h78, hd, hdl, ← EReal.coe_mul, coe_sum, ← EReal.coe_sub, ← EReal.coe_add, zero_add]
  rfl

include h70 h78 h88 hq hd hfr hls hdl in
theorem pay6_at (a : FVec Ideal S1024x1 .f32) (r : Fin 1024) : k0_pay6 v70 v78 v88 a q d fr ls dl (ix2 r 0)
    = a (ix2 r 0) + ((∑ t, ds (fun r t => Real.exp (sc ka Q Fk Fr Ls r t)) va C Dl r t : ℝ) : EReal) := by
  pointwise [k0_pay6]
  simp only [pay4_at h70 h78 h88 hq hd hfr hls hdl, coe_sum, zero_add]

include h70 h88 hq hd hfr hls in
theorem pay7_at (a : FVec Ideal S1024x128 .f32) (r : Fin 1024) (l : Fin 128) : k0_pay7 v70 v88 a q d fr ls (ix2 r l)
    = a (ix2 r l) + ((∑ t, Real.exp (sc ka Q Fk Fr Ls r t) * C t l : ℝ) : EReal) := by
  pointwise [k0_pay7, k0_pay2]
  simp only [pay3_at h70 h88 hq hfr hls, hd, ← EReal.coe_mul, coe_sum, zero_add]

include h70 h78 h88 hq hd hfr hls hdl in
theorem pay8_at (a : FVec Ideal S1024x128 .f32) (r : Fin 1024) (l : Fin 128) : k0_pay8 v70 v78 v88 a q d fr ls dl (ix2 r l)
    = a (ix2 r l) + ((∑ t, ds (fun r t => Real.exp (sc ka Q Fk Fr Ls r t)) va C Dl r t * Q t l : ℝ) : EReal) := by
  pointwise [k0_pay8, k0_pay5, k0_pay1]
  simp only [pay4_at h70 h78 h88 hq hd hfr hls hdl, hq, ← EReal.coe_mul, coe_sum, zero_add]

include h70 h75 h78 h88 hq hd hfr hls hdl in
theorem pay9_at (l : Fin 128) (t : Fin 1024) : k0_pay9 v70 v75 v78 v88 q d fr ls dl (ix2 l t)
    = ((∑ r, ka r l * ds (fun r t => Real.exp (sc ka Q Fk Fr Ls r t)) va C Dl r t : ℝ) : EReal) := by
  pointwise [k0_pay9, k0_pay5]
  simp only [h75, pay4_at h70 h78 h88 hq hd hfr hls hdl, ← EReal.coe_mul, coe_sum, zero_add]

/-! The same of the second head. -/

include h70 h88 hq hfr hls in
theorem pay58_at (r t : Fin 1024) : k0_pay58 v88 (k0_pay10 v70 q) fr ls (ix2 r t) = ((Real.exp (sc ka Q Fk Fr Ls r t) : ℝ) : EReal) := by
  pointwise [k0_pay58, k0_pay10, k0_pay1]
  simp only [h70, h88, hq, hfr, hls, ← EReal.coe_mul, coe_sum, ← EReal.coe_sub, ← EReal.coe_add, zero_add, Ideal.exp_coe]
  rfl

include h70 h78 h88 hq hd hfr hls hdl in
theorem pay59_at (r t : Fin 1024) : k0_pay59 v78 v88 (k0_pay2 d) (k0_pay10 v70 q) fr ls dl (ix2 r t) = ((ds (fun r t => Real.exp (sc ka Q Fk Fr Ls r t)) va C Dl r t : ℝ) : EReal) := by
  pointwise [k0_pay59, k0_pay2]
  simp only [pay58_at h70 h88 hq hfr hls, h78, hd, hdl, ← EReal.coe_mul, coe_sum, ← EReal.coe_sub, ← EReal.coe_add, zero_add]
  rfl

include h70 h78 h88 hq hd hfr hls hdl in
theorem pay61_at (a : FVec Ideal S1024x1 .f32) (r : Fin 1024) : k0_pay61 v78 v88 a (k0_pay2 d) (k0_pay10 v70 q) fr ls dl (ix2 r 0)
    = a (ix2 r 0) + ((∑ t, ds (fun r t => Real.exp (sc ka Q Fk Fr Ls r t)) va C Dl r t : ℝ) : EReal) := by
  pointwise [k0_pay61]
  simp only [pay59_at h70 h78 h88 hq hd hfr hls hdl, coe_sum, zero_add]

include h70 h88 hq hd hfr hls in
theorem pay62_at (a : FVec Ideal S1024x128 .f32) (r : Fin 1024) (l : Fin 128) : k0_pay62 v88 a (k0_pay2 d) (k0_pay10 v70 q) fr ls (ix2 r l)
    = a (ix2 r l) + ((∑ t, Real.exp (sc ka Q Fk Fr Ls r t) * C t l : ℝ) : EReal) := by
  pointwise [k0_pay62, k0_pay2]
  simp only [pay58_at h70 h88 hq hfr hls, hd, ← EReal.coe_mul, coe_sum, zero_add]

include h70 h78 h88 hq hd hfr hls hdl in
theorem pay63_at (a : FVec Ideal S1024x128 .f32) (r : Fin 1024) (l : Fin 128) : k0_pay63 v78 v88 a (k0_pay1 q) (k0_pay2 d) (k0_pay10 v70 q) fr ls dl (ix2 r l)
    = a (ix2 r l) + ((∑ t, ds (fun r t => Real.exp (sc ka Q Fk Fr Ls r t)) va C Dl r t * Q t l : ℝ) : EReal) := by
  pointwise [k0_pay63, k0_pay60, k0_pay1]
  simp only [pay59_at h70 h78 h88 hq hd hfr hls hdl, hq, ← EReal.coe_mul, coe_sum, zero_add]

include h70 h75 h78 h88 hq hd hfr hls hdl in
/-- The second head's part of the gradient of q, added to the first's and to what is there. -/
theorem pay64_at (x D : FVec Ideal S128x1024 .f32) (l : Fin 128) (t : Fin 1024) : k0_pay64 v75 v78 v88 (k0_pay2 d) x (k0_pay10 v70 q) fr ls dl D (ix2 l t)
    = D (ix2 l t) + (x (ix2 l t) + ((∑ r, ka r l * ds (fun r t => Real.exp (sc ka Q Fk Fr Ls r t)) va C Dl r t : ℝ) : EReal)) := by
  pointwise [k0_pay64, k0_pay60]
  simp only [h75, pay59_at h70 h78 h88 hq hd hfr hls hdl, ← EReal.coe_mul, coe_sum, zero_add]

end Head0

/-! ## The diagonal tile -/

theorem pay25_at (r t : Fin 1024) : k0_pay25 (ix2 r t) = if r.val ≤ t.val then 1#1 else 0#1 := by
  pointwise [k0_pay25]
  have hr := r.isLt
  have ht := t.isLt
  split_ifs with h
  · word_cmp
  · word_cmp

section Diag
variable {v70 v78 : FVec Ideal S1024x128 .bf16} {v75 : FVec Ideal S128x1024 .bf16} {v8 : FVec Ideal S1024x128 .f32} {v84 : IVec S1024x128 1} {v88 : FVec Ideal S1024x1 .f32} {q : Vec Ideal S1024x128 .bf16} {d : Vec Ideal S1024x128 .f32}
  {fr ls dl : Vec Ideal S1x1x1024 .f32} {w x : FVec Ideal S1024x1024 .f32} {ka va Q C : Fin 1024 → Fin 128 → ℝ} {Fk Fr Ls Dl : Fin 1024 → ℝ} {W : Fin 1024 → Fin 1024 → ℝ}
  (h70 : ∀ r l, v70 (ix2 r l) = ((ka r l : ℝ) : EReal)) (h75 : ∀ l r, v75 (ix2 l r) = ((ka r l : ℝ) : EReal)) (h78 : ∀ r l, v78 (ix2 r l) = ((va r l : ℝ) : EReal))
  (h35 : ∀ r, k0_pay35 v8 v84 (ix2 r 0) = ((Fk r : ℝ) : EReal)) (h88 : ∀ r, v88 (ix2 r 0) = ((Fk r : ℝ) : EReal))
  (hq : ∀ t l, q (ix2 t l) = ((Q t l : ℝ) : EReal)) (hd : ∀ t l, d (ix2 t l) = ((C t l : ℝ) : EReal))
  (hfr : ∀ t, fr (ix3 0 0 t) = ((Fr t : ℝ) : EReal)) (hls : ∀ t, ls (ix3 0 0 t) = ((Ls t : ℝ) : EReal)) (hdl : ∀ t, dl (ix3 0 0 t) = ((Dl t : ℝ) : EReal))
  (hw : ∀ r t, w (ix2 r t) = ((W r t : ℝ) : EReal)) (hx : ∀ r t, x (ix2 r t) = ((∑ l, va r l * C t l : ℝ) : EReal))

/-- A weight on the diagonal tile: none where the key comes after the query. -/
def wd (ka Q : Fin 1024 → Fin 128 → ℝ) (Fk Fr Ls : Fin 1024 → ℝ) (r t : Fin 1024) : ℝ := if r.val ≤ t.val then Real.exp (sc ka Q Fk Fr Ls r t) else 0

theorem mask_value : Named.named (F := Ideal) κ "mask" (φ := .f32) 0xF149F2CA#32 = (⊥ : EReal) := IdealRules.named_const.ideal_named_scalar _ _ _ _ rfl

theorem select_if (p : Prop) [Decidable p] (x y : EReal) : Scalar.select (if p then 1#1 else 0#1) x y = if p then x else y := by
  split_ifs <;> rfl

theorem exp_masked (r t : Fin 1024) (z : EReal) (hz : z = ((sc ka Q Fk Fr Ls r t : ℝ) : EReal)) :
    Ideal.exp (Scalar.select (if r.val ≤ t.val then 1#1 else 0#1) z ⊥) = ((wd ka Q Fk Fr Ls r t : ℝ) : EReal) := by
  unfold wd
  split_ifs with h
  · rw [hz]
    exact Ideal.exp_coe _
  · exact Ideal.exp_bot

include h70 h35 hq hfr hls in
theorem pay42_at (r t : Fin 1024) : k0_pay42 v8 k0_pay25 v70 v84 q fr ls (ix2 r t) = ((wd ka Q Fk Fr Ls r t : ℝ) : EReal) := by
  pointwise [k0_pay42, k0_pay40]
  simp only [h70, h35, hq, hfr, hls, pay25_at, mask_value, ← EReal.coe_mul, coe_sum, ← EReal.coe_sub, ← EReal.coe_add, zero_add]
  exact exp_masked _ _ _ rfl

include h78 hd in
theorem pay43_at (r t : Fin 1024) : k0_pay43 v78 d (ix2 r t) = ((∑ l, va r l * C t l : ℝ) : EReal) := by
  pointwise [k0_pay43, k0_pay41]
  simp only [h78, hd, ← EReal.coe_mul, coe_sum, zero_add]

include hw hx hdl in
theorem pay44_at (r t : Fin 1024) : k0_pay44 w x dl (ix2 r t) = ((ds W va C Dl r t : ℝ) : EReal) := by
  pointwise [k0_pay44]
  simp only [hw, hx, hdl, ← EReal.coe_mul, ← EReal.coe_sub]
  rfl

include hw hx hdl in
theorem pay46_at (r : Fin 1024) : k0_pay46 k0_pay39 w x dl (ix2 r 0) = ((∑ t, ds W va C Dl r t : ℝ) : EReal) := by
  pointwise [k0_pay46, k0_pay39]
  simp only [pay44_at hdl hw hx, coe_sum, zero_add, Ideal.ofBits_zero_f32]

include hw hd in
theorem pay47_at (r : Fin 1024) (l : Fin 128) : k0_pay47 k0_pay38 (k0_pay41 d) w (ix2 r l) = ((∑ t, W r t * C t l : ℝ) : EReal) := by
  pointwise [k0_pay47, k0_pay38, k0_pay41]
  simp only [hw, hd, ← EReal.coe_mul, coe_sum, zero_add, Ideal.ofBits_zero_f32]

include hw hx hq hdl in
theorem pay48_at (r : Fin 1024) (l : Fin 128) : k0_pay48 k0_pay37 (k0_pay40 q) w x dl (ix2 r l) = ((∑ t, ds W va C Dl r t * Q t l : ℝ) : EReal) := by
  pointwise [k0_pay48, k0_pay37, k0_pay40, k0_pay45]
  simp only [pay44_at hdl hw hx, hq, ← EReal.coe_mul, coe_sum, zero_add, Ideal.ofBits_zero_f32]

include hw hx h75 hdl in
theorem pay49_at (l : Fin 128) (t : Fin 1024) : k0_pay49 v75 w x dl (ix2 l t) = ((∑ r, ka r l * ds W va C Dl r t : ℝ) : EReal) := by
  pointwise [k0_pay49, k0_pay45]
  simp only [pay44_at hdl hw hx, h75, ← EReal.coe_mul, coe_sum, zero_add]

include h70 h88 hq hfr hls in
theorem pay50_at (r t : Fin 1024) : k0_pay50 k0_pay25 v70 v88 (k0_pay40 q) fr ls (ix2 r t) = ((wd ka Q Fk Fr Ls r t : ℝ) : EReal) := by
  pointwise [k0_pay50, k0_pay40]
  simp only [h70, h88, hq, hfr, hls, pay25_at, mask_value, ← EReal.coe_mul, coe_sum, ← EReal.coe_sub, ← EReal.coe_add, zero_add]
  exact exp_masked _ _ _ rfl

include h70 h88 hq hfr hls in
theorem pay54_at (r t : Fin 1024) : k0_pay54 k0_pay25 v70 v88 (k0_pay40 q) fr ls (ix2 r t) = ((wd ka Q Fk Fr Ls r t : ℝ) : EReal) := by
  pointwise [k0_pay54]
  exact pay50_at h70 h88 hq hfr hls r t

include h70 h78 h88 hq hd hfr hls hdl in
theorem pay51_at (r t : Fin 1024) : k0_pay51 k0_pay25 v70 v78 v88 (k0_pay40 q) (k0_pay41 d) fr ls dl (ix2 r t) = ((ds (wd ka Q Fk Fr Ls) va C Dl r t : ℝ) : EReal) := by
  pointwise [k0_pay51, k0_pay41]
  simp only [pay50_at h70 h88 hq hfr hls, h78, hd, hdl, ← EReal.coe_mul, coe_sum, ← EReal.coe_sub, zero_add]
  rfl

include h70 h78 h88 hq hd hfr hls hdl in
theorem pay52_at (r t : Fin 1024) : k0_pay52 k0_pay25 v70 v78 v88 (k0_pay40 q) (k0_pay41 d) fr ls dl (ix2 r t) = ((ds (wd ka Q Fk Fr Ls) va C Dl r t : ℝ) : EReal) := by
  pointwise [k0_pay52]
  exact pay51_at h70 h78 h88 hq hd hfr hls hdl r t

include h70 h78 h88 hq hd hfr hls hdl in
theorem pay53_at (r : Fin 1024) : k0_pay53 k0_pay25 v70 v78 v88 k0_pay39 (k0_pay40 q) (k0_pay41 d) fr ls dl (ix2 r 0) = ((∑ t, ds (wd ka Q Fk Fr Ls) va C Dl r t : ℝ) : EReal) := by
  pointwise [k0_pay53, k0_pay39]
  simp only [pay51_at h70 h78 h88 hq hd hfr hls hdl, coe_sum, zero_add, Ideal.ofBits_zero_f32]

end Diag

section DiagSums
variable {w : FVec Ideal S1024x1024 .bf16} {W : Fin 1024 → Fin 1024 → ℝ} (hw : ∀ r t, w (ix2 r t) = ((W r t : ℝ) : EReal)) {q : Vec Ideal S1024x128 .bf16} {d : Vec Ideal S1024x128 .f32}
  {v76 : FVec Ideal S128x1024 .bf16} {ka Q C : Fin 1024 → Fin 128 → ℝ} (h76 : ∀ l r, v76 (ix2 l r) = ((ka r l : ℝ) : EReal)) (hq : ∀ t l, q (ix2 t l) = ((Q t l : ℝ) : EReal)) (hd : ∀ t l, d (ix2 t l) = ((C t l : ℝ) : EReal))

include hw hd in
theorem pay55_at (r : Fin 1024) (l : Fin 128) : k0_pay55 k0_pay38 (k0_pay41 d) w (ix2 r l) = ((∑ t, W r t * C t l : ℝ) : EReal) := by
  pointwise [k0_pay55, k0_pay38, k0_pay41]
  simp only [hw, hd, ← EReal.coe_mul, coe_sum, zero_add, Ideal.ofBits_zero_f32]

include hw hq in
theorem pay56_at (r : Fin 1024) (l : Fin 128) : k0_pay56 k0_pay37 (k0_pay40 q) w (ix2 r l) = ((∑ t, W r t * Q t l : ℝ) : EReal) := by
  pointwise [k0_pay56, k0_pay37, k0_pay40]
  simp only [hw, hq, ← EReal.coe_mul, coe_sum, zero_add, Ideal.ofBits_zero_f32]

include hw h76 in
theorem pay57_at (x D : FVec Ideal S128x1024 .f32) (l : Fin 128) (t : Fin 1024) : k0_pay57 v76 x w D (ix2 l t)
    = D (ix2 l t) + (x (ix2 l t) + ((∑ r, ka r l * W r t : ℝ) : EReal)) := by
  pointwise [k0_pay57]
  simp only [hw, h76, ← EReal.coe_mul, coe_sum, zero_add]

end DiagSums

/-! ## The heads' lanes -/

theorem pay26_at (r : Fin 1024) (l : Fin 128) : k0_pay26 (ix2 r l) = if l.val / 64 = 0 then 1#1 else 0#1 := by
  pointwise [k0_pay26]
  revert l
  decide +kernel

theorem lane_at (r : Fin 1024) (l : Fin 128) : (iota .tc S1024x128 32 [1] iota_S1024x128_d1_w32) (ix2 r l) = BitVec.ofNat 32 l.val := by
  pointwise []

section Lane
variable {v9 : IVec S1024x128 32} (h9 : ∀ r l, v9 (ix2 r l) = BitVec.ofNat 32 l.val)
include h9

theorem pay27_at (r : Fin 1024) (l : Fin 128) : k0_pay27 v9 (ix2 r l) = if l.val / 64 = 1 then 1#1 else 0#1 := by
  pointwise [k0_pay27]
  simp only [h9]
  revert l
  decide +kernel

theorem pay72_at (r : Fin 1024) (l : Fin 128) : k0_pay72 v9 (ix2 r l) = if l.val / 64 = 0 then 1#1 else 0#1 := by
  pointwise [k0_pay72]
  simp only [h9]
  revert l
  decide +kernel

end Lane

/-- A head's keys, scaled: its own lanes of the pair's, the others 0. -/
def kms {n : ℕ} (K : Fin n → Fin 128 → ℝ) (a : ℕ) (r : Fin n) (l : Fin 128) : ℝ := if l.val / 64 = a then K r l * (1 / 8) else 0
/-- A head's values. -/
def vms {n : ℕ} (V : Fin n → Fin 128 → ℝ) (a : ℕ) (r : Fin n) (l : Fin 128) : ℝ := if l.val / 64 = a then V r l else 0

section Lanes
variable {x2 x3 : Vec Ideal S1024x128 .bf16} {x4 : Vec Ideal S1024x128 .f32} {K V F : Fin 1024 → Fin 128 → ℝ} (hk : ∀ r l, x2 (ix2 r l) = ((K r l : ℝ) : EReal)) (hv : ∀ r l, x3 (ix2 r l) = ((V r l : ℝ) : EReal))
  (hf : ∀ r l, x4 (ix2 r l) = ((F r l : ℝ) : EReal))

include hk in
theorem w70_at (r : Fin 1024) (l : Fin 128) : w70 x2 (ix2 r l) = ((kms K 0 r l : ℝ) : EReal) := by
  pointwise [w70, k0_pay28, k0_pay22]
  simp only [pay26_at, hk, eighth_bf16, kms, select_if, ← EReal.coe_mul]
  split_ifs <;> rfl

include hk in
theorem w74_gen {v9 : IVec S1024x128 32} (h9 : ∀ r l, v9 (ix2 r l) = BitVec.ofNat 32 l.val) (r : Fin 1024) (l : Fin 128) : k0_pay29 (k0_pay22 x2) v9 (ix2 r l) = ((kms K 1 r l : ℝ) : EReal) := by
  pointwise [k0_pay29, k0_pay22]
  simp only [pay27_at h9, hk, eighth_bf16, kms, select_if, ← EReal.coe_mul]
  split_ifs <;> rfl

include hk in
theorem w74_at (r : Fin 1024) (l : Fin 128) : w74 x2 (ix2 r l) = ((kms K 1 r l : ℝ) : EReal) := w74_gen hk lane_at _ _

include hk in
theorem w75_at (l : Fin 128) (r : Fin 1024) : w75 x2 (ix2 l r) = ((kms K 0 r l : ℝ) : EReal) := by
  pointwise [w75, k0_pay30, k0_pay28, k0_pay22]
  simp only [pay26_at, hk, eighth_bf16, kms, select_if, ← EReal.coe_mul]
  split_ifs <;> rfl

include hk in
theorem w76_gen {v9 : IVec S1024x128 32} (h9 : ∀ r l, v9 (ix2 r l) = BitVec.ofNat 32 l.val) (l : Fin 128) (r : Fin 1024) : k0_pay31 (k0_pay22 x2) v9 (ix2 l r) = ((kms K 1 r l : ℝ) : EReal) := by
  pointwise [k0_pay31, k0_pay29, k0_pay22]
  simp only [pay27_at h9, hk, eighth_bf16, kms, select_if, ← EReal.coe_mul]
  split_ifs <;> rfl

include hk in
theorem w76_at (l : Fin 128) (r : Fin 1024) : w76 x2 (ix2 l r) = ((kms K 1 r l : ℝ) : EReal) := w76_gen hk lane_at _ _

include hv in
theorem w78_at (r : Fin 1024) (l : Fin 128) : w78 x3 (ix2 r l) = ((vms V 0 r l : ℝ) : EReal) := by
  pointwise [w78, k0_pay32, k0_pay23]
  simp only [pay26_at, hv, vms, select_if]
  split_ifs <;> rfl

include hv in
theorem w80_gen {v9 : IVec S1024x128 32} (h9 : ∀ r l, v9 (ix2 r l) = BitVec.ofNat 32 l.val) (r : Fin 1024) (l : Fin 128) : k0_pay33 (k0_pay23 x3) v9 (ix2 r l) = ((vms V 1 r l : ℝ) : EReal) := by
  pointwise [k0_pay33, k0_pay23]
  simp only [pay27_at h9, hv, vms, select_if]
  split_ifs <;> rfl

include hv in
theorem w80_at (r : Fin 1024) (l : Fin 128) : w80 x3 (ix2 r l) = ((vms V 1 r l : ℝ) : EReal) := w80_gen hv lane_at _ _

include hf in
theorem w88_gen {v9 : IVec S1024x128 32} (h9 : ∀ r l, v9 (ix2 r l) = BitVec.ofNat 32 l.val) (p : Fin 4) (r : Fin 1024) : k0_pay35 (k0_pay24 x4) (k0_pay34 (BitVec.ofNat 32 p.val) v9) (ix2 r 0) = ((F r ⟨2 * p.val, by omega⟩ : ℝ) : EReal) := by
  have e : ∀ l : Fin 128, IntOp.cmpi .eq (BitVec.ofNat 32 l.val) (Scalar.addi (Scalar.muli 2#32 (BitVec.ofNat 32 p.val)) 0#32) = if l = ⟨2 * p.val, by omega⟩ then 1#1 else 0#1 := by
    revert p
    decide +kernel
  pointwise [k0_pay35, k0_pay34, k0_pay24]
  simp only [h9, e, select_if, hf, zero_add]
  rw [Finset.sum_ite_eq' Finset.univ _ _, if_pos (Finset.mem_univ _)]

include hf in
theorem w88_at (i : grid0.Coords) (r : Fin 1024) : w88 i x4 (ix2 r 0) = ((F r ⟨2 * (i 0).val, by have : (i 0).val < 4 := (i 0).isLt; omega⟩ : ℝ) : EReal) := w88_gen hf lane_at (i 0) r

include hf in
theorem w96_gen {v9 : IVec S1024x128 32} (h9 : ∀ r l, v9 (ix2 r l) = BitVec.ofNat 32 l.val) (p : Fin 4) (r : Fin 1024) : k0_pay36 (BitVec.ofNat 32 p.val) (k0_pay24 x4) v9 (ix2 r 0) = ((F r ⟨2 * p.val + 1, by omega⟩ : ℝ) : EReal) := by
  have e : ∀ l : Fin 128, IntOp.cmpi .eq (BitVec.ofNat 32 l.val) (Scalar.addi (Scalar.muli 2#32 (BitVec.ofNat 32 p.val)) 1#32) = if l = ⟨2 * p.val + 1, by omega⟩ then 1#1 else 0#1 := by
    revert p
    decide +kernel
  pointwise [k0_pay36, k0_pay24]
  simp only [h9, e, select_if, hf, zero_add]
  rw [Finset.sum_ite_eq' Finset.univ _ _, if_pos (Finset.mem_univ _)]

include hf in
theorem w96_at (i : grid0.Coords) (r : Fin 1024) : w96 i x4 (ix2 r 0) = ((F r ⟨2 * (i 0).val + 1, by have : (i 0).val < 4 := (i 0).isLt; omega⟩ : ℝ) : EReal) := w96_gen hf lane_at (i 0) r

end Lanes

/-! ## What is written at the end -/

section Ends
variable {v9 : IVec S1024x128 32} (h9 : ∀ r l, v9 (ix2 r l) = BitVec.ofNat 32 l.val)
include h9

theorem pay73_at (a b : FVec Ideal S1024x128 .f32) (r : Fin 1024) (l : Fin 128) (x : ℝ) (hx : (if l.val / 64 = 0 then a (ix2 r l) else b (ix2 r l)) = ((x : ℝ) : EReal)) :
    k0_pay73 v9 a b (ix2 r l) = ((x * (1 / 8) : ℝ) : EReal) := by
  pointwise [k0_pay73]
  simp only [pay72_at h9, select_if, hx, eighth_f32, ← EReal.coe_mul]

theorem pay74_at (a b : FVec Ideal S1024x128 .f32) (r : Fin 1024) (l : Fin 128) :
    k0_pay74 v9 a b (ix2 r l) = if l.val / 64 = 0 then a (ix2 r l) else b (ix2 r l) := by
  pointwise [k0_pay74]
  simp only [pay72_at h9, select_if]

theorem pay75_at (a b : FVec Ideal S1024x1 .f32) (r : Fin 1024) (l : Fin 128) (x : ℝ) (hx : (if l.val / 64 = 0 then a (ix2 r 0) else b (ix2 r 0)) = ((x : ℝ) : EReal)) :
    k0_pay75 v9 a b (ix2 r l) = ((-x : ℝ) : EReal) := by
  pointwise [k0_pay75]
  simp only [pay72_at h9, select_if, hx, zero_sub]
  rfl

end Ends

end Cert.KernelIdeal.Attn

end
-- ==== Proof.Model.lean ====
/- The attention of the step over the real numbers: scores, their row maximum, the softmax weights, and the gradient with respect to the scores. -/
module

public import Idealize.ShloMosaic.PureOps.Ideal

@[expose] public section

noncomputable section

namespace Cert.Attention

/-- The five inputs as real functions: queries, keys, values and the incoming gradient by (row, head, lane), the running log-gate by (row, head). -/
structure Ins where
  q : Fin 8192 → Fin 8 → Fin 64 → ℝ
  k : Fin 8192 → Fin 8 → Fin 64 → ℝ
  v : Fin 8192 → Fin 8 → Fin 64 → ℝ
  f : Fin 8192 → Fin 8 → ℝ
  c : Fin 8192 → Fin 8 → Fin 64 → ℝ

namespace Ins

variable (I : Ins)

/-- The score of key `s` for query `t`, before the mask. -/
def sc (h : Fin 8) (t s : Fin 8192) : ℝ := (∑ d, I.q t h d * I.k s h d) * (1 / 8) + I.f t h - I.f s h

/-- The score after the mask: −∞ at later keys. -/
def ms (h : Fin 8) (t s : Fin 8192) : EReal := if s ≤ t then ((I.sc h t s : ℝ) : EReal) else ⊥

/-- The row maximum of the masked scores. -/
def top (h : Fin 8) (t : Fin 8192) : ℝ := (Finset.fold max ⊥ (fun s => I.ms h t s) Finset.univ).toReal

/-- The unnormalised weight. -/
def e (h : Fin 8) (t s : Fin 8192) : ℝ := if s ≤ t then Real.exp (I.sc h t s - I.top h t) else 0

/-- The row sum of the unnormalised weights. -/
def z (h : Fin 8) (t : Fin 8192) : ℝ := ∑ s, I.e h t s

/-- The logarithm of the row sum of the weights, the maximum put back. -/
def lse (h : Fin 8) (t : Fin 8192) : ℝ := I.top h t + Real.log (I.z h t)

/-- The softmax weight. -/
def p (h : Fin 8) (t s : Fin 8192) : ℝ := I.e h t s / I.z h t

/-- The gradient with respect to the weight. -/
def dp (h : Fin 8) (t s : Fin 8192) : ℝ := ∑ d, I.c t h d * I.v s h d

/-- The incoming gradient against the attention's output. -/
def y (h : Fin 8) (t : Fin 8192) : ℝ := ∑ d, I.c t h d * ∑ s, I.v s h d * I.p h t s

/-- The gradient with respect to the score. -/
def ds (h : Fin 8) (t s : Fin 8192) : ℝ := I.p h t s * (I.dp h t s - I.y h t)

theorem fold_top (h : Fin 8) (t : Fin 8192) : Finset.fold max ⊥ (fun s => I.ms h t s) Finset.univ = ((I.top h t : ℝ) : EReal) := by
  refine (EReal.coe_toReal ?_ ?_).symm
  · refine ne_of_lt ?_
    rw [Finset.fold_max_lt]
    refine ⟨bot_lt_top, fun s _ => ?_⟩
    unfold ms
    split_ifs
    · exact EReal.coe_lt_top _
    · exact bot_lt_top
  · refine ne_of_gt ?_
    rw [Finset.lt_fold_max]
    exact Or.inr ⟨t, Finset.mem_univ _, by rw [ms, if_pos le_rfl]; exact EReal.bot_lt_coe _⟩

theorem e_nonneg (h : Fin 8) (t s : Fin 8192) : 0 ≤ I.e h t s := by
  unfold e
  split_ifs
  · exact (Real.exp_pos _).le
  · exact le_rfl

theorem z_pos (h : Fin 8) (t : Fin 8192) : 0 < I.z h t := by
  refine Finset.sum_pos' (fun s _ => I.e_nonneg h t s) ⟨t, Finset.mem_univ _, ?_⟩
  rw [e, if_pos le_rfl]
  exact Real.exp_pos _

theorem sum_p (h : Fin 8) (t : Fin 8192) : ∑ s, I.p h t s = 1 := by
  unfold p
  rw [← Finset.sum_div]
  exact div_self (I.z_pos h t).ne'

theorem y_eq (h : Fin 8) (t : Fin 8192) : I.y h t = ∑ s, I.p h t s * I.dp h t s := by
  unfold y dp
  simp only [Finset.mul_sum]
  rw [Finset.sum_comm]
  exact Finset.sum_congr rfl fun s _ => Finset.sum_congr rfl fun d _ => by ring

/-- The gradient with respect to the scores of one row sums to zero. -/
theorem sum_ds (h : Fin 8) (t : Fin 8192) : ∑ s, I.ds h t s = 0 := by
  unfold ds
  simp only [mul_sub]
  rw [Finset.sum_sub_distrib, ← Finset.sum_mul, I.sum_p, one_mul, I.y_eq, sub_self]

/-- The weight, from the score and the saved logarithm of the row sum. -/
theorem p_exp (h : Fin 8) (t s : Fin 8192) :
    I.p h t s = if s ≤ t then Real.exp (I.sc h t s - I.lse h t) else 0 := by
  unfold p e lse
  split_ifs
  · rw [← sub_sub, Real.exp_sub (I.sc h t s - I.top h t), Real.exp_log (I.z_pos h t)]
  · exact zero_div _

/-- The exponential of a masked score less the row maximum. -/
theorem exp_ms (h : Fin 8) (t s : Fin 8192) : Idealize.ShloMosaic.Ideal.exp (I.ms h t s - ((I.top h t : ℝ) : EReal)) = ((I.e h t s : ℝ) : EReal) := by
  unfold ms e
  split_ifs
  · rw [← EReal.coe_sub, Idealize.ShloMosaic.Ideal.exp_coe]
  · rw [EReal.bot_sub]
    exact Idealize.ShloMosaic.Ideal.exp_bot

end Ins

end Cert.Attention

end
-- ==== Proof.Host.lean ====
/- What the host operations leave in the arrays that the kernel reads, over the reals. -/
module

public import proofs.«01_k».proof.Proof.Gen.KernelIdeal.Frame
public import proofs.«01_k».proof.Proof.Tile
public import proofs.«01_k».proof.Proof.Model
public import Idealize.ShloMosaic.Lib.StableHlo.ReadAt
public import Idealize.ShloMosaic.Lib.Pointwise
public import Idealize.ShloMosaic.Lib.WordCmp

@[expose] public section

set_option maxRecDepth 16384

noncomputable section

namespace Cert.KernelIdeal.Attn

open Idealize.ShloMosaic Idealize.ShloMosaic.TcCoe Idealize.ShloMosaic.Tactic
open Idealize.SL.Sem
open Cert.KernelIdeal.Gen

variable (m : (ℓ : Loc nD τ sig) → Buf (Elt Ideal) ℓ) (c : Dev nD)

/-- Device `c`'s five arguments are the real functions of `I`. -/
structure Inputs (I : Cert.Attention.Ins) : Prop where
  q : ∀ t h d, m (c, main_arg0) (ix3 t h d) = ((I.q t h d : ℝ) : EReal)
  k : ∀ t h d, m (c, main_arg1) (ix3 t h d) = ((I.k t h d : ℝ) : EReal)
  v : ∀ t h d, m (c, main_arg2) (ix3 t h d) = ((I.v t h d : ℝ) : EReal)
  f : ∀ t h, m (c, main_arg3) (ix2 t h) = ((I.f t h : ℝ) : EReal)
  c : ∀ t h d, m (c, main_arg4) (ix3 t h d) = ((I.c t h d : ℝ) : EReal)

/-! ## The stages as functions of plainly typed arrays -/

abbrev Sq : Type := FVec Ideal S8x8192x8192 .f32
abbrev Row : Type := FVec Ideal S8x8192 .f32
abbrev Lanes : Type := FVec Ideal S8192x8x64 .f32
abbrev Pairs : Type := FVec Ideal S4x2x8192 .f32

/-- A row's value at each of its columns. -/
def spread (y : Row) : Sq := broadcastInDim S8x8192x8192 ![0, 1, 2] bcast_S8x8192x1_S8x8192x8192_0_1_2 (broadcastInDim S8x8192x1 ![0, 1] bcast_S8x8192_S8x8192x1_0_1 y)

/-- The row maximum. -/
def rowMax (x : Sq) : Row := Host.reduce FloatOps.maximumf x (constant S_ .f32 0xFF800000#32) reducesTo_S8x8192x8192_S8x8192_d2 h_S_

/-- The row sum. -/
def rowSum (x : Sq) : Row := Host.reduceAdd x (constant S_ .f32 0x00000000#32) reducesTo_S8x8192x8192_S8x8192_d2 h_S_

/-- The exponential of the scores less their row maximum. -/
def expo (x : Sq) (y : Row) : Sq := Host.exp (subf x (spread y))

/-- The weights from the exponentials and their row sum. -/
def share (x : Sq) (y : Row) : Sq := Host.divf x (spread y)

/-- The row maximum and the logarithm of the row sum, by pair of heads. -/
def logSum (x y : Row) : Pairs := shapeCast _ (addf x (Host.log y)) shapeCasts_S8x8192_S4x2x8192

/-- The incoming gradient against the weighted sum of the values, by pair of heads. -/
def against (g v : Lanes) (x : Sq) : Pairs :=
  shapeCast _ (transpose S8x8192 [1, 0] (Host.reduceAdd (mulf g (transpose S8192x8x64 [2, 0, 1] (Host.dotGeneral dot_S8192x8x64_S8x8192x8192_S8x64x8192_0_2_2_1_1_0 none v x) transposes_S8x64x8192_S8192x8x64_2_0_1)) (constant S_ .f32 0x00000000#32) reducesTo_S8192x8x64_S8192x8_d2 h_S_) transposes_S8192x8_S8x8192_1_0) shapeCasts_S8x8192_S4x2x8192

theorem v19_eq : V m c main_v19 = rowMax (V m c main_v18) := by
  unfold V rowMax
  after_reads_simp

theorem v23_eq : V m c main_v23 = expo (V m c main_v18) (V m c main_v19) := by
  unfold V expo spread
  after_reads_simp

theorem v24_eq : V m c main_v24 = rowSum (V m c main_v23) := by
  unfold V rowSum
  after_reads_simp

theorem v45_eq : V m c main_v45 = logSum (V m c main_v19) (V m c main_v24) := by
  unfold V logSum
  after_reads_simp
  rfl

theorem v29_eq : V m c main_v29 = share (V m c main_v23) (V m c main_v24) := by
  unfold V share spread
  after_reads_simp

theorem v46_eq : V m c main_v46 = against (m (c, main_arg4)) (m (c, main_arg2)) (V m c main_v29) := by
  unfold V against
  after_reads_simp
  rfl

/-! ## The stages over the reals -/

variable {m c} {I : Cert.Attention.Ins}

theorem neg_inf : Ideal.ofBits .f32 0xFF800000#32 = (⊥ : EReal) := by
  simp [Ideal.ofBits, Ideal.ieee]

/-- A masked score, from its three summands. -/
theorem score_masked (h : Fin 8) (t s : Fin 8192) (x : EReal) (hx : x = ((I.sc h t s : ℝ) : EReal)) :
    Scalar.select (IntOp.cmpi .sle (BitVec.ofNat 32 s.val) (BitVec.ofNat 32 t.val)) x (⊥ : EReal) = I.ms h t s := by
  have e : IntOp.cmpi .sle (BitVec.ofNat 32 s.val) (BitVec.ofNat 32 t.val) = if s.val ≤ t.val then 1#1 else 0#1 := by
    word_cmp
    split_ifs with h <;> simp [h]
  rw [e, hx]
  unfold Cert.Attention.Ins.ms
  by_cases h : s ≤ t
  · rw [if_pos h, if_pos (show s.val ≤ t.val from h)]; rfl
  · rw [if_neg h, if_neg (show ¬ s.val ≤ t.val from h)]; rfl

theorem rowMax_at (x : Sq) (e : ∀ h t s, x (ix3 h t s) = I.ms h t s) (h : Fin 8) (t : Fin 8192) : rowMax x (ix2 h t) = ((I.top h t : ℝ) : EReal) := by
  unfold rowMax
  pointwise
  simp only [e, neg_inf]
  exact I.fold_top h t

theorem expo_at (x : Sq) (y : Row) (e : ∀ h t s, x (ix3 h t s) = I.ms h t s) (e' : ∀ h t, y (ix2 h t) = ((I.top h t : ℝ) : EReal)) (h : Fin 8) (t s : Fin 8192) :
    expo x y (ix3 h t s) = ((I.e h t s : ℝ) : EReal) := by
  unfold expo spread
  pointwise
  rw [e, e', I.exp_ms]

theorem rowSum_at (x : Sq) (e : ∀ h t s, x (ix3 h t s) = ((I.e h t s : ℝ) : EReal)) (h : Fin 8) (t : Fin 8192) : rowSum x (ix2 h t) = ((I.z h t : ℝ) : EReal) := by
  unfold rowSum
  pointwise
  simp only [e, coe_sum, Ideal.ofBits_zero_f32, zero_add]
  rfl

theorem logSum_at (x y : Row) (e : ∀ h t, x (ix2 h t) = ((I.top h t : ℝ) : EReal)) (e' : ∀ h t, y (ix2 h t) = ((I.z h t : ℝ) : EReal)) (p : Fin 4) (a : Fin 2) (t : Fin 8192) :
    logSum x y (ix3 p a t) = ((I.lse ⟨p.val * 2 + a.val, by omega⟩ t : ℝ) : EReal) := by
  unfold logSum
  pointwise
  rw [e, e', Ideal.log_coe, if_neg (not_le.mpr (I.z_pos _ _)), ← EReal.coe_add]
  rfl

theorem share_at (x : Sq) (y : Row) (e : ∀ h t s, x (ix3 h t s) = ((I.e h t s : ℝ) : EReal)) (e' : ∀ h t, y (ix2 h t) = ((I.z h t : ℝ) : EReal)) (h : Fin 8) (t s : Fin 8192) :
    share x y (ix3 h t s) = ((I.p h t s : ℝ) : EReal) := by
  unfold share spread
  pointwise
  rw [e, e', Ideal.div_coe (I.z_pos h t).ne', ← EReal.coe_mul, mul_one_div]
  rfl

theorem against_at (g v : Lanes) (x : Sq) (eg : ∀ t h d, g (ix3 t h d) = ((I.c t h d : ℝ) : EReal)) (ev : ∀ t h d, v (ix3 t h d) = ((I.v t h d : ℝ) : EReal))
    (e : ∀ h t s, x (ix3 h t s) = ((I.p h t s : ℝ) : EReal)) (p : Fin 4) (a : Fin 2) (t : Fin 8192) :
    against g v x (ix3 p a t) = ((I.y ⟨p.val * 2 + a.val, by omega⟩ t : ℝ) : EReal) := by
  unfold against
  pointwise
  simp only [e, eg, ev, ← EReal.coe_mul, coe_sum, Ideal.ofBits_zero_f32, zero_add]
  rfl

variable (H : Inputs m c I)
include H

theorem v18_at (h : Fin 8) (t s : Fin 8192) : V m c main_v18 (ix3 h t s) = I.ms h t s := by
  unfold V
  after_reads_at
  rw [show (id (constant (F := Ideal) S_ .f32 4286578688#32) : S_.Idx → EReal) ix0 = (⊥ : EReal) from neg_inf]
  refine score_masked h t s _ ?_
  simp only [H.q, H.k, H.f, ← EReal.coe_mul, coe_sum, ← EReal.coe_sub, ← EReal.coe_add, eighth_f32]
  rfl

theorem v19_at (h : Fin 8) (t : Fin 8192) : V m c main_v19 (ix2 h t) = ((I.top h t : ℝ) : EReal) := by
  rw [v19_eq]
  exact rowMax_at _ (v18_at H) h t

theorem v23_at (h : Fin 8) (t s : Fin 8192) : V m c main_v23 (ix3 h t s) = ((I.e h t s : ℝ) : EReal) := by
  rw [v23_eq]
  exact expo_at _ _ (v18_at H) (v19_at H) h t s

theorem v24_at (h : Fin 8) (t : Fin 8192) : V m c main_v24 (ix2 h t) = ((I.z h t : ℝ) : EReal) := by
  rw [v24_eq]
  exact rowSum_at _ (v23_at H) h t

theorem v45_at (p : Fin 4) (a : Fin 2) (t : Fin 8192) : V m c main_v45 (ix3 p a t) = ((I.lse ⟨p.val * 2 + a.val, by omega⟩ t : ℝ) : EReal) := by
  rw [v45_eq]
  exact logSum_at _ _ (v19_at H) (v24_at H) p a t

theorem v29_at (h : Fin 8) (t s : Fin 8192) : V m c main_v29 (ix3 h t s) = ((I.p h t s : ℝ) : EReal) := by
  rw [v29_eq]
  exact share_at _ _ (v23_at H) (v24_at H) h t s

theorem v46_at (p : Fin 4) (a : Fin 2) (t : Fin 8192) : V m c main_v46 (ix3 p a t) = ((I.y ⟨p.val * 2 + a.val, by omega⟩ t : ℝ) : EReal) := by
  rw [v46_eq]
  exact against_at _ _ _ H.c H.v (v29_at H) p a t

end Cert.KernelIdeal.Attn

end
-- ==== Proof.Point.lean ====
/- What one grid point of the attention gradient leaves, over the reals: of its tile of keys the sums over every query at or below each key,
   and of the gradient of q the part of this tile of keys. -/
module

public import proofs.«01_k».proof.Proof.Tile

@[expose] public section

set_option maxRecDepth 16384

noncomputable section

namespace Cert.KernelIdeal.Attn

open Idealize.ShloMosaic Idealize.ShloMosaic.Tactic
open Cert.KernelIdeal.Gen

/-- What a pair of heads reads, over the reals: 128 lanes of q, of the output's gradient, of k and of v, and of each head the running log-gates,
    the log of the row's sum and the row's correction. -/
structure Pair where
  Q : Fin 8192 → Fin 128 → ℝ
  C : Fin 8192 → Fin 128 → ℝ
  K : Fin 8192 → Fin 128 → ℝ
  V : Fin 8192 → Fin 128 → ℝ
  G : Fin 2 → Fin 8192 → ℝ
  L : Fin 2 → Fin 8192 → ℝ
  Y : Fin 2 → Fin 8192 → ℝ

namespace Pair
variable (D : Pair)

/-- The weight that query `t` gives key `s`, in head `a` of the pair. -/
def P (a : Fin 2) (s t : Fin 8192) : ℝ := if s.val ≤ t.val then Real.exp (∑ l, kms D.K a s l * D.Q t l + (D.G a t - D.G a s) - D.L a t) else 0
/-- The score's gradient there. -/
def S (a : Fin 2) (s t : Fin 8192) : ℝ := D.P a s t * (∑ l, vms D.V a s l * D.C t l - D.Y a t)
/-- The part of key tile `j` in the gradient of q. -/
def T (j : Fin 8) (l : Fin 128) (t : Fin 8192) : ℝ := ∑ r, kms D.K 0 (at8 j r) l * D.S 0 (at8 j r) t + ∑ r, kms D.K 1 (at8 j r) l * D.S 1 (at8 j r) t

theorem P_after {a : Fin 2} {s t : Fin 8192} (h : t.val < s.val) : D.P a s t = 0 := if_neg (by omega)
theorem S_after {a : Fin 2} {s t : Fin 8192} (h : t.val < s.val) : D.S a s t = 0 := by rw [S, D.P_after h, zero_mul]

theorem at8_lt {n j : Fin 8} (h : n.val < j.val) (r t : Fin 1024) : (at8 n t).val < (at8 j r).val := by
  have := t.isLt
  show n.val * 1024 + t.val < j.val * 1024 + r.val
  omega

theorem T_before {j n : Fin 8} (h : n.val < j.val) (l : Fin 128) (t : Fin 1024) : D.T j l (at8 n t) = 0 := by
  unfold T
  simp only [D.S_after (at8_lt h _ _), mul_zero, Finset.sum_const_zero, add_zero]

/-- Below the diagonal every key comes before the query. -/
theorem P_below (a : Fin 2) {j n : Fin 8} (h : j.val < n.val) (r t : Fin 1024) :
    Real.exp (sc (kms (fun r => D.K (at8 j r)) a) (fun t => D.Q (at8 n t)) (fun r => D.G a (at8 j r)) (fun t => D.G a (at8 n t)) (fun t => D.L a (at8 n t)) r t) = D.P a (at8 j r) (at8 n t) :=
  (if_pos (at8_lt h t r).le).symm

theorem P_diag (a : Fin 2) (j : Fin 8) (r t : Fin 1024) :
    wd (kms (fun r => D.K (at8 j r)) a) (fun t => D.Q (at8 j t)) (fun r => D.G a (at8 j r)) (fun t => D.G a (at8 j t)) (fun t => D.L a (at8 j t)) r t = D.P a (at8 j r) (at8 j t) := by
  unfold wd P
  refine if_congr ?_ rfl rfl
  show r.val ≤ t.val ↔ j.val * 1024 + r.val ≤ j.val * 1024 + t.val
  omega

theorem S_below (a : Fin 2) {j n : Fin 8} (h : j.val < n.val) (r t : Fin 1024) :
    ds (fun r t => Real.exp (sc (kms (fun r => D.K (at8 j r)) a) (fun t => D.Q (at8 n t)) (fun r => D.G a (at8 j r)) (fun t => D.G a (at8 n t)) (fun t => D.L a (at8 n t)) r t))
      (vms (fun r => D.V (at8 j r)) a) (fun t => D.C (at8 n t)) (fun t => D.Y a (at8 n t)) r t = D.S a (at8 j r) (at8 n t) := by
  unfold ds S
  exact congrArg (· * _) (D.P_below a h r t)

theorem S_diag (a : Fin 2) (j : Fin 8) (r t : Fin 1024) :
    ds (wd (kms (fun r => D.K (at8 j r)) a) (fun t => D.Q (at8 j t)) (fun r => D.G a (at8 j r)) (fun t => D.G a (at8 j t)) (fun t => D.L a (at8 j t)))
      (vms (fun r => D.V (at8 j r)) a) (fun t => D.C (at8 j t)) (fun t => D.Y a (at8 j t)) r t = D.S a (at8 j r) (at8 j t) := by
  unfold ds S
  exact congrArg (· * _) (D.P_diag a j r t)

end Pair

/-! ## Sums tile by tile -/

/-- The sum over tile `j` and `k` tiles below it. -/
def tiles (j : Fin 8) (f : Fin 8192 → ℝ) : ℕ → ℝ
  | 0 => ∑ t, f (at8 j t)
  | k + 1 => tiles j f k + if h : j.val + 1 + k < 8 then ∑ t, f (at8 ⟨j.val + 1 + k, h⟩ t) else 0

theorem tiles_succ (j : Fin 8) (f : Fin 8192 → ℝ) (k : ℕ) (h : j.val + 1 + k < 8) : tiles j f (k + 1) = tiles j f k + ∑ t, f (at8 ⟨j.val + 1 + k, h⟩ t) := by
  rw [tiles, dif_pos h]

theorem sum_tiles (f : Fin 8192 → ℝ) : ∑ t, f t = ∑ n : Fin 8, ∑ t, f (at8 n t) := by
  rw [← Fintype.sum_prod_type' (f := fun n t => f (at8 n t))]
  refine (Fintype.sum_equiv (finProdFinEquiv (m := 8) (n := 1024)) _ _ fun x => ?_).symm
  refine congrArg f (Fin.ext ?_)
  show x.1.val * 1024 + x.2.val = x.2.val + 1024 * x.1.val
  omega

/-- Where nothing lies above tile `j`, the tiles down to the last give the whole sum. -/
theorem tiles_all (j : Fin 8) (f : Fin 8192 → ℝ) (h : ∀ n : Fin 8, n.val < j.val → ∀ t, f (at8 n t) = 0) : tiles j f (7 - j.val) = ∑ t, f t := by
  have h' : ∀ n : Fin 8, n.val < j.val → ∑ t, f (at8 n t) = 0 := fun n hn => Finset.sum_eq_zero fun t _ => h n hn t
  rw [sum_tiles, Fin.sum_univ_eight]
  generalize hg : (fun n => ∑ t, f (at8 n t)) = g at h'
  have hgn : ∀ n, ∑ t, f (at8 n t) = g n := fun n => congrFun hg n
  have h'' : ∀ n : Fin 8, n.val < j.val → g n = 0 := fun n hn => (hgn n).symm.trans (h' n hn)
  clear h h' hg
  match j with
  | 0 => simp [tiles, hgn]
  | 1 => have := h'' 0 (by decide); simp [tiles, hgn, this]
  | 2 => have := h'' 0 (by decide); have := h'' 1 (by decide); simp_all [tiles, hgn]
  | 3 => have := h'' 0 (by decide); have := h'' 1 (by decide); have := h'' 2 (by decide); simp_all [tiles, hgn]
  | 4 => have := h'' 0 (by decide); have := h'' 1 (by decide); have := h'' 2 (by decide); have := h'' 3 (by decide); simp_all [tiles, hgn]
  | 5 => have := h'' 0 (by decide); have := h'' 1 (by decide); have := h'' 2 (by decide); have := h'' 3 (by decide); have := h'' 4 (by decide); simp_all [tiles, hgn]
  | 6 => have := h'' 0 (by decide); have := h'' 1 (by decide); have := h'' 2 (by decide); have := h'' 3 (by decide); have := h'' 4 (by decide); have := h'' 5 (by decide); simp_all [tiles, hgn]
  | 7 => have := h'' 0 (by decide); have := h'' 1 (by decide); have := h'' 2 (by decide); have := h'' 3 (by decide); have := h'' 4 (by decide); have := h'' 5 (by decide); have := h'' 6 (by decide); simp_all [tiles, hgn]

theorem putCols_at {α : Type} (x : S128x8192.Idx → α) (n m : Fin 8) (w : S128x1024.Idx → α) (l : Fin 128) (t : Fin 1024) :
    putCols x n w (ix2 l (at8 m t)) = if m.val = n.val then w (ix2 l t) else x (ix2 l (at8 m t)) := by
  have ht := t.isLt
  have e1 : (m.val * 1024 + t.val) / 1024 = m.val := by omega
  have e2 : (m.val * 1024 + t.val) % 1024 = t.val := by omega
  unfold putCols
  show (if (m.val * 1024 + t.val) / 1024 = n.val then w (ix2 l ⟨(m.val * 1024 + t.val) % 1024, _⟩) else _) = _
  simp only [e1, e2]

/-! ## The grid point -/

/-- The buffers hold the pair's reals: the whole q, gradient, log-gates and row numbers, and tile `jOf i` of the keys. -/
structure Holds (D : Pair) (i : grid0.Coords) (x0 : Vec Ideal S8192x128 .bf16) (x1 : Vec Ideal S8192x128 .f32) (x2 x3 : Vec Ideal S1024x128 .bf16) (x4 : Vec Ideal S1024x128 .f32) (x5 x6 x7 : Vec Ideal S1x2x8192 .f32) : Prop where
  q : ∀ t l, x0 (ix2 t l) = ((D.Q t l : ℝ) : EReal)
  c : ∀ t l, x1 (ix2 t l) = ((D.C t l : ℝ) : EReal)
  k : ∀ r l, x2 (ix2 r l) = ((D.K (at8 (jOf i) r) l : ℝ) : EReal)
  v : ∀ r l, x3 (ix2 r l) = ((D.V (at8 (jOf i) r) l : ℝ) : EReal)
  g0 : ∀ r, w88 i x4 (ix2 r 0) = ((D.G 0 (at8 (jOf i) r) : ℝ) : EReal)
  g1 : ∀ r, w96 i x4 (ix2 r 0) = ((D.G 1 (at8 (jOf i) r) : ℝ) : EReal)
  g : ∀ a t, x5 (ix3 0 a t) = ((D.G a t : ℝ) : EReal)
  s : ∀ a t, x6 (ix3 0 a t) = ((D.L a t : ℝ) : EReal)
  y : ∀ a t, x7 (ix3 0 a t) = ((D.Y a t : ℝ) : EReal)

/-- The carried sums after the diagonal tile and `k` tiles below it. -/
structure AccIs (D : Pair) (j : Fin 8) (acc : Acc Ideal) (k : ℕ) : Prop where
  k0 : ∀ r l, acc.1 (ix2 r l) = ((tiles j (fun t => D.S 0 (at8 j r) t * D.Q t l) k : ℝ) : EReal)
  v0 : ∀ r l, acc.2.1 (ix2 r l) = ((tiles j (fun t => D.P 0 (at8 j r) t * D.C t l) k : ℝ) : EReal)
  f0 : ∀ r, acc.2.2.1 (ix2 r 0) = ((tiles j (fun t => D.S 0 (at8 j r) t) k : ℝ) : EReal)
  k1 : ∀ r l, acc.2.2.2.1 (ix2 r l) = ((tiles j (fun t => D.S 1 (at8 j r) t * D.Q t l) k : ℝ) : EReal)
  v1 : ∀ r l, acc.2.2.2.2.1 (ix2 r l) = ((tiles j (fun t => D.P 1 (at8 j r) t * D.C t l) k : ℝ) : EReal)
  f1 : ∀ r, acc.2.2.2.2.2 (ix2 r 0) = ((tiles j (fun t => D.S 1 (at8 j r) t) k : ℝ) : EReal)

section Point
variable {D : Pair} {i : grid0.Coords} {x0 : Vec Ideal S8192x128 .bf16} {x1 : Vec Ideal S8192x128 .f32} {x2 x3 : Vec Ideal S1024x128 .bf16} {x4 : Vec Ideal S1024x128 .f32} {x5 x6 x7 : Vec Ideal S1x2x8192 .f32}
  (h : Holds D i x0 x1 x2 x3 x4 x5 x6 x7)
include h

theorem step_ok {n : Fin 8} (hn : (jOf i).val < n.val) {acc : Acc Ideal} {k : ℕ} (e : n.val = (jOf i).val + 1 + k) (ha : AccIs D (jOf i) acc k) :
    AccIs D (jOf i) (stepAcc (w70 x2) (w74 x2) (w78 x3) (w80 x3) (w88 i x4) (w96 i x4) x0 x1 x5 x6 x7 n acc) (k + 1) := by
  have hk : (jOf i).val + 1 + k < 8 := e ▸ n.isLt
  obtain rfl : n = ⟨(jOf i).val + 1 + k, hk⟩ := Fin.ext e
  generalize hne : (⟨(jOf i).val + 1 + k, hk⟩ : Fin 8) = n at hn
  have hq : ∀ t l, rows x0 n (ix2 t l) = ((D.Q (at8 n t) l : ℝ) : EReal) := fun t l => h.q _ _
  have hc : ∀ t l, rows x1 n (ix2 t l) = ((D.C (at8 n t) l : ℝ) : EReal) := fun t l => h.c _ _
  have hg : ∀ a t, lrow x5 a n (ix3 0 0 t) = ((D.G a (at8 n t) : ℝ) : EReal) := fun a t => h.g _ _
  have hs : ∀ a t, lrow x6 a n (ix3 0 0 t) = ((D.L a (at8 n t) : ℝ) : EReal) := fun a t => h.s _ _
  have hy : ∀ a t, lrow x7 a n (ix3 0 0 t) = ((D.Y a (at8 n t) : ℝ) : EReal) := fun a t => h.y _ _
  constructor
  · intro r l
    rw [tiles_succ _ _ _ hk, EReal.coe_add, ← ha.k0, hne]
    refine (pay8_at (w70_at h.k) (w78_at h.v) h.g0 hq hc (hg 0) (hs 0) (hy 0) _ r l).trans ?_
    exact congrArg (fun z : ℝ => _ + ((z : ℝ) : EReal)) (Finset.sum_congr rfl fun t _ => congrArg (· * D.Q (at8 n t) l) (D.S_below 0 hn r t))
  · intro r l
    rw [tiles_succ _ _ _ hk, EReal.coe_add, ← ha.v0, hne]
    refine (pay7_at (w70_at h.k) h.g0 hq hc (hg 0) (hs 0) _ r l).trans ?_
    exact congrArg (fun z : ℝ => _ + ((z : ℝ) : EReal)) (Finset.sum_congr rfl fun t _ => congrArg (· * D.C (at8 n t) l) (D.P_below 0 hn r t))
  · intro r
    rw [tiles_succ _ _ _ hk, EReal.coe_add, ← ha.f0, hne]
    refine (pay6_at (w70_at h.k) (w78_at h.v) h.g0 hq hc (hg 0) (hs 0) (hy 0) _ r).trans ?_
    exact congrArg (fun z : ℝ => _ + ((z : ℝ) : EReal)) (Finset.sum_congr rfl fun t _ => D.S_below 0 hn r t)
  · intro r l
    rw [tiles_succ _ _ _ hk, EReal.coe_add, ← ha.k1, hne]
    refine (pay63_at (w74_at h.k) (w80_at h.v) h.g1 hq hc (hg 1) (hs 1) (hy 1) _ r l).trans ?_
    exact congrArg (fun z : ℝ => _ + ((z : ℝ) : EReal)) (Finset.sum_congr rfl fun t _ => congrArg (· * D.Q (at8 n t) l) (D.S_below 1 hn r t))
  · intro r l
    rw [tiles_succ _ _ _ hk, EReal.coe_add, ← ha.v1, hne]
    refine (pay62_at (w74_at h.k) h.g1 hq hc (hg 1) (hs 1) _ r l).trans ?_
    exact congrArg (fun z : ℝ => _ + ((z : ℝ) : EReal)) (Finset.sum_congr rfl fun t _ => congrArg (· * D.C (at8 n t) l) (D.P_below 1 hn r t))
  · intro r
    rw [tiles_succ _ _ _ hk, EReal.coe_add, ← ha.f1, hne]
    refine (pay61_at (w74_at h.k) (w80_at h.v) h.g1 hq hc (hg 1) (hs 1) (hy 1) _ r).trans ?_
    exact congrArg (fun z : ℝ => _ + ((z : ℝ) : EReal)) (Finset.sum_congr rfl fun t _ => D.S_below 1 hn r t)

theorem acc0_ok : AccIs D (jOf i) (acc0 i x0 x1 x2 x3 x4 x5 x6 x7) 0 := by
  have hq : ∀ t l, rows x0 (jOf i) (ix2 t l) = ((D.Q (at8 (jOf i) t) l : ℝ) : EReal) := fun t l => h.q _ _
  have hc : ∀ t l, rows x1 (jOf i) (ix2 t l) = ((D.C (at8 (jOf i) t) l : ℝ) : EReal) := fun t l => h.c _ _
  have hg : ∀ a t, lrow x5 a (jOf i) (ix3 0 0 t) = ((D.G a (at8 (jOf i) t) : ℝ) : EReal) := fun a t => h.g _ _
  have hs : ∀ a t, lrow x6 a (jOf i) (ix3 0 0 t) = ((D.L a (at8 (jOf i) t) : ℝ) : EReal) := fun a t => h.s _ _
  have hy : ∀ a t, lrow x7 a (jOf i) (ix3 0 0 t) = ((D.Y a (at8 (jOf i) t) : ℝ) : EReal) := fun a t => h.y _ _
  have hw := pay42_at (w70_at h.k) h.g0 hq (hg 0) (hs 0)
  have hx := pay43_at (w78_at h.v) hc
  have hw1 := pay54_at (w74_at h.k) h.g1 hq (hg 1) (hs 1)
  have hs1 := pay52_at (w74_at h.k) (w80_at h.v) h.g1 hq hc (hg 1) (hs 1) (hy 1)
  constructor
  · intro r l
    refine (pay48_at hq (hy 0) hw hx r l).trans ?_
    exact congrArg (fun z : ℝ => ((z : ℝ) : EReal)) (Finset.sum_congr rfl fun t _ => congrArg (· * D.Q (at8 (jOf i) t) l) (D.S_diag 0 (jOf i) r t))
  · intro r l
    refine (pay47_at hc hw r l).trans ?_
    exact congrArg (fun z : ℝ => ((z : ℝ) : EReal)) (Finset.sum_congr rfl fun t _ => congrArg (· * D.C (at8 (jOf i) t) l) (D.P_diag 0 (jOf i) r t))
  · intro r
    refine (pay46_at (hy 0) hw hx r).trans ?_
    exact congrArg (fun z : ℝ => ((z : ℝ) : EReal)) (Finset.sum_congr rfl fun t _ => D.S_diag 0 (jOf i) r t)
  · intro r l
    refine (pay56_at hs1 hq r l).trans ?_
    exact congrArg (fun z : ℝ => ((z : ℝ) : EReal)) (Finset.sum_congr rfl fun t _ => congrArg (· * D.Q (at8 (jOf i) t) l) (D.S_diag 1 (jOf i) r t))
  · intro r l
    refine (pay55_at hw1 hc r l).trans ?_
    exact congrArg (fun z : ℝ => ((z : ℝ) : EReal)) (Finset.sum_congr rfl fun t _ => congrArg (· * D.C (at8 (jOf i) t) l) (D.P_diag 1 (jOf i) r t))
  · intro r
    refine (pay53_at (w74_at h.k) (w80_at h.v) h.g1 hq hc (hg 1) (hs 1) (hy 1) r).trans ?_
    exact congrArg (fun z : ℝ => ((z : ℝ) : EReal)) (Finset.sum_congr rfl fun t _ => D.S_diag 1 (jOf i) r t)

theorem accs_ok (k : ℕ) (hk : (jOf i).val + k < 8) : AccIs D (jOf i)
    (accs (w70 x2) (w74 x2) (w78 x3) (w80 x3) (w88 i x4) (w96 i x4) x0 x1 x5 x6 x7 (jOf i) (acc0 i x0 x1 x2 x3 x4 x5 x6 x7) k) k := by
  induction k with
  | zero => exact acc0_ok h
  | succ k ih =>
    have hk' : (jOf i).val + 1 + k < 8 := by omega
    rw [accs_succ _ _ _ _ _ _ _ _ _ _ _ _ _ _ hk']
    exact step_ok h (show (jOf i).val < (jOf i).val + 1 + k by omega) rfl (ih (by omega))

theorem accEnd_ok : AccIs D (jOf i) (accEnd i x0 x1 x2 x3 x4 x5 x6 x7) (7 - (jOf i).val) := accs_ok h _ (by omega)

/-! The gradient of q. -/

theorem stepDq_ok {n : Fin 8} (hn : (jOf i).val < n.val) (X : Vec Ideal S128x8192 .f32) (m : Fin 8) (l : Fin 128) (t : Fin 1024) :
    stepDq (w70 x2) (w74 x2) (w75 x2) (w76 x2) (w78 x3) (w80 x3) (w88 i x4) (w96 i x4) x0 x1 x5 x6 x7 n X (ix2 l (at8 m t))
      = if m.val = n.val then X (ix2 l (at8 m t)) + ((D.T (jOf i) l (at8 m t) : ℝ) : EReal) else X (ix2 l (at8 m t)) := by
  have hq : ∀ t l, rows x0 n (ix2 t l) = ((D.Q (at8 n t) l : ℝ) : EReal) := fun t l => h.q _ _
  have hc : ∀ t l, rows x1 n (ix2 t l) = ((D.C (at8 n t) l : ℝ) : EReal) := fun t l => h.c _ _
  have hg : ∀ a t, lrow x5 a n (ix3 0 0 t) = ((D.G a (at8 n t) : ℝ) : EReal) := fun a t => h.g _ _
  have hs : ∀ a t, lrow x6 a n (ix3 0 0 t) = ((D.L a (at8 n t) : ℝ) : EReal) := fun a t => h.s _ _
  have hy : ∀ a t, lrow x7 a n (ix3 0 0 t) = ((D.Y a (at8 n t) : ℝ) : EReal) := fun a t => h.y _ _
  unfold stepDq
  rw [putCols_at]
  split_ifs with hm
  · obtain rfl : m = n := Fin.ext hm
    refine (pay64_at (w74_at h.k) (w76_at h.k) (w80_at h.v) h.g1 hq hc (hg 1) (hs 1) (hy 1) _ _ l t).trans ?_
    rw [pay9_at (w70_at h.k) (w75_at h.k) (w78_at h.v) h.g0 hq hc (hg 0) (hs 0) (hy 0) l t, ← EReal.coe_add]
    exact congrArg (fun z : ℝ => _ + ((z : ℝ) : EReal)) (congrArg₂ (· + ·) (Finset.sum_congr rfl fun r _ => congrArg (_ * ·) (D.S_below 0 hn r t)) (Finset.sum_congr rfl fun r _ => congrArg (_ * ·) (D.S_below 1 hn r t)))
  · rfl

theorem dq0_ok (X : Vec Ideal S128x8192 .f32) (m : Fin 8) (l : Fin 128) (t : Fin 1024) :
    dq0 i x0 x1 x2 x3 x4 x5 x6 x7 X (ix2 l (at8 m t)) = if m.val = (jOf i).val then X (ix2 l (at8 m t)) + ((D.T (jOf i) l (at8 m t) : ℝ) : EReal) else X (ix2 l (at8 m t)) := by
  have hq : ∀ t l, rows x0 (jOf i) (ix2 t l) = ((D.Q (at8 (jOf i) t) l : ℝ) : EReal) := fun t l => h.q _ _
  have hc : ∀ t l, rows x1 (jOf i) (ix2 t l) = ((D.C (at8 (jOf i) t) l : ℝ) : EReal) := fun t l => h.c _ _
  have hg : ∀ a t, lrow x5 a (jOf i) (ix3 0 0 t) = ((D.G a (at8 (jOf i) t) : ℝ) : EReal) := fun a t => h.g _ _
  have hs : ∀ a t, lrow x6 a (jOf i) (ix3 0 0 t) = ((D.L a (at8 (jOf i) t) : ℝ) : EReal) := fun a t => h.s _ _
  have hy : ∀ a t, lrow x7 a (jOf i) (ix3 0 0 t) = ((D.Y a (at8 (jOf i) t) : ℝ) : EReal) := fun a t => h.y _ _
  have hw := pay42_at (w70_at h.k) h.g0 hq (hg 0) (hs 0)
  have hx := pay43_at (w78_at h.v) hc
  have hs1 := pay52_at (w74_at h.k) (w80_at h.v) h.g1 hq hc (hg 1) (hs 1) (hy 1)
  have h0 := pay49_at (w75_at h.k) (hy 0) hw hx l t
  unfold dq0
  rw [putCols_at]
  split_ifs with hm
  · obtain rfl : m = jOf i := Fin.ext hm
    refine (pay57_at hs1 (w76_at h.k) _ _ l t).trans ?_
    refine (congrArg (fun z => _ + (z + _)) h0).trans ?_
    rw [← EReal.coe_add]
    exact congrArg (fun z : ℝ => _ + ((z : ℝ) : EReal)) (congrArg₂ (· + ·) (Finset.sum_congr rfl fun r _ => congrArg (_ * ·) (D.S_diag 0 (jOf i) r t)) (Finset.sum_congr rfl fun r _ => congrArg (_ * ·) (D.S_diag 1 (jOf i) r t)))
  · rfl

theorem dqs_ok (X : Vec Ideal S128x8192 .f32) (k : ℕ) (hk : (jOf i).val + k < 8) (m : Fin 8) (l : Fin 128) (t : Fin 1024) :
    dqs (w70 x2) (w74 x2) (w75 x2) (w76 x2) (w78 x3) (w80 x3) (w88 i x4) (w96 i x4) x0 x1 x5 x6 x7 (jOf i) (dq0 i x0 x1 x2 x3 x4 x5 x6 x7 X) k (ix2 l (at8 m t))
      = if (jOf i).val ≤ m.val ∧ m.val ≤ (jOf i).val + k then X (ix2 l (at8 m t)) + ((D.T (jOf i) l (at8 m t) : ℝ) : EReal) else X (ix2 l (at8 m t)) := by
  induction k with
  | zero =>
    refine (dq0_ok h X m l t).trans (if_congr ?_ rfl rfl)
    omega
  | succ k ih =>
    have hk' : (jOf i).val + 1 + k < 8 := by omega
    rw [dqs_succ _ _ _ _ _ _ _ _ _ _ _ _ _ _ _ _ hk']
    refine (stepDq_ok h (n := ⟨(jOf i).val + 1 + k, hk'⟩) (show (jOf i).val < (jOf i).val + 1 + k by omega) _ m l t).trans ?_
    rw [ih (by omega)]
    show (if m.val = (jOf i).val + 1 + k then _ else _) = _
    by_cases e : m.val = (jOf i).val + 1 + k
    · rw [if_pos e, if_neg (by omega), if_pos (by omega)]
    · rw [if_neg e]
      exact if_congr (by omega) rfl rfl

/-- The grid point adds its tile of keys' part to the gradient of q. -/
theorem outDq_at (X : Vec Ideal S128x8192 .f32) (l : Fin 128) (t : Fin 8192) :
    outDq i x0 x1 x2 x3 x4 x5 x6 x7 X (ix2 l t) = X (ix2 l t) + ((D.T (jOf i) l t : ℝ) : EReal) := by
  obtain ⟨m, t, rfl⟩ : ∃ m u, t = at8 m u := ⟨⟨t.val / 1024, by omega⟩, ⟨t.val % 1024, Nat.mod_lt _ (by omega)⟩, Fin.ext (by show t.val = t.val / 1024 * 1024 + t.val % 1024; omega)⟩
  refine (dqs_ok h X _ (by omega) m l t).trans ?_
  split_ifs with hm
  · rfl
  · rw [D.T_before (by omega), EReal.coe_zero, add_zero]

/-- The other outputs: each key's sums over every query. -/
theorem outDk_at (r : Fin 1024) (l : Fin 128) : outDk i x0 x1 x2 x3 x4 x5 x6 x7 (ix2 r l)
    = (((∑ t, D.S ⟨l.val / 64, by omega⟩ (at8 (jOf i) r) t * D.Q t l) * (1 / 8) : ℝ) : EReal) := by
  have ha := accEnd_ok h
  refine pay73_at lane_at _ _ r l _ ?_
  rw [ha.k0, ha.k1, tiles_all _ _ fun n hn t => by simp only [D.S_after (Pair.at8_lt hn _ _), zero_mul], tiles_all _ _ fun n hn t => by simp only [D.S_after (Pair.at8_lt hn _ _), zero_mul]]
  split_ifs with hl
  · simp only [hl]; rfl
  · have : l.val / 64 = 1 := by omega
    simp only [this]; rfl

theorem outDv_at (r : Fin 1024) (l : Fin 128) : outDv i x0 x1 x2 x3 x4 x5 x6 x7 (ix2 r l)
    = ((∑ t, D.P ⟨l.val / 64, by omega⟩ (at8 (jOf i) r) t * D.C t l : ℝ) : EReal) := by
  have ha := accEnd_ok h
  refine (pay74_at lane_at _ _ r l).trans ?_
  rw [ha.v0, ha.v1, tiles_all _ _ fun n hn t => by simp only [D.P_after (Pair.at8_lt hn _ _), zero_mul], tiles_all _ _ fun n hn t => by simp only [D.P_after (Pair.at8_lt hn _ _), zero_mul]]
  split_ifs with hl
  · simp only [hl]; rfl
  · have : l.val / 64 = 1 := by omega
    simp only [this]; rfl

theorem outDf_at (r : Fin 1024) (l : Fin 128) : outDf i x0 x1 x2 x3 x4 x5 x6 x7 (ix2 r l)
    = ((-∑ t, D.S ⟨l.val / 64, by omega⟩ (at8 (jOf i) r) t : ℝ) : EReal) := by
  have ha := accEnd_ok h
  refine pay75_at lane_at _ _ r l _ ?_
  rw [ha.f0, ha.f1, tiles_all _ _ fun n hn t => D.S_after (Pair.at8_lt hn _ _), tiles_all _ _ fun n hn t => D.S_after (Pair.at8_lt hn _ _)]
  split_ifs with hl
  · simp only [hl]; rfl
  · have : l.val / 64 = 1 := by omega
    simp only [this]; rfl

end Point

end Cert.KernelIdeal.Attn

end
-- ==== Proof.Arrays.lean ====
/- The kernel's four results over the reals, from what each grid point's buffers hold. -/
module

public import proofs.«01_k».proof.Proof.Launch
public import proofs.«01_k».proof.Proof.Point
public import Idealize.ShloMosaic.Lib.Pipeline.ValueKit

@[expose] public section

set_option maxRecDepth 16384

noncomputable section

namespace Cert.KernelIdeal.Attn

open Idealize.ShloMosaic Idealize.ShloMosaic.TcCoe Idealize.ShloMosaic.Tactic
open Idealize.SL.Sem
open Idealize.ShloMosaic.Pipeline (Dat Cfg Window)
open Cert.KernelIdeal.Gen

variable (m : (ℓ : Loc nD τ sig) → Buf (Elt Ideal) ℓ) (c : Dev nD) (D : Fin 4 → Pair)

/-- At every grid point the buffers hold its pair's reals. -/
def AllHold : Prop := ∀ t : Fin cfg0.N, Holds (D (grid0.coords t 0)) (grid0.coords t) (iblk m c 0 t) (iblk m c 1 t) (iblk m c 2 t) (iblk m c 3 t) (iblk m c 4 t) (iblk m c 5 t) (iblk m c 6 t) (iblk m c 7 t)

theorem coords_0 (t : Fin cfg0.N) : (grid0.coords t 0).val = t.val / 8 := by
  have ht : t.val < 32 := Nat.lt_of_lt_of_eq t.isLt N_0
  have e0 : (grid0.coords t 0).val = t.val / 8 % 4 := Pipeline.Grid.coords_val t 0 (by decide) rfl
  omega

theorem coords_1 (t : Fin cfg0.N) : (grid0.coords t 1).val = t.val % 8 := by
  have e1 : (grid0.coords t 1).val = t.val / 1 % 8 := Pipeline.Grid.coords_val t 1 (by decide) rfl
  omega

theorem pay21_at (y : S128x8192.Idx) : k0_pay21 (F := Ideal) y = 0 := by
  pointwise [k0_pay21]

/-- The parts of the first `n` tiles of keys in the gradient of q. -/
def upto (P : Pair) (l : Fin 128) (u : Fin 8192) (n : ℕ) : ℝ := ∑ j ∈ Finset.range n, if h : j < 8 then P.T ⟨j, h⟩ l u else 0

theorem upto_succ (P : Pair) (l : Fin 128) (u : Fin 8192) (n : Fin 8) : upto P l u (n.val + 1) = upto P l u n.val + P.T n l u := by
  unfold upto
  rw [Finset.sum_range_succ, dif_pos n.isLt]

theorem upto_all (P : Pair) (l : Fin 128) (u : Fin 8192) : upto P l u 8 = ∑ j, P.T j l u := by
  unfold upto
  rw [Finset.sum_range]
  exact Finset.sum_congr rfl fun j _ => dif_pos j.isLt

variable {m c D} (h : AllHold m c D)
include h

theorem dqAt_at (t : ℕ) (ht : t < cfg0.N) (l : Fin 128) (u : Fin 8192) :
    dqAt m c t ht (ix2 l u) = ((upto (D (grid0.coords ⟨t, ht⟩ 0)) l u (t % 8 + 1) : ℝ) : EReal) := by
  have e1 := coords_1 ⟨t, ht⟩
  have hu := upto_succ (D (grid0.coords ⟨t, ht⟩ 0)) l u (jOf (grid0.coords ⟨t, ht⟩))
  have ej : (jOf (grid0.coords ⟨t, ht⟩)).val = t % 8 := e1
  rw [ej] at hu
  rw [hu, EReal.coe_add]
  by_cases h0 : t % 8 = 0
  · rw [dqAt_first m c ⟨t, ht⟩ h0]
    refine (outDq_at (h ⟨t, ht⟩) _ l u).trans ?_
    rw [pay21_at, h0]
    congr 1
  · rw [dqAt_later m c ⟨t, ht⟩ h0]
    refine (outDq_at (h ⟨t, ht⟩) _ l u).trans ?_
    have ht' : t - 1 < cfg0.N := Nat.lt_of_le_of_lt (Nat.sub_le _ _) ht
    have ih := dqAt_at (t - 1) ht' l u
    have e0 : grid0.coords ⟨t - 1, ht'⟩ 0 = grid0.coords ⟨t, ht⟩ 0 := Fin.ext (by rw [coords_0, coords_0]; show (t - 1) / 8 = t / 8; omega)
    have en : (t - 1) % 8 + 1 = t % 8 := by omega
    rw [e0, en] at ih
    rw [← ih]
termination_by t

omit h

/-- The pair and the lane that a column of the 512 belongs to. -/
def pOf (x : Fin 512) : Fin 4 := ⟨x.val / 128, by omega⟩
def lOf (x : Fin 512) : Fin 128 := ⟨x.val % 128, Nat.mod_lt _ (by decide)⟩
/-- The head of the pair that a lane belongs to. -/
def aOf (l : Fin 128) : Fin 2 := ⟨l.val / 64, by omega⟩

variable (D) in
/-- The results: of q by row of the transposed gradient, of k, v and the log-gates by column. -/
def gDq (y : S512x8192.Idx) : EReal := ((∑ j, (D (pOf (y 0))).T j (lOf (y 0)) (y 1) : ℝ) : EReal)
variable (D) in
def gDk (y : S8192x512.Idx) : EReal := (((∑ t, (D (pOf (y 1))).S (aOf (lOf (y 1))) (y 0) t * (D (pOf (y 1))).Q t (lOf (y 1))) * (1 / 8) : ℝ) : EReal)
variable (D) in
def gDv (y : S8192x512.Idx) : EReal := ((∑ t, (D (pOf (y 1))).P (aOf (lOf (y 1))) (y 0) t * (D (pOf (y 1))).C t (lOf (y 1)) : ℝ) : EReal)
variable (D) in
def gDf (y : S8192x512.Idx) : EReal := ((-∑ t, (D (pOf (y 1))).S (aOf (lOf (y 1))) (y 0) t : ℝ) : EReal)

/-- The column of pair `p` and lane `l`. -/
def colOf (p : Fin 4) (l : Fin 128) : Fin 512 := ⟨p.val * 128 + l.val, by omega⟩

theorem pOf_colOf (p : Fin 4) (l : Fin 128) : pOf (colOf p l) = p := Fin.ext (by show (p.val * 128 + l.val) / 128 = p.val; omega)
theorem lOf_colOf (p : Fin 4) (l : Fin 128) : lOf (colOf p l) = l := Fin.ext (by show (p.val * 128 + l.val) % 128 = l.val; omega)

theorem gDq_at (p : Fin 4) (l : Fin 128) (u : Fin 8192) : gDq D (ix2 (colOf p l) u) = ((∑ j, (D p).T j l u : ℝ) : EReal) := by
  unfold gDq
  rw [ix2_0, ix2_1, pOf_colOf, lOf_colOf]
theorem gDk_at (p : Fin 4) (l : Fin 128) (s : Fin 8192) : gDk D (ix2 s (colOf p l)) = (((∑ t, (D p).S (aOf l) s t * (D p).Q t l) * (1 / 8) : ℝ) : EReal) := by
  unfold gDk
  rw [ix2_0, ix2_1, pOf_colOf, lOf_colOf]
theorem gDv_at (p : Fin 4) (l : Fin 128) (s : Fin 8192) : gDv D (ix2 s (colOf p l)) = ((∑ t, (D p).P (aOf l) s t * (D p).C t l : ℝ) : EReal) := by
  unfold gDv
  rw [ix2_0, ix2_1, pOf_colOf, lOf_colOf]
theorem gDf_at (p : Fin 4) (l : Fin 128) (s : Fin 8192) : gDf D (ix2 s (colOf p l)) = ((-∑ t, (D p).S (aOf l) s t : ℝ) : EReal) := by
  unfold gDf
  rw [ix2_0, ix2_1, pOf_colOf, lOf_colOf]

theorem index_8 : ∀ t : Fin grid0.N, win0_8.index t 0 = (grid0.coords t 0).val ∧ win0_8.index t 1 = 0 := by decide +kernel
theorem index_9 : ∀ t : Fin grid0.N, win0_9.index t 0 = (grid0.coords t 1).val ∧ win0_9.index t 1 = (grid0.coords t 0).val := by decide +kernel
theorem index_10 : ∀ t : Fin grid0.N, win0_10.index t 0 = (grid0.coords t 1).val ∧ win0_10.index t 1 = (grid0.coords t 0).val := by decide +kernel
theorem index_11 : ∀ t : Fin grid0.N, win0_11.index t 0 = (grid0.coords t 1).val ∧ win0_11.index t 1 = (grid0.coords t 0).val := by decide +kernel

include h

theorem arr_dq : (dats m 0 c).arrAt 8 cfg0.N = gDq D := by
  refine (dats m 0 c).arrAt_eq_of_covers 8 _ (by decide +kernel) fun t hf y => ?_
  have e : (win0_8.blk t).view.emb y = ix2 (colOf (grid0.coords t 0) (y 0)) (y 1) := by
    funext a
    apply Fin.ext
    match a with
    | ⟨0, _⟩ => blk_simp; rw [(index_8 t).1]; rfl
    | ⟨1, _⟩ => blk_simp; rw [(index_8 t).2]; simp
  have h7 : t.val % 8 = 7 := by have := (flush0_8 t).mp hf; omega
  blk_simp
  rw [after_8, e]
  refine (congrArg (dqAt m c t.val t.isLt) (eq_ix2 y)).trans ((dqAt_at h t.val t.isLt (y 0) (y 1)).trans ?_)
  rw [h7]
  exact (congrArg (fun z : ℝ => (z : EReal)) (upto_all _ _ _)).trans (gDq_at _ _ _).symm

theorem arr_dk : (dats m 0 c).arrAt 9 cfg0.N = gDk D := by
  refine (dats m 0 c).arrAt_eq_of_covers 9 _ (by decide +kernel) fun t hf y => ?_
  have e : (win0_9.blk t).view.emb y = ix2 (at8 (jOf (grid0.coords t)) (y 0)) (colOf (grid0.coords t 0) (y 1)) := by
    funext a
    apply Fin.ext
    match a with
    | ⟨0, _⟩ => blk_simp; rw [(index_9 t).1]; rfl
    | ⟨1, _⟩ => blk_simp; rw [(index_9 t).2]; rfl
  blk_simp
  rw [after_9, e]
  refine (congrArg (outDk _ _ _ _ _ _ _ _ _) (eq_ix2 y)).trans ((outDk_at (h t) (y 0) (y 1)).trans ?_)
  exact (gDk_at _ _ _).symm

theorem arr_dv : (dats m 0 c).arrAt 10 cfg0.N = gDv D := by
  refine (dats m 0 c).arrAt_eq_of_covers 10 _ (by decide +kernel) fun t hf y => ?_
  have e : (win0_10.blk t).view.emb y = ix2 (at8 (jOf (grid0.coords t)) (y 0)) (colOf (grid0.coords t 0) (y 1)) := by
    funext a
    apply Fin.ext
    match a with
    | ⟨0, _⟩ => blk_simp; rw [(index_10 t).1]; rfl
    | ⟨1, _⟩ => blk_simp; rw [(index_10 t).2]; rfl
  blk_simp
  rw [after_10, e]
  refine (congrArg (outDv _ _ _ _ _ _ _ _ _) (eq_ix2 y)).trans ((outDv_at (h t) (y 0) (y 1)).trans ?_)
  exact (gDv_at _ _ _).symm

theorem arr_df : (dats m 0 c).arrAt 11 cfg0.N = gDf D := by
  refine (dats m 0 c).arrAt_eq_of_covers 11 _ (by decide +kernel) fun t hf y => ?_
  have e : (win0_11.blk t).view.emb y = ix2 (at8 (jOf (grid0.coords t)) (y 0)) (colOf (grid0.coords t 0) (y 1)) := by
    funext a
    apply Fin.ext
    match a with
    | ⟨0, _⟩ => blk_simp; rw [(index_11 t).1]; rfl
    | ⟨1, _⟩ => blk_simp; rw [(index_11 t).2]; rfl
  blk_simp
  rw [after_11, e]
  refine (congrArg (outDf _ _ _ _ _ _ _ _ _) (eq_ix2 y)).trans ((outDf_at (h t) (y 0) (y 1)).trans ?_)
  exact (gDf_at _ _ _).symm

end Cert.KernelIdeal.Attn

end
-- ==== Proof.Feed.lean ====
/- The arrays that the kernel's windows read, over the reals, and the windows' blocks at every grid point. -/
module

public import proofs.«01_k».proof.Proof.Host
public import proofs.«01_k».proof.Proof.Arrays

@[expose] public section

set_option maxRecDepth 16384

noncomputable section

namespace Cert.KernelIdeal.Attn

open Idealize.ShloMosaic Idealize.ShloMosaic.TcCoe Idealize.ShloMosaic.Tactic
open Idealize.SL.Sem
open Cert.KernelIdeal.Gen

variable {m : (ℓ : Loc nD τ sig) → Buf (Elt Ideal) ℓ} {c : Dev nD} {I : Cert.Attention.Ins}

/-- Head `a` of pair `p`. -/
def hd (p : Fin 4) (a : Fin 2) : Fin 8 := ⟨p.val * 2 + a.val, by omega⟩
/-- A lane within its head. -/
def dOf (l : Fin 128) : Fin 64 := ⟨l.val % 64, Nat.mod_lt _ (by decide)⟩

/-- The log-gates of a row, zero in the lanes past the heads. -/
def gate (I : Cert.Attention.Ins) (t : Fin 8192) (l : Fin 128) : ℝ := if h : l.val < 8 then I.f t ⟨l.val, h⟩ else 0

/-- The four pairs of heads. -/
def pairOf (I : Cert.Attention.Ins) (p : Fin 4) : Pair where
  Q t l := I.q t (hd p (aOf l)) (dOf l)
  C t l := I.c t (hd p (aOf l)) (dOf l)
  K t l := I.k t (hd p (aOf l)) (dOf l)
  V t l := I.v t (hd p (aOf l)) (dOf l)
  G a t := I.f t (hd p a)
  L a t := I.lse (hd p a) t
  Y a t := I.y (hd p a) t

/-- The column of a pair's lane, as head and lane. -/
theorem head_eq (p : Fin 4) (l : Fin 128) : (⟨(colOf p l).val / 64, by have := (colOf p l).isLt; omega⟩ : Fin 8) = hd p (aOf l) :=
  Fin.ext (by show (p.val * 128 + l.val) / 64 = p.val * 2 + l.val / 64; omega)
theorem lane_eq (p : Fin 4) (l : Fin 128) : (⟨(colOf p l).val % 64, Nat.mod_lt _ (by decide)⟩ : Fin 64) = dOf l :=
  Fin.ext (by show (p.val * 128 + l.val) % 64 = l.val % 64; omega)

theorem index_0 : ∀ t : Fin grid0.N, win0_0.index t 0 = 0 ∧ win0_0.index t 1 = (grid0.coords t 0).val := by decide +kernel
theorem index_1 : ∀ t : Fin grid0.N, win0_1.index t 0 = 0 ∧ win0_1.index t 1 = 2 + (grid0.coords t 0).val := by decide +kernel
theorem index_2 : ∀ t : Fin grid0.N, win0_2.index t 0 = (grid0.coords t 1).val ∧ win0_2.index t 1 = 4 + (grid0.coords t 0).val := by decide +kernel
theorem index_3 : ∀ t : Fin grid0.N, win0_3.index t 0 = (grid0.coords t 1).val ∧ win0_3.index t 1 = 8 + (grid0.coords t 0).val := by decide +kernel
theorem index_4 : ∀ t : Fin grid0.N, win0_4.index t 0 = (grid0.coords t 1).val ∧ win0_4.index t 1 = 0 := by decide +kernel
theorem index_5 : ∀ t : Fin grid0.N, win0_5.index t 0 = (grid0.coords t 0).val ∧ win0_5.index t 1 = 0 ∧ win0_5.index t 2 = 0 := by decide +kernel
theorem index_6 : ∀ t : Fin grid0.N, win0_6.index t 0 = (grid0.coords t 0).val ∧ win0_6.index t 1 = 0 ∧ win0_6.index t 2 = 0 := by decide +kernel
theorem index_7 : ∀ t : Fin grid0.N, win0_7.index t 0 = (grid0.coords t 0).val ∧ win0_7.index t 1 = 0 ∧ win0_7.index t 2 = 0 := by decide +kernel

variable (H : Inputs m c I)
include H

theorem v39_q (t : Fin 8192) (x : Fin 512) : V m c main_v39 (ix2 t (⟨x.val, by omega⟩ : Fin 1536)) = ((I.q t ⟨x.val / 64, by omega⟩ ⟨x.val % 64, Nat.mod_lt _ (by decide)⟩ : ℝ) : EReal) := by
  unfold V
  after_reads_at
  after_reads_at
  exact H.q _ _ _

theorem v39_k (t : Fin 8192) (x : Fin 512) : V m c main_v39 (ix2 t (⟨512 + x.val, by omega⟩ : Fin 1536)) = ((I.k t ⟨x.val / 64, by omega⟩ ⟨x.val % 64, Nat.mod_lt _ (by decide)⟩ : ℝ) : EReal) := by
  unfold V
  after_reads_at
  after_reads_at
  exact H.k _ _ _

theorem v39_v (t : Fin 8192) (x : Fin 512) : V m c main_v39 (ix2 t (⟨1024 + x.val, by omega⟩ : Fin 1536)) = ((I.v t ⟨x.val / 64, by omega⟩ ⟨x.val % 64, Nat.mod_lt _ (by decide)⟩ : ℝ) : EReal) := by
  have e : 1024 + x.val - 512 - 512 = x.val := by omega
  unfold V
  after_reads_at
  rw [dif_neg (by show ¬ (1024 + x.val < 512); omega), dif_neg (by show ¬ (1024 + x.val - 512 < 512); omega)]
  after_reads_at
  simp only [e]
  exact H.v _ _ _

theorem v41_c (t : Fin 8192) (x : Fin 512) : V m c main_v41 (ix2 t (⟨256 + x.val, by omega⟩ : Fin 1024)) = ((I.c t ⟨x.val / 64, by omega⟩ ⟨x.val % 64, Nat.mod_lt _ (by decide)⟩ : ℝ) : EReal) := by
  unfold V
  after_reads_at
  exact H.c _ _ _

theorem v42_f (t : Fin 8192) (l : Fin 128) : V m c main_v42 (ix2 t l) = ((gate I t l : ℝ) : EReal) := by
  unfold V
  after_reads_at
  unfold gate
  by_cases h : l.val < 8
  · rw [dif_pos h, dif_pos h]
    exact H.f _ _
  · rw [dif_neg h, dif_neg h]
    show (((0#32 : BitVec 32).toInt : ℝ) : EReal) = ((0 : ℝ) : EReal)
    simp

theorem v44_f (p : Fin 4) (a : Fin 2) (t : Fin 8192) : V m c main_v44 (ix3 p a t) = ((I.f t (hd p a) : ℝ) : EReal) := by
  unfold V
  after_reads_at
  exact H.f _ _

theorem v39_Q (t : Fin 8192) (p : Fin 4) (l : Fin 128) : V m c main_v39 (ix2 t (⟨(colOf p l).val, by have := (colOf p l).isLt; omega⟩ : Fin 1536)) = (((pairOf I p).Q t l : ℝ) : EReal) :=
  (v39_q H t (colOf p l)).trans (congrArg (fun z : ℝ => (z : EReal)) (congrArg₂ (I.q t) (head_eq p l) (lane_eq p l)))

theorem v39_K (t : Fin 8192) (p : Fin 4) (l : Fin 128) : V m c main_v39 (ix2 t (⟨512 + (colOf p l).val, by have := (colOf p l).isLt; omega⟩ : Fin 1536)) = (((pairOf I p).K t l : ℝ) : EReal) :=
  (v39_k H t (colOf p l)).trans (congrArg (fun z : ℝ => (z : EReal)) (congrArg₂ (I.k t) (head_eq p l) (lane_eq p l)))

theorem v39_V (t : Fin 8192) (p : Fin 4) (l : Fin 128) : V m c main_v39 (ix2 t (⟨1024 + (colOf p l).val, by have := (colOf p l).isLt; omega⟩ : Fin 1536)) = (((pairOf I p).V t l : ℝ) : EReal) :=
  (v39_v H t (colOf p l)).trans (congrArg (fun z : ℝ => (z : EReal)) (congrArg₂ (I.v t) (head_eq p l) (lane_eq p l)))

theorem v41_C (t : Fin 8192) (p : Fin 4) (l : Fin 128) : V m c main_v41 (ix2 t (⟨256 + (colOf p l).val, by have := (colOf p l).isLt; omega⟩ : Fin 1024)) = (((pairOf I p).C t l : ℝ) : EReal) :=
  (v41_c H t (colOf p l)).trans (congrArg (fun z : ℝ => (z : EReal)) (congrArg₂ (I.c t) (head_eq p l) (lane_eq p l)))

/-! ## The blocks -/

theorem blk_0 (t : Fin cfg0.N) (u : Fin 8192) (l : Fin 128) : iblk m c 0 t (ix2 u l) = (((pairOf I (grid0.coords t 0)).Q u l : ℝ) : EReal) := by
  have e : (win0_0.blk t).view.emb (ix2 u l) = ix2 u (⟨(colOf (grid0.coords t 0) l).val, by have := (colOf (grid0.coords t 0) l).isLt; omega⟩ : Fin 1536) := by
    funext a
    apply Fin.ext
    match a with
    | ⟨0, _⟩ => blk_simp; rw [(index_0 t).1]; simp
    | ⟨1, _⟩ => blk_simp; rw [(index_0 t).2]; rfl
  unfold iblk
  rw [View.read_apply]
  refine (cast_eq rfl _).trans ?_
  exact (congrArg (V m c main_v39) e).trans (v39_Q H _ _ _)

theorem blk_1 (t : Fin cfg0.N) (u : Fin 8192) (l : Fin 128) : iblk m c 1 t (ix2 u l) = (((pairOf I (grid0.coords t 0)).C u l : ℝ) : EReal) := by
  have e : (win0_1.blk t).view.emb (ix2 u l) = ix2 u (⟨256 + (colOf (grid0.coords t 0) l).val, by have := (colOf (grid0.coords t 0) l).isLt; omega⟩ : Fin 1024) := by
    funext a
    apply Fin.ext
    match a with
    | ⟨0, _⟩ => blk_simp; rw [(index_1 t).1]; simp
    | ⟨1, _⟩ => blk_simp; rw [(index_1 t).2]; show (2 + (grid0.coords t 0).val) * 128 + l.val = 256 + ((grid0.coords t 0).val * 128 + l.val); omega
  unfold iblk
  rw [View.read_apply]
  refine (cast_eq rfl _).trans ?_
  exact (congrArg (V m c main_v41) e).trans (v41_C H _ _ _)

theorem blk_2 (t : Fin cfg0.N) (r : Fin 1024) (l : Fin 128) : iblk m c 2 t (ix2 r l) = (((pairOf I (grid0.coords t 0)).K (at8 (jOf (grid0.coords t)) r) l : ℝ) : EReal) := by
  have e : (win0_2.blk t).view.emb (ix2 r l) = ix2 (at8 (jOf (grid0.coords t)) r) (⟨512 + (colOf (grid0.coords t 0) l).val, by have := (colOf (grid0.coords t 0) l).isLt; omega⟩ : Fin 1536) := by
    funext a
    apply Fin.ext
    match a with
    | ⟨0, _⟩ => blk_simp; rw [(index_2 t).1]; rfl
    | ⟨1, _⟩ => blk_simp; rw [(index_2 t).2]; show (4 + (grid0.coords t 0).val) * 128 + l.val = 512 + ((grid0.coords t 0).val * 128 + l.val); omega
  unfold iblk
  rw [View.read_apply]
  refine (cast_eq rfl _).trans ?_
  exact (congrArg (V m c main_v39) e).trans (v39_K H _ _ _)

theorem blk_3 (t : Fin cfg0.N) (r : Fin 1024) (l : Fin 128) : iblk m c 3 t (ix2 r l) = (((pairOf I (grid0.coords t 0)).V (at8 (jOf (grid0.coords t)) r) l : ℝ) : EReal) := by
  have e : (win0_3.blk t).view.emb (ix2 r l) = ix2 (at8 (jOf (grid0.coords t)) r) (⟨1024 + (colOf (grid0.coords t 0) l).val, by have := (colOf (grid0.coords t 0) l).isLt; omega⟩ : Fin 1536) := by
    funext a
    apply Fin.ext
    match a with
    | ⟨0, _⟩ => blk_simp; rw [(index_3 t).1]; rfl
    | ⟨1, _⟩ => blk_simp; rw [(index_3 t).2]; show (8 + (grid0.coords t 0).val) * 128 + l.val = 1024 + ((grid0.coords t 0).val * 128 + l.val); omega
  unfold iblk
  rw [View.read_apply]
  refine (cast_eq rfl _).trans ?_
  exact (congrArg (V m c main_v39) e).trans (v39_V H _ _ _)

theorem blk_4 (t : Fin cfg0.N) (r : Fin 1024) (l : Fin 128) : iblk m c 4 t (ix2 r l) = ((gate I (at8 (jOf (grid0.coords t)) r) l : ℝ) : EReal) := by
  have e : (win0_4.blk t).view.emb (ix2 r l) = ix2 (at8 (jOf (grid0.coords t)) r) l := by
    funext a
    apply Fin.ext
    match a with
    | ⟨0, _⟩ => blk_simp; rw [(index_4 t).1]; rfl
    | ⟨1, _⟩ => blk_simp; rw [(index_4 t).2]; simp
  unfold iblk
  rw [View.read_apply]
  refine (cast_eq rfl _).trans ?_
  exact (congrArg (V m c main_v42) e).trans (v42_f H _ _)

theorem blk_5 (t : Fin cfg0.N) (a : Fin 2) (u : Fin 8192) : iblk m c 5 t (ix3 0 a u) = (((pairOf I (grid0.coords t 0)).G a u : ℝ) : EReal) := by
  have e : (win0_5.blk t).view.emb (ix3 0 a u) = ix3 (grid0.coords t 0 : Fin 4) a u := by
    funext b
    apply Fin.ext
    match b with
    | ⟨0, _⟩ => blk_simp; rw [(index_5 t).1]; simp
    | ⟨1, _⟩ => blk_simp; rw [(index_5 t).2.1]; simp
    | ⟨2, _⟩ => blk_simp; rw [(index_5 t).2.2]; simp
  unfold iblk
  rw [View.read_apply]
  refine (cast_eq rfl _).trans ?_
  exact (congrArg (V m c main_v44) e).trans (v44_f H _ _ _)

theorem blk_6 (t : Fin cfg0.N) (a : Fin 2) (u : Fin 8192) : iblk m c 6 t (ix3 0 a u) = (((pairOf I (grid0.coords t 0)).L a u : ℝ) : EReal) := by
  have e : (win0_6.blk t).view.emb (ix3 0 a u) = ix3 (grid0.coords t 0 : Fin 4) a u := by
    funext b
    apply Fin.ext
    match b with
    | ⟨0, _⟩ => blk_simp; rw [(index_6 t).1]; simp
    | ⟨1, _⟩ => blk_simp; rw [(index_6 t).2.1]; simp
    | ⟨2, _⟩ => blk_simp; rw [(index_6 t).2.2]; simp
  unfold iblk
  rw [View.read_apply]
  refine (cast_eq rfl _).trans ?_
  exact (congrArg (V m c main_v45) e).trans (v45_at H _ _ _)

theorem blk_7 (t : Fin cfg0.N) (a : Fin 2) (u : Fin 8192) : iblk m c 7 t (ix3 0 a u) = (((pairOf I (grid0.coords t 0)).Y a u : ℝ) : EReal) := by
  have e : (win0_7.blk t).view.emb (ix3 0 a u) = ix3 (grid0.coords t 0 : Fin 4) a u := by
    funext b
    apply Fin.ext
    match b with
    | ⟨0, _⟩ => blk_simp; rw [(index_7 t).1]; simp
    | ⟨1, _⟩ => blk_simp; rw [(index_7 t).2.1]; simp
    | ⟨2, _⟩ => blk_simp; rw [(index_7 t).2.2]; simp
  unfold iblk
  rw [View.read_apply]
  refine (cast_eq rfl _).trans ?_
  exact (congrArg (V m c main_v46) e).trans (v46_at H _ _ _)

omit H in
theorem gate_0 (p : Fin 4) (s : Fin 8192) (h : 2 * p.val < 128) : gate I s ⟨2 * p.val, h⟩ = (pairOf I p).G 0 s :=
  (dif_pos (by show 2 * p.val < 8; omega)).trans (congrArg (I.f s) (Fin.ext (by show 2 * p.val = p.val * 2 + 0; omega)))

omit H in
theorem gate_1 (p : Fin 4) (s : Fin 8192) (h : 2 * p.val + 1 < 128) : gate I s ⟨2 * p.val + 1, h⟩ = (pairOf I p).G 1 s :=
  (dif_pos (by show 2 * p.val + 1 < 8; omega)).trans (congrArg (I.f s) (Fin.ext (by show 2 * p.val + 1 = p.val * 2 + 1; omega)))

/-- At every grid point the buffers hold the pair's reals. -/
theorem allHold : AllHold m c (pairOf I) := fun t =>
  { q := blk_0 H t, c := blk_1 H t, k := blk_2 H t, v := blk_3 H t
    g0 := fun r => (w88_at (F := fun r l => gate I (at8 (jOf (grid0.coords t)) r) l) (blk_4 H t) (grid0.coords t) r).trans (congrArg (fun z : ℝ => (z : EReal)) (gate_0 _ _ _))
    g1 := fun r => (w96_at (F := fun r l => gate I (at8 (jOf (grid0.coords t)) r) l) (blk_4 H t) (grid0.coords t) r).trans (congrArg (fun z : ℝ => (z : EReal)) (gate_1 _ _ _))
    g := blk_5 H t, s := blk_6 H t, y := blk_7 H t }

end Cert.KernelIdeal.Attn

end
-- ==== Proof.Result.lean ====
/- The kernel's four results as the gradients of the attention over the reals. -/
module

public import proofs.«01_k».proof.Proof.Feed

@[expose] public section

noncomputable section

namespace Cert.KernelIdeal.Attn

open Idealize.ShloMosaic
open Cert.KernelIdeal.Gen

variable (I : Cert.Attention.Ins)

/-- A lane of head `a`. -/
def lane (a : Fin 2) (d : Fin 64) : Fin 128 := ⟨a.val * 64 + d.val, by omega⟩

theorem aOf_lane (a : Fin 2) (d : Fin 64) : aOf (lane a d) = a := Fin.ext (by show (a.val * 64 + d.val) / 64 = a.val; omega)
theorem dOf_lane (a : Fin 2) (d : Fin 64) : dOf (lane a d) = d := Fin.ext (by show (a.val * 64 + d.val) % 64 = d.val; omega)

/-- A sum over a pair's lanes of terms that vanish outside head `a` is a sum over the head's lanes. -/
theorem sum_lanes (a : Fin 2) (f : Fin 128 → ℝ) : (∑ l : Fin 128, if l.val / 64 = a.val then f l else 0) = ∑ d : Fin 64, f (lane a d) := by
  rw [← Finset.sum_filter]
  refine Finset.sum_nbij' dOf (lane a) (fun _ _ => Finset.mem_univ _) (fun d _ => ?_) (fun l hl => ?_) (fun d _ => dOf_lane a d) (fun l hl => ?_)
  · rw [Finset.mem_filter]
    exact ⟨Finset.mem_univ _, by show (a.val * 64 + d.val) / 64 = a.val; omega⟩
  · have e : l.val / 64 = a.val := (Finset.mem_filter.mp hl).2
    exact Fin.ext (by show a.val * 64 + l.val % 64 = l.val; omega)
  · have e : l.val / 64 = a.val := (Finset.mem_filter.mp hl).2
    refine congrArg f (Fin.ext ?_)
    show l.val = a.val * 64 + l.val % 64
    omega

theorem keys_sum (p : Fin 4) (a : Fin 2) (s t : Fin 8192) :
    ∑ l, kms (pairOf I p).K a s l * (pairOf I p).Q t l = (∑ d, I.q t (hd p a) d * I.k s (hd p a) d) * (1 / 8) := by
  refine (Finset.sum_congr rfl fun l _ => ?_).trans ((sum_lanes a fun l => (pairOf I p).K s l * (1 / 8) * (pairOf I p).Q t l).trans ?_)
  · unfold kms
    rw [ite_mul, zero_mul]
  · rw [Finset.sum_mul]
    refine Finset.sum_congr rfl fun d _ => ?_
    simp only [pairOf, aOf_lane, dOf_lane]
    ring

theorem values_sum (p : Fin 4) (a : Fin 2) (s t : Fin 8192) :
    ∑ l, vms (pairOf I p).V a s l * (pairOf I p).C t l = I.dp (hd p a) t s := by
  refine (Finset.sum_congr rfl fun l _ => ?_).trans ((sum_lanes a fun l => (pairOf I p).V s l * (pairOf I p).C t l).trans ?_)
  · unfold vms
    rw [ite_mul, zero_mul]
  · refine Finset.sum_congr rfl fun d _ => ?_
    simp only [pairOf, aOf_lane, dOf_lane]
    ring

theorem P_eq (p : Fin 4) (a : Fin 2) (s t : Fin 8192) : (pairOf I p).P a s t = I.p (hd p a) t s := by
  rw [Pair.P, keys_sum, I.p_exp]
  refine if_congr Iff.rfl (congrArg Real.exp ?_) rfl
  unfold Cert.Attention.Ins.sc
  simp only [pairOf]
  ring

theorem S_eq (p : Fin 4) (a : Fin 2) (s t : Fin 8192) : (pairOf I p).S a s t = I.ds (hd p a) t s := by
  rw [Pair.S, P_eq, values_sum]
  rfl

/-- The gradient of q. -/
theorem dq_at (p : Fin 4) (l : Fin 128) (t : Fin 8192) :
    gDq (pairOf I) (ix2 (colOf p l) t) = ((∑ s, I.ds (hd p (aOf l)) t s * (1 / 8) * I.k s (hd p (aOf l)) (dOf l) : ℝ) : EReal) := by
  refine (gDq_at p l t).trans (congrArg (fun z : ℝ => (z : EReal)) ?_)
  rw [sum_tiles]
  refine Finset.sum_congr rfl fun j _ => ?_
  unfold Pair.T
  rw [← Finset.sum_add_distrib]
  refine Finset.sum_congr rfl fun r _ => ?_
  simp only [S_eq, kms]
  by_cases h : l.val / 64 = 0
  · have ea : aOf l = 0 := Fin.ext h
    have h' : ¬ l.val / 64 = 1 := by omega
    rw [if_pos h, if_neg h', ea]
    simp only [pairOf, ea]
    ring
  · have h' : l.val / 64 = 1 := by omega
    have ea : aOf l = 1 := Fin.ext h'
    rw [if_neg h, if_pos h', ea]
    simp only [pairOf, ea]
    ring

/-- The gradient of k. -/
theorem dk_at (p : Fin 4) (l : Fin 128) (s : Fin 8192) :
    gDk (pairOf I) (ix2 s (colOf p l)) = ((∑ t, I.ds (hd p (aOf l)) t s * (1 / 8) * I.q t (hd p (aOf l)) (dOf l) : ℝ) : EReal) := by
  refine (gDk_at p l s).trans (congrArg (fun z : ℝ => (z : EReal)) ?_)
  rw [Finset.sum_mul]
  refine Finset.sum_congr rfl fun t _ => ?_
  rw [S_eq]
  simp only [pairOf]
  ring

/-- The gradient of v. -/
theorem dv_at (p : Fin 4) (l : Fin 128) (s : Fin 8192) :
    gDv (pairOf I) (ix2 s (colOf p l)) = ((∑ t, I.p (hd p (aOf l)) t s * I.c t (hd p (aOf l)) (dOf l) : ℝ) : EReal) := by
  refine (gDv_at p l s).trans (congrArg (fun z : ℝ => (z : EReal)) ?_)
  refine Finset.sum_congr rfl fun t _ => ?_
  rw [P_eq]
  rfl

/-- The gradient of the running log-gates. -/
theorem df_at (p : Fin 4) (l : Fin 128) (s : Fin 8192) :
    gDf (pairOf I) (ix2 s (colOf p l)) = ((-∑ t, I.ds (hd p (aOf l)) t s : ℝ) : EReal) := by
  refine (gDf_at p l s).trans (congrArg (fun z : ℝ => (z : EReal)) (congrArg Neg.neg ?_))
  exact Finset.sum_congr rfl fun t _ => S_eq I p (aOf l) s t

end Cert.KernelIdeal.Attn

end
-- ==== Proof.Reference.lean ====
/- The reference's results over the reals: the gradients of the attention. -/
module

public import proofs.«01_k».proof.Proof.Gen.ReferenceIdeal.Run
public import proofs.«01_k».proof.Proof.Model
public import Idealize.ShloMosaic.Lib.StableHlo.ReadAt
public import Idealize.ShloMosaic.Lib.Pointwise
public import Idealize.ShloMosaic.Lib.WordCmp

@[expose] public section

set_option maxRecDepth 16384

noncomputable section

namespace Cert.ReferenceIdeal.Attn

open Cert.ReferenceIdeal Cert.ReferenceIdeal.Gen Idealize.ShloMosaic Idealize.ShloMosaic.TcCoe Idealize.ShloMosaic.Tactic Idealize.SL.Sem

variable (m : (ℓ : Loc nD τ sig) → Buf (Elt Ideal) ℓ) (c : Dev nD)

/-- Device `c`'s five arguments are the real functions of `I`. -/
structure Inputs (I : Cert.Attention.Ins) : Prop where
  q : ∀ t h d, m (c, main_arg0) (ix3 t h d) = ((I.q t h d : ℝ) : EReal)
  k : ∀ t h d, m (c, main_arg1) (ix3 t h d) = ((I.k t h d : ℝ) : EReal)
  v : ∀ t h d, m (c, main_arg2) (ix3 t h d) = ((I.v t h d : ℝ) : EReal)
  f : ∀ t h, m (c, main_arg3) (ix2 t h) = ((I.f t h : ℝ) : EReal)
  c : ∀ t h d, m (c, main_arg4) (ix3 t h d) = ((I.c t h d : ℝ) : EReal)

/-- What the reference leaves in a buffer. -/
abbrev R (b : Ref sig .tc) : Buf (Elt Ideal) ((c : Thread nD τ).loc b) := StableHlo.after Value.ops (fun b => m (c, b)) b

/-! ## The stages as functions of plainly typed arrays -/

abbrev Sq : Type := FVec Ideal S8x8192x8192 .f32
abbrev Mask : Type := IVec S8x8192x8192 1
abbrev Row : Type := FVec Ideal S8x8192 .f32
abbrev Col : Type := FVec Ideal S8x8192x1 .f32
abbrev Lanes : Type := FVec Ideal S8192x8x64 .f32

/-- A column's value at each of its row's entries. -/
def wide (y : Col) : Sq := broadcastInDim S8x8192x8192 ![0, 1, 2] bcast_S8x8192x1_S8x8192x8192_0_1_2 y
/-- A row's value as a column. -/
def tall (y : Row) : Col := broadcastInDim S8x8192x1 ![0, 1] bcast_S8x8192_S8x8192x1_0_1 y

/-- The row maximum. -/
def rowMax (x : Sq) : Row := Host.reduce FloatOps.maximumf x (constant S_ .f32 0xFF800000#32) reducesTo_S8x8192x8192_S8x8192_d2 h_S_

/-- The exponential of the scores less their row maximum. -/
def expo (x : Sq) (y : Row) : Sq := Host.exp (subf x (wide (tall (maximumf (broadcastInDim S8x8192 ![] bcast_S_S8x8192 (constant S_ .f32 0xFF800000#32)) y))))

/-- The row sum. -/
def rowSum (x : Sq) : Row := Host.reduceAdd x (constant S_ .f32 0x00000000#32) reducesTo_S8x8192x8192_S8x8192_d2 h_S_

/-- The weights from the exponentials and their row sum. -/
def share (x : Sq) (y : Row) : Sq := Host.divf x (wide (tall y))

/-- The gradient with respect to the weights. -/
def dWeight (g v : Lanes) : Sq := Host.dotGeneral dot_S8x64x8192_S8192x8x64_S8x8192x8192_1_2_2_0_0_1 none (transpose S8x64x8192 [1, 2, 0] g transposes_S8192x8x64_S8x64x8192_1_2_0) v

/-- The part of the scores' gradient that a row shares. -/
def common (d e : Sq) (y : Row) : Row :=
  Host.reduceAdd (Host.negf (shapeCast S8x8192x1 (Host.reduceAdd (mulf (mulf d (wide (Host.divf (broadcastInDim S8x8192x1 ![] bcast_S_S8x8192x1 (constant S_ .f32 0x3F800000#32)) (mulf (tall y) (tall y))))) e) (constant S_ .f32 0x00000000#32) reducesTo_S8x8192x8192_S8x8192_d2 h_S_) shapeCasts_S8x8192_S8x8192x1))
    (constant S_ .f32 0x00000000#32) reducesTo_S8x8192x1_S8x8192_d2 h_S_

/-- The gradient with respect to the scores. -/
def dScore (k : Mask) (d e : Sq) (y w : Row) : Sq :=
  select k (mulf (addf (Host.divf d (wide (tall y))) (broadcastInDim S8x8192x8192 ![0, 1] bcast_S8x8192_S8x8192x8192_0_1 w)) e) (broadcastInDim S8x8192x8192 ![] bcast_S_S8x8192x8192 (constant S_ .f32 0x00000000#32))

/-- The gradient with respect to the scaled products. -/
def scaled (x : Sq) : Sq := mulf x (broadcastInDim S8x8192x8192 ![] bcast_S_S8x8192x8192 (constant S_ .f32 0x3E000000#32))

def outQ (x : Sq) (k : Lanes) : FVec Ideal S512x8192 .f32 :=
  transpose S512x8192 [1, 0] (shapeCast S8192x512 (transpose S8192x8x64 [1, 0, 2] (Host.dotGeneral dot_S8x8192x8192_S8192x8x64_S8x8192x64_2_0_1_2_0_1 none (scaled x) k : FVec Ideal S8x8192x64 .f32) transposes_S8x8192x64_S8192x8x64_1_0_2) shapeCasts_S8192x8x64_S8192x512) transposes_S8192x512_S512x8192_1_0

def outK (x : Sq) (q : Lanes) : FVec Ideal S8192x512 .bf16 :=
  truncf .bf16 (shapeCast S8192x512 (transpose S8192x8x64 [1, 0, 2] (Host.dotGeneral dot_S8x8192x8192_S8192x8x64_S8x8192x64_1_0_2_2_0_1 none (scaled x) q : FVec Ideal S8x8192x64 .f32) transposes_S8x8192x64_S8192x8x64_1_0_2) shapeCasts_S8192x8x64_S8192x512) bitsLt_bf16_f32

def outV (g : Lanes) (x : Sq) : FVec Ideal S8192x512 .bf16 :=
  truncf .bf16 (shapeCast S8192x512 (transpose S8192x8x64 [2, 0, 1] (Host.dotGeneral dot_S8x64x8192_S8x8192x8192_S8x64x8192_2_1_1_2_0_0 none (transpose S8x64x8192 [1, 2, 0] g transposes_S8192x8x64_S8x64x8192_1_2_0) x : FVec Ideal S8x64x8192 .f32) transposes_S8x64x8192_S8192x8x64_2_0_1) shapeCasts_S8192x8x64_S8192x512) bitsLt_bf16_f32

/-- The sum over the queries, negated, of the scores' gradient. -/
def byKey (x : Sq) : FVec Ideal S8192x8 .f32 :=
  transpose S8192x8 [1, 0] (Host.reduceAdd (shapeCast S8x1x8192 (Host.reduceAdd (Host.negf x) (constant S_ .f32 0x00000000#32) reducesTo_S8x8192x8192_S8x8192_d1 h_S_) shapeCasts_S8x8192_S8x1x8192) (constant S_ .f32 0x00000000#32) reducesTo_S8x1x8192_S8x8192_d1 h_S_) transposes_S8x8192_S8192x8_1_0

/-- The sum over the keys of the scores' gradient. -/
def byQuery (x : Sq) : FVec Ideal S8192x8 .f32 :=
  transpose S8192x8 [1, 0] (Host.reduceAdd (shapeCast S8x8192x1 (Host.reduceAdd x (constant S_ .f32 0x00000000#32) reducesTo_S8x8192x8192_S8x8192_d2 h_S_) shapeCasts_S8x8192_S8x8192x1) (constant S_ .f32 0x00000000#32) reducesTo_S8x8192x1_S8x8192_d2 h_S_) transposes_S8x8192_S8192x8_1_0

def outF (x : Sq) : FVec Ideal S8192x512 .f32 :=
  shapeCast S8192x512 (broadcastInDim S8192x8x64 ![0, 1, 2] bcast_S8192x8x1_S8192x8x64_0_1_2 (broadcastInDim S8192x8x1 ![0, 1] bcast_S8192x8_S8192x8x1_0_1 (addf (byKey x) (byQuery x)))) shapeCasts_S8192x8x64_S8192x512

theorem v19_eq : R m c main_v19 = rowMax (R m c main_v18_0) := by
  unfold R rowMax
  after_reads_simp

theorem v39_eq : R m c main_v39 = expo (R m c main_v18_0) (R m c main_v19) := by
  unfold R expo wide tall
  after_reads_simp

theorem v40_eq : R m c main_v40 = rowSum (R m c main_v39) := by
  unfold R rowSum
  after_reads_simp

theorem v43_eq : R m c main_v43 = share (R m c main_v39) (R m c main_v40) := by
  unfold R share wide tall
  after_reads_simp

theorem v50_eq : R m c main_v50 = dWeight (m (c, main_arg4)) (m (c, main_arg2)) := by
  unfold R dWeight
  after_reads_simp

set_option maxHeartbeats 4000000 in
theorem v61_eq : R m c main_v61 = common (R m c main_v50) (R m c main_v39) (R m c main_v40) := by
  unfold R common wide tall
  after_reads_simp
  rfl

set_option maxHeartbeats 4000000 in
theorem v65_eq : R m c main_v65 = dScore (R m c main_v18_1) (R m c main_v50) (R m c main_v39) (R m c main_v40) (R m c main_v61) := by
  unfold R dScore wide tall
  after_reads_simp
  simp -implicitDefEqProofs only [StableHlo.TRef.toBuf, StableHlo.TRef.ofBuf, cast_cast, cast_eq]

set_option maxHeartbeats 4000000 in
theorem v85_eq : R m c main_v85 = outQ (R m c main_v65) (m (c, main_arg1)) := by
  unfold R outQ scaled
  after_reads_simp
  rfl

set_option maxHeartbeats 4000000 in
theorem v87_eq : R m c main_v87 = outK (R m c main_v65) (m (c, main_arg0)) := by
  unfold R outK scaled
  after_reads_simp
  rfl

theorem v89_eq : R m c main_v89 = outV (m (c, main_arg4)) (R m c main_v43) := by
  unfold R outV
  after_reads_simp
  rfl

set_option maxHeartbeats 4000000 in
theorem v90_eq : R m c main_v90 = outF (R m c main_v65) := by
  unfold R outF byKey byQuery
  after_reads_simp
  rfl

end Cert.ReferenceIdeal.Attn

end
-- ==== Proof.RefValue.lean ====
/- The reference's stages read at an index, and its four results over the reals. -/
module

public import proofs.«01_k».proof.Proof.Reference
public import proofs.«01_k».proof.Proof.Host

@[expose] public section

set_option maxRecDepth 16384

noncomputable section

namespace Cert.ReferenceIdeal.Attn

open Cert.ReferenceIdeal Cert.ReferenceIdeal.Gen Idealize.ShloMosaic Idealize.ShloMosaic.TcCoe Idealize.ShloMosaic.Tactic Idealize.SL.Sem
open Cert.KernelIdeal.Attn (neg_inf score_masked coe_sum eighth_f32)

variable {I : Cert.Attention.Ins}

theorem one_f32 : Ideal.ofBits .f32 0x3F800000#32 = ((1 : ℝ) : EReal) := by
  simp [Ideal.ofBits, Ideal.ieee, -EReal.coe_mul]; norm_num

theorem rowMax_at (x : Sq) (e : ∀ h t s, x (ix3 h t s) = I.ms h t s) (h : Fin 8) (t : Fin 8192) : rowMax x (ix2 h t) = ((I.top h t : ℝ) : EReal) := by
  unfold rowMax
  pointwise
  simp only [e, neg_inf]
  exact I.fold_top h t

theorem expo_at (x : Sq) (y : Row) (e : ∀ h t s, x (ix3 h t s) = I.ms h t s) (e' : ∀ h t, y (ix2 h t) = ((I.top h t : ℝ) : EReal)) (h : Fin 8) (t s : Fin 8192) :
    expo x y (ix3 h t s) = ((I.e h t s : ℝ) : EReal) := by
  unfold expo wide tall
  pointwise
  rw [neg_inf, e, e', max_eq_right bot_le, I.exp_ms]

theorem rowSum_at (x : Sq) (e : ∀ h t s, x (ix3 h t s) = ((I.e h t s : ℝ) : EReal)) (h : Fin 8) (t : Fin 8192) : rowSum x (ix2 h t) = ((I.z h t : ℝ) : EReal) := by
  unfold rowSum
  pointwise
  simp only [e, coe_sum, Ideal.ofBits_zero_f32, zero_add]
  rfl

theorem share_at (x : Sq) (y : Row) (e : ∀ h t s, x (ix3 h t s) = ((I.e h t s : ℝ) : EReal)) (e' : ∀ h t, y (ix2 h t) = ((I.z h t : ℝ) : EReal)) (h : Fin 8) (t s : Fin 8192) :
    share x y (ix3 h t s) = ((I.p h t s : ℝ) : EReal) := by
  unfold share wide tall
  pointwise
  rw [e, e', Ideal.div_coe (I.z_pos h t).ne', ← EReal.coe_mul, mul_one_div]
  rfl

theorem dWeight_at (g v : Lanes) (eg : ∀ t h d, g (ix3 t h d) = ((I.c t h d : ℝ) : EReal)) (ev : ∀ t h d, v (ix3 t h d) = ((I.v t h d : ℝ) : EReal)) (h : Fin 8) (t s : Fin 8192) :
    dWeight g v (ix3 h t s) = ((I.dp h t s : ℝ) : EReal) := by
  unfold dWeight
  pointwise
  simp only [eg, ev, ← EReal.coe_mul, coe_sum]
  rfl

theorem common_at (d x : Sq) (y : Row) (ed : ∀ h t s, d (ix3 h t s) = ((I.dp h t s : ℝ) : EReal)) (e : ∀ h t s, x (ix3 h t s) = ((I.e h t s : ℝ) : EReal))
    (e' : ∀ h t, y (ix2 h t) = ((I.z h t : ℝ) : EReal)) (h : Fin 8) (t : Fin 8192) :
    common d x y (ix2 h t) = ((-∑ s, I.dp h t s * (1 / (I.z h t * I.z h t)) * I.e h t s : ℝ) : EReal) := by
  unfold common wide tall
  pointwise
  have hz : I.z h t * I.z h t ≠ 0 := mul_ne_zero (I.z_pos h t).ne' (I.z_pos h t).ne'
  simp only [e, e', ed, one_f32, ← EReal.coe_mul, Ideal.div_coe hz, one_mul, coe_sum, Ideal.ofBits_zero_f32, zero_add, ← EReal.coe_neg]
  simp

theorem dScore_at (k : Mask) (d x : Sq) (y w : Row) (ek : ∀ h t s, k (ix3 h t s) = IntOp.cmpi .sle (BitVec.ofNat 32 s.val) (BitVec.ofNat 32 t.val))
    (ed : ∀ h t s, d (ix3 h t s) = ((I.dp h t s : ℝ) : EReal)) (e : ∀ h t s, x (ix3 h t s) = ((I.e h t s : ℝ) : EReal)) (e' : ∀ h t, y (ix2 h t) = ((I.z h t : ℝ) : EReal))
    (ew : ∀ h t, w (ix2 h t) = ((-∑ s, I.dp h t s * (1 / (I.z h t * I.z h t)) * I.e h t s : ℝ) : EReal)) (h : Fin 8) (t s : Fin 8192) :
    dScore k d x y w (ix3 h t s) = ((I.ds h t s : ℝ) : EReal) := by
  have hz := (I.z_pos h t).ne'
  have hw : (∑ s, I.dp h t s * (1 / (I.z h t * I.z h t)) * I.e h t s) = I.y h t / I.z h t := by
    rw [I.y_eq, Finset.sum_div]
    refine Finset.sum_congr rfl fun s _ => ?_
    unfold Cert.Attention.Ins.p
    field_simp
  have hc : IntOp.cmpi .sle (BitVec.ofNat 32 s.val) (BitVec.ofNat 32 t.val) = if s.val ≤ t.val then 1#1 else 0#1 := by
    word_cmp
    split_ifs with h <;> simp [h]
  unfold dScore wide tall
  pointwise
  simp only [ek, ed, e, e', ew, hw, Ideal.div_coe hz, Ideal.ofBits_zero_f32, ← EReal.coe_mul, ← EReal.coe_add, hc]
  by_cases hs : s.val ≤ t.val
  · rw [if_pos hs]
    refine (congrArg (fun z : ℝ => (z : EReal)) ?_ : ((_ : ℝ) : EReal) = _)
    unfold Cert.Attention.Ins.ds Cert.Attention.Ins.p
    field_simp
    ring
  · rw [if_neg hs]
    refine (congrArg (fun z : ℝ => (z : EReal)) ?_ : ((0 : ℝ) : EReal) = _)
    have h0 : I.e h t s = 0 := if_neg hs
    unfold Cert.Attention.Ins.ds Cert.Attention.Ins.p
    rw [h0, zero_div, zero_mul]

theorem outQ_at (x : Sq) (k : Lanes) (e : ∀ h t s, x (ix3 h t s) = ((I.ds h t s : ℝ) : EReal)) (ek : ∀ t h d, k (ix3 t h d) = ((I.k t h d : ℝ) : EReal)) (j : Fin 512) (t : Fin 8192) :
    outQ x k (ix2 j t) = ((∑ s, I.ds ⟨j.val / 64, by omega⟩ t s * (1 / 8) * I.k s ⟨j.val / 64, by omega⟩ ⟨j.val % 64, Nat.mod_lt _ (by decide)⟩ : ℝ) : EReal) := by
  unfold outQ scaled
  pointwise
  simp only [e, ek, eighth_f32, ← EReal.coe_mul, coe_sum]

theorem outK_at (x : Sq) (q : Lanes) (e : ∀ h t s, x (ix3 h t s) = ((I.ds h t s : ℝ) : EReal)) (eq : ∀ t h d, q (ix3 t h d) = ((I.q t h d : ℝ) : EReal)) (s : Fin 8192) (j : Fin 512) :
    outK x q (ix2 s j) = ((∑ t, I.ds ⟨j.val / 64, by omega⟩ t s * (1 / 8) * I.q t ⟨j.val / 64, by omega⟩ ⟨j.val % 64, Nat.mod_lt _ (by decide)⟩ : ℝ) : EReal) := by
  unfold outK scaled
  pointwise
  simp only [e, eq, eighth_f32, ← EReal.coe_mul, coe_sum]

theorem outV_at (g : Lanes) (x : Sq) (eg : ∀ t h d, g (ix3 t h d) = ((I.c t h d : ℝ) : EReal)) (e : ∀ h t s, x (ix3 h t s) = ((I.p h t s : ℝ) : EReal)) (s : Fin 8192) (j : Fin 512) :
    outV g x (ix2 s j) = ((∑ t, I.p ⟨j.val / 64, by omega⟩ t s * I.c t ⟨j.val / 64, by omega⟩ ⟨j.val % 64, Nat.mod_lt _ (by decide)⟩ : ℝ) : EReal) := by
  unfold outV
  pointwise
  simp only [e, eg, ← EReal.coe_mul, coe_sum]
  refine congrArg (fun z : ℝ => (z : EReal)) (Finset.sum_congr rfl fun t _ => mul_comm _ _)

theorem outF_at (x : Sq) (e : ∀ h t s, x (ix3 h t s) = ((I.ds h t s : ℝ) : EReal)) (s : Fin 8192) (j : Fin 512) :
    outF x (ix2 s j) = ((-∑ t, I.ds ⟨j.val / 64, by omega⟩ t s : ℝ) : EReal) := by
  unfold outF byKey byQuery
  pointwise
  simp only [e, ← EReal.coe_neg, coe_sum, Ideal.ofBits_zero_f32, zero_add]
  simp [I.sum_ds]

section Run
variable {m : (ℓ : Loc nD τ sig) → Buf (Elt Ideal) ℓ} {c : Dev nD} (H : Inputs m c I)

theorem v18_1_at (h : Fin 8) (t s : Fin 8192) : R m c main_v18_1 (ix3 h t s) = IntOp.cmpi .sle (BitVec.ofNat 32 s.val) (BitVec.ofNat 32 t.val) := by
  unfold R
  after_reads_at

include H

theorem v18_0_at (h : Fin 8) (t s : Fin 8192) : R m c main_v18_0 (ix3 h t s) = I.ms h t s := by
  unfold R
  after_reads_at
  rw [show (id (constant (F := Ideal) S_ .f32 4286578688#32) : S_.Idx → EReal) ix0 = (⊥ : EReal) from neg_inf]
  refine score_masked h t s _ ?_
  simp only [H.q, H.k, H.f, ← EReal.coe_mul, coe_sum, ← EReal.coe_sub, ← EReal.coe_add, eighth_f32]
  rfl

theorem v19_at (h : Fin 8) (t : Fin 8192) : R m c main_v19 (ix2 h t) = ((I.top h t : ℝ) : EReal) := by
  rw [v19_eq]
  exact rowMax_at _ (v18_0_at H) h t

theorem v39_at (h : Fin 8) (t s : Fin 8192) : R m c main_v39 (ix3 h t s) = ((I.e h t s : ℝ) : EReal) := by
  rw [v39_eq]
  exact expo_at _ _ (v18_0_at H) (v19_at H) h t s

theorem v40_at (h : Fin 8) (t : Fin 8192) : R m c main_v40 (ix2 h t) = ((I.z h t : ℝ) : EReal) := by
  rw [v40_eq]
  exact rowSum_at _ (v39_at H) h t

theorem v43_at (h : Fin 8) (t s : Fin 8192) : R m c main_v43 (ix3 h t s) = ((I.p h t s : ℝ) : EReal) := by
  rw [v43_eq]
  exact share_at _ _ (v39_at H) (v40_at H) h t s

theorem v50_at (h : Fin 8) (t s : Fin 8192) : R m c main_v50 (ix3 h t s) = ((I.dp h t s : ℝ) : EReal) := by
  rw [v50_eq]
  exact dWeight_at _ _ H.c H.v h t s

theorem v65_at (h : Fin 8) (t s : Fin 8192) : R m c main_v65 (ix3 h t s) = ((I.ds h t s : ℝ) : EReal) := by
  rw [v65_eq, v61_eq]
  exact dScore_at _ _ _ _ _ v18_1_at (v50_at H) (v39_at H) (v40_at H) (common_at _ _ _ (v50_at H) (v39_at H) (v40_at H)) h t s

theorem v85_at (j : Fin 512) (t : Fin 8192) :
    R m c main_v85 (ix2 j t) = ((∑ s, I.ds ⟨j.val / 64, by omega⟩ t s * (1 / 8) * I.k s ⟨j.val / 64, by omega⟩ ⟨j.val % 64, Nat.mod_lt _ (by decide)⟩ : ℝ) : EReal) := by
  rw [v85_eq]
  exact outQ_at _ _ (v65_at H) H.k j t

theorem v87_at (s : Fin 8192) (j : Fin 512) :
    R m c main_v87 (ix2 s j) = ((∑ t, I.ds ⟨j.val / 64, by omega⟩ t s * (1 / 8) * I.q t ⟨j.val / 64, by omega⟩ ⟨j.val % 64, Nat.mod_lt _ (by decide)⟩ : ℝ) : EReal) := by
  rw [v87_eq]
  exact outK_at _ _ (v65_at H) H.q s j

theorem v89_at (s : Fin 8192) (j : Fin 512) :
    R m c main_v89 (ix2 s j) = ((∑ t, I.p ⟨j.val / 64, by omega⟩ t s * I.c t ⟨j.val / 64, by omega⟩ ⟨j.val % 64, Nat.mod_lt _ (by decide)⟩ : ℝ) : EReal) := by
  rw [v89_eq]
  exact outV_at _ _ H.c (v43_at H) s j

theorem v90_at (s : Fin 8192) (j : Fin 512) :
    R m c main_v90 (ix2 s j) = ((-∑ t, I.ds ⟨j.val / 64, by omega⟩ t s : ℝ) : EReal) := by
  rw [v90_eq]
  exact outF_at _ (v65_at H) s j

end Run

end Cert.ReferenceIdeal.Attn

end
-- ==== Proof.Value.lean ====
/- From numbers in the five arguments, the kernel's four results are the reference's. -/
module

public import proofs.«01_k».proof.Defs
public import proofs.«01_k».proof.Proof.Launch
public import proofs.«01_k».proof.Proof.Result
public import proofs.«01_k».proof.Proof.RefValue

@[expose] public section

noncomputable section

namespace Cert.Proof

open Idealize.ShloMosaic Idealize.ShloMosaic.TcCoe Idealize.ShloMosaic.Tactic Idealize.SL.Sem
open Cert.KernelIdeal.Attn (Pair pairOf gDq gDk gDv gDf colOf pOf lOf aOf hd dOf head_eq lane_eq allHold arr_dq arr_dk arr_dv arr_df dq_at dk_at dv_at df_at)

theorem pre_facts : Cert.Pre_finite.Facts := ⟨by decide, by decide⟩

/-- An extended real of magnitude below +∞ is a real. -/
theorem real_of_lt (x : EReal) (h : Ideal.cmp .olt (max x (-x)) (Ideal.ofBits .f32 0x7F800000#32) = 1#1) : x = ((x.toReal : ℝ) : EReal) := by
  have e : Ideal.ofBits .f32 0x7F800000#32 = (⊤ : EReal) := by
    simp [Ideal.ofBits, Ideal.ieee]
  rw [e] at h
  have lt : max x (-x) < ⊤ := by
    by_contra n
    simp [Ideal.cmp, n] at h
  refine (EReal.coe_toReal ?_ ?_).symm
  · rintro rfl
    simp at lt
  · rintro rfl
    simp at lt

/-- The precondition's comparison of an array, read at an index. -/
theorem real_at {S : Shape} (dims : Fin 0 → Fin S.rank) (b : Shape.BroadcastsInDim ⟨0, ![]⟩ S dims) (x : FVec Ideal S .f32)
    (h : cmpf .olt (Host.absf x) (broadcastInDim S dims b (constant (F := Ideal) ⟨0, ![]⟩ .f32 0x7F800000#32)) = fun _ => 1#1) (i : S.Idx) :
    x i = (((x i : EReal).toReal : ℝ) : EReal) :=
  real_of_lt (x i) (congrFun h i)

/-- The real functions that a device's five arguments hold. -/
def insOf (q k v : FVec Ideal ⟨3, ![8192, 8, 64]⟩ .f32) (f : FVec Ideal ⟨2, ![8192, 8]⟩ .f32) (c : FVec Ideal ⟨3, ![8192, 8, 64]⟩ .f32) : Cert.Attention.Ins where
  q t h d := (q (ix3 t h d) : EReal).toReal
  k t h d := (k (ix3 t h d) : EReal).toReal
  v t h d := (v (ix3 t h d) : EReal).toReal
  f t h := (f (ix2 t h) : EReal).toReal
  c t h d := (c (ix3 t h d) : EReal).toReal

variable (m : (ℓ : Loc KernelIdeal.nD KernelIdeal.τ KernelIdeal.sig) → Buf (Elt Ideal) ℓ)

/-- Device `c`'s. -/
def ins (c : Dev KernelIdeal.nD) : Cert.Attention.Ins :=
  insOf (m (c, KernelIdeal.main_arg0)) (m (c, KernelIdeal.main_arg1)) (m (c, KernelIdeal.main_arg2)) (m (c, KernelIdeal.main_arg3)) (m (c, KernelIdeal.main_arg4))

theorem inputs (H : @Cert.Pre_KernelIdeal_finite pre_facts m) (c : Dev KernelIdeal.nD) : KernelIdeal.Attn.Inputs m c (ins m c) where
  q t h d := real_at _ _ _ (H c).1 (ix3 t h d)
  k t h d := real_at _ _ _ (H c).2.1 (ix3 t h d)
  v t h d := real_at _ _ _ (H c).2.2.1 (ix3 t h d)
  f t h := real_at _ _ _ (H c).2.2.2.1 (ix2 t h)
  c t h d := real_at _ _ _ (H c).2.2.2.2 (ix3 t h d)

/-- A column of the results is a lane of a pair. -/
theorem colOf_split (x : Fin 512) : colOf (pOf x) (lOf x) = x := Fin.ext (by show x.val / 128 * 128 + x.val % 128 = x.val; omega)

variable (I : Cert.Attention.Ins) {m' : (ℓ : Loc ReferenceIdeal.nD ReferenceIdeal.τ ReferenceIdeal.sig) → Buf (Elt Ideal) ℓ} {c : Dev ReferenceIdeal.nD}
  {I} (H : ReferenceIdeal.Attn.Inputs m' c I)
include H

theorem ref_dq : ReferenceIdeal.Attn.R m' c ReferenceIdeal.main_v85 = gDq (pairOf I) := by
  refine funext fun (y : (⟨2, ![512, 8192]⟩ : Shape).Idx) => ?_
  obtain ⟨j, t, rfl⟩ : ∃ j t, y = ix2 j t := ⟨_, _, eq_ix2 y⟩
  refine (ReferenceIdeal.Attn.v85_at H j t).trans ?_
  obtain ⟨p, l, rfl⟩ : ∃ p l, j = colOf p l := ⟨_, _, (colOf_split j).symm⟩
  rw [head_eq, lane_eq]
  exact (dq_at I p l t).symm

theorem ref_dk : ReferenceIdeal.Attn.R m' c ReferenceIdeal.main_v87 = gDk (pairOf I) := by
  refine funext fun (y : (⟨2, ![8192, 512]⟩ : Shape).Idx) => ?_
  obtain ⟨s, j, rfl⟩ : ∃ s j, y = ix2 s j := ⟨_, _, eq_ix2 y⟩
  refine (ReferenceIdeal.Attn.v87_at H s j).trans ?_
  obtain ⟨p, l, rfl⟩ : ∃ p l, j = colOf p l := ⟨_, _, (colOf_split j).symm⟩
  rw [head_eq, lane_eq]
  exact (dk_at I p l s).symm

theorem ref_dv : ReferenceIdeal.Attn.R m' c ReferenceIdeal.main_v89 = gDv (pairOf I) := by
  refine funext fun (y : (⟨2, ![8192, 512]⟩ : Shape).Idx) => ?_
  obtain ⟨s, j, rfl⟩ : ∃ s j, y = ix2 s j := ⟨_, _, eq_ix2 y⟩
  refine (ReferenceIdeal.Attn.v89_at H s j).trans ?_
  obtain ⟨p, l, rfl⟩ : ∃ p l, j = colOf p l := ⟨_, _, (colOf_split j).symm⟩
  rw [head_eq, lane_eq]
  exact (dv_at I p l s).symm

theorem ref_df : ReferenceIdeal.Attn.R m' c ReferenceIdeal.main_v90 = gDf (pairOf I) := by
  refine funext fun (y : (⟨2, ![8192, 512]⟩ : Shape).Idx) => ?_
  obtain ⟨s, j, rfl⟩ : ∃ s j, y = ix2 s j := ⟨_, _, eq_ix2 y⟩
  refine (ReferenceIdeal.Attn.v90_at H s j).trans ?_
  obtain ⟨p, l, rfl⟩ : ∃ p l, j = colOf p l := ⟨_, _, (colOf_split j).symm⟩
  rw [head_eq]
  exact (df_at I p l s).symm

omit H

/-- From arguments that are numbers, the same for both, kernel and reference end with the same four gradients. -/
theorem gradients : @Cert.algebraic_KernelIdeal_ReferenceIdeal_pre_finite KernelIdeal.Gen.facts ReferenceIdeal.Gen.facts pre_facts := by
  intro m g m' g' H e
  have K : ∀ c, KernelIdeal.Attn.Inputs m c (ins m c) := inputs m H
  have K' : ∀ c : Dev ReferenceIdeal.nD, ReferenceIdeal.Attn.Inputs m' c (ins m c) := fun c =>
    ⟨fun t h d => (congrFun (e c).1 _).trans ((K c).q t h d), fun t h d => (congrFun (e c).2.1 _).trans ((K c).k t h d),
      fun t h d => (congrFun (e c).2.2.1 _).trans ((K c).v t h d), fun t h => (congrFun (e c).2.2.2.1 _).trans ((K c).f t h),
      fun t h d => (congrFun (e c).2.2.2.2 _).trans ((K c).c t h d)⟩
  refine ⟨fun c => gDq (pairOf (ins m c)), fun c => gDk (pairOf (ins m c)), fun c => gDv (pairOf (ins m c)), fun c => gDf (pairOf (ins m c)), ?_, ?_⟩
  · refine (θ_run _ _ _).mono (fun r h c => ?_) (θ_run_and (KernelIdeal.Attn.launched m g) (KernelIdeal.Attn.frame m g))
    exact ⟨(h.1.1.out_eq c 8).trans (arr_dq (allHold (K c))), (h.1.1.out_eq c 9).trans (arr_dk (allHold (K c))),
      (h.1.1.out_eq c 10).trans (arr_dv (allHold (K c))), (h.1.1.out_eq c 11).trans (arr_df (allHold (K c))), h.2.1 c⟩
  · refine (θ_run _ _ _).mono (fun r h c => ?_) (θ_run_and
      (StableHlo.run_seq ReferenceIdeal.Value.scopedRefs_eq ReferenceIdeal.Value.scopedSems_eq ReferenceIdeal.defs ReferenceIdeal.main (fun _ => ReferenceIdeal.Value.ops) ReferenceIdeal.Value.main_eq
        (fun _ => ReferenceIdeal.Value.ops_sub) m' g') (ReferenceIdeal.Value.run m' g'))
    exact ⟨(h.1 c _).trans (ref_dq (K' c)), (h.1 c _).trans (ref_dk (K' c)), (h.1 c _).trans (ref_dv (K' c)), (h.1 c _).trans (ref_df (K' c)), (h.2 c).2.2.2.2⟩

end Cert.Proof

end
-- ==== Proof.Blocks.lean ====
/- A sum over 8192 rows taken in four blocks of 2048, on the extended reals; an accumulator over four points. -/
module

public import Idealize.ShloMosaic.PureOps
public import Idealize.ShloMosaic.Lib.Pointwise

@[expose] public section

set_option maxRecDepth 16384

noncomputable section

namespace Cert.Rows

open Idealize.ShloMosaic Idealize.ShloMosaic.Tactic

/-- Row `r` of block `k`. -/
abbrev row (k : Fin 4) (r : Fin 2048) : Fin 8192 := ⟨2048 * k.val + r.val, by omega⟩

/-- Four blocks, added in order, are the whole sum: addition of extended reals may be regrouped. -/
theorem sum_four (f : Fin 8192 → EReal) : ∑ t, f t = ∑ r, f (row 0 r) + ∑ r, f (row 1 r) + ∑ r, f (row 2 r) + ∑ r, f (row 3 r) := by
  rw [← Fin.sum_univ_four (fun k => ∑ r, f (row k r)), ← Fintype.sum_prod_type' (f := fun k r => f (row k r))]
  refine (Fintype.sum_equiv (finProdFinEquiv (m := 4) (n := 2048)) _ _ fun x => congrArg f (Fin.ext ?_)).symm
  show 2048 * x.1.val + x.2.val = x.2.val + 2048 * x.1.val
  omega

/-- A factor that is a nonnegative real passes through a sum of extended reals. -/
theorem mul_sum {ι : Type} (s : Finset ι) (f : ι → EReal) (x : ℝ) (hx : 0 ≤ x) : (∑ i ∈ s, f i) * (x : EReal) = ∑ i ∈ s, f i * (x : EReal) := by
  classical
  induction s using Finset.induction_on with
  | empty => simp
  | insert a s ha ih => rw [Finset.sum_insert ha, Finset.sum_insert ha, EReal.right_distrib_of_nonneg_of_ne_top (EReal.coe_nonneg.mpr hx) (EReal.coe_ne_top x), ih]

/-- The same, for four terms known to be the blocks' sums. -/
theorem regroup (f : Fin 8192 → EReal) {P : Fin 4 → EReal} (h : ∀ k, P k = ∑ r, f (row k r)) : P 0 + P 1 + P 2 + P 3 = ∑ t, f t := by
  rw [sum_four, h, h, h, h]

/-- Column `q` of half `p`. -/
abbrev col (p : Fin 2) (q : Fin 1408) : Fin 2816 := ⟨1408 * p.val + q.val, by omega⟩
theorem exists_col (j : Fin 2816) : ∃ p q, j = col p q :=
  ⟨⟨j.val / 1408, by omega⟩, ⟨j.val % 1408, Nat.mod_lt _ (by decide)⟩, Fin.ext (by show j.val = 1408 * (j.val / 1408) + j.val % 1408; omega)⟩

/-- Point `k` of the four that work on half `p`. -/
abbrev pt {N : ℕ} (hN : N = 8) (p : Fin 2) (k : Fin 4) : Fin N := ⟨4 * p.val + k.val, by omega⟩

/-- An accumulator that the first of four points sets to its term and the next two add theirs to. -/
theorem run_of_four {N : ℕ} (hN : N = 8) {S : Shape} (a : (n : ℕ) → n < N → FVec Ideal S .f32) (P : Fin N → FVec Ideal S .f32)
    (first : ∀ t : Fin N, t.val % 4 = 0 → a t.val t.isLt = P t)
    (next : ∀ t : Fin N, 1 ≤ t.val % 4 → ¬ t.val % 4 = 3 → a t.val t.isLt = addf (a (t.val - 1) (Nat.lt_of_le_of_lt (Nat.sub_le _ _) t.isLt)) (P t)) (p : Fin 2) :
    a ((pt hN p 3).val - 1) (Nat.lt_of_le_of_lt (Nat.sub_le _ _) (pt hN p 3).isLt) = addf (addf (P (pt hN p 0)) (P (pt hN p 1))) (P (pt hN p 2)) := by
  have e0 := first (pt hN p 0) (by show (4 * p.val + 0) % 4 = 0; omega)
  have e1 := next (pt hN p 1) (by show 1 ≤ (4 * p.val + 1) % 4; omega) (by show ¬ (4 * p.val + 1) % 4 = 3; omega)
  have e2 := next (pt hN p 2) (by show 1 ≤ (4 * p.val + 2) % 4; omega) (by show ¬ (4 * p.val + 2) % 4 = 3; omega)
  exact e2.trans (congrArg (addf · _) (e1.trans (congrArg (addf · _) e0)))

theorem half : Ideal.ofBits .f32 0x3F000000#32 = ((1 / 2 : ℝ) : EReal) := by
  simp [Ideal.ofBits, Ideal.ieee, -EReal.coe_mul]; norm_num
theorem one : Ideal.ofBits .f32 0x3F800000#32 = 1 := by
  simp [Ideal.ofBits, Ideal.ieee, -EReal.coe_mul]; norm_num

end Cert.Rows

end
-- ==== Proof.GateBack.lean ====
/- The gradient through the gated product: kernel and reference agree where the other factors are numbers. -/
module

public import proofs.«01_k».proof.Defs
public import proofs.«01_k».proof.Proof.Blocks
public import proofs.«01_k».proof.Proof.Value
public import proofs.«01_k».proof.Proof.Gen.Kernel2Ideal.Value
public import proofs.«01_k».proof.Proof.Gen.Reference2Ideal.Run
public import Idealize.ShloMosaic.Lib.StableHlo.ReadAt
public import Idealize.ShloMosaic.Lib.Pipeline.ValueKit

@[expose] public section

set_option maxRecDepth 16384

noncomputable section

open Idealize.ShloMosaic Idealize.ShloMosaic.TcCoe Idealize.ShloMosaic.Tactic Idealize.SL.Sem

namespace Cert.Rows

/-- The logistic function. -/
def logistic (a : EReal) : EReal := Ideal.div 1 (1 + Ideal.exp (-a))

theorem logistic_top : logistic ⊤ = 1 := by
  unfold logistic
  rw [EReal.neg_top, show Ideal.exp ⊥ = 0 from rfl, add_zero]
  simp [Ideal.div]
theorem logistic_bot : logistic ⊥ = 0 := by
  unfold logistic
  rw [EReal.neg_bot, show Ideal.exp ⊤ = ⊤ from rfl, ← EReal.coe_one, EReal.coe_add_top]
  simp [Ideal.div]
theorem logistic_real (a : ℝ) : ∃ s : ℝ, logistic a = (s : EReal) := by
  have h : (0 : ℝ) < 1 + Real.exp (-a) := by positivity
  refine ⟨(1 + Real.exp (-a))⁻¹, ?_⟩
  unfold logistic
  rw [← EReal.coe_neg, show Ideal.exp ((-a : ℝ) : EReal) = ((Real.exp (-a) : ℝ) : EReal) from rfl, ← EReal.coe_one, ← EReal.coe_add]
  unfold Ideal.div
  rw [if_neg (by exact_mod_cast h.ne'), ← EReal.coe_inv, ← EReal.coe_mul, one_mul]

/-- The gate's derivative in one factor, as the kernel has it, and in two terms, as the reference has it: equal times any number, at every gate value, infinite ones too. -/
theorem gate_eq (a : EReal) (G : ℝ) : (G : EReal) * (logistic a * (1 + a * (1 - logistic a))) = G * logistic a + a * G * (logistic a * (1 - logistic a)) := by
  induction a with
  | top =>
    rw [logistic_top, show (1 : EReal) - 1 = 0 by rw [← EReal.coe_one, ← EReal.coe_sub]; simp]
    simp
  | bot => simp [logistic_bot]
  | coe a =>
    obtain ⟨s, hs⟩ := logistic_real a
    rw [hs, ← EReal.coe_one]
    simp only [← EReal.coe_mul, ← EReal.coe_add, ← EReal.coe_sub]
    congr 1
    ring

/-- A sum of products of numbers is a number. -/
theorem real_sum {ι : Type} [Fintype ι] (h : ℝ) (f g : ι → EReal) (hf : ∀ i, f i = ((f i).toReal : EReal)) (hg : ∀ i, g i = ((g i).toReal : EReal)) :
    ∑ i, (h : EReal) * f i * g i = ((∑ i, h * (f i).toReal * (g i).toReal : ℝ) : EReal) := by
  rw [Finset.sum_congr rfl fun i _ => show (h : EReal) * f i * g i = ((h * (f i).toReal * (g i).toReal : ℝ) : EReal) by rw [EReal.coe_mul, EReal.coe_mul, ← hf, ← hg]]
  exact Cert.KernelIdeal.Attn.coe_sum ..

end Cert.Rows

namespace Cert.Kernel2Ideal.Grad
open Cert.Kernel2Ideal.Gen Cert.Rows

theorem hz : (![0, 0] : Fin 2 → Nat) = fun _ => 0 := funext fun a => by fin_cases a <;> rfl

variable (y : FVec Ideal S2048x1024 .f32) (w : FVec Ideal S256x1024 .bf16) (a b : FVec Ideal S2048x256 .bf16) (r : Fin 2048) (q : Fin 256)

theorem pay1_at : k0_pay1 (F := Ideal) y w (ix2 r q) = (∑ l, ((1 / 2 : ℝ) : EReal) * y (ix2 r l) * w (ix2 q l) : EReal) := by
  pointwise [k0_pay1, half]
theorem pay3_at : k0_pay3 (F := Ideal) a (ix2 r q) = logistic (a (ix2 r q)) := by
  pointwise [k0_pay3, k0_pay2, one]
  rw [zero_sub]
  rfl
theorem pay4_at : k0_pay4 (F := Ideal) y w a b (ix2 r q) =
    ((∑ l, ((1 / 2 : ℝ) : EReal) * y (ix2 r l) * w (ix2 q l)) * b (ix2 r q) * (logistic (a (ix2 r q)) * (1 + a (ix2 r q) * (1 - logistic (a (ix2 r q))))) : EReal) := by
  pointwise [k0_pay4, k0_pay2, pay1_at, pay3_at, one]
theorem pay5_at : k0_pay5 (F := Ideal) y w a (ix2 r q) =
    ((∑ l, ((1 / 2 : ℝ) : EReal) * y (ix2 r l) * w (ix2 q l)) * (a (ix2 r q) * logistic (a (ix2 r q))) : EReal) := by
  pointwise [k0_pay5, k0_pay2, pay1_at, pay3_at]
theorem out4 : out0_4 (F := Ideal) y w a b = k0_pay4 (F := Ideal) y w a b := by
  unfold out0_4 r0_0 r0_1 r0_2
  rw [View.canon_unit_zero hz]
  simp only [View.ld_unit_zero (S := S2048x1024) hz, View.ld_unit_zero (S := S256x1024) hz, View.ld_unit_zero (S := S2048x256) hz]
theorem out5 : out0_5 (F := Ideal) y w a b = k0_pay5 (F := Ideal) y w a := by
  unfold out0_5 r0_0 r0_1 r0_2
  rw [View.canon_unit_zero hz]
  simp only [View.ld_unit_zero (S := S2048x1024) hz, View.ld_unit_zero (S := S256x1024) hz, View.ld_unit_zero (S := S2048x256) hz]

section
variable (m : (ℓ : Loc nD τ sig) → Buf (Elt Ideal) ℓ) (c : Dev nD)

/-- The arguments the launch reads: the gated layer, the other, the weight and the cotangent. -/
abbrev gated : FVec Ideal S8192x2816 .f32 := m ((c : Thread nD τ).loc main_arg0)
abbrev other : FVec Ideal S8192x2816 .f32 := m ((c : Thread nD τ).loc main_arg1)
abbrev wd : FVec Ideal S2816x1024 .f32 := m ((c : Thread nD τ).loc main_arg2)
abbrev ct : FVec Ideal S8192x1024 .f32 := m ((c : Thread nD τ).loc main_arg3)

/-- The gradient at the product of the layers. -/
def down (t : Fin 8192) (j : Fin 2816) : EReal := ∑ l, ((1 / 2 : ℝ) : EReal) * ct m c (ix2 t l) * wd m c (ix2 j l)
/-- The two results at an index. -/
def gradA (t : Fin 8192) (j : Fin 2816) : EReal :=
  down m c t j * other m c (ix2 t j) * (logistic (gated m c (ix2 t j)) * (1 + gated m c (ix2 t j) * (1 - logistic (gated m c (ix2 t j)))))
def gradB (t : Fin 8192) (j : Fin 2816) : EReal := down m c t j * (gated m c (ix2 t j) * logistic (gated m c (ix2 t j)))

theorem v0_at (j : Fin 2816) (l : Fin 1024) : V m c main_v0 (ix2 j l) = wd m c (ix2 j l) := by
  unfold V
  after_reads_at
theorem v1_at (t : Fin 8192) (j : Fin 2816) : V m c main_v1 (ix2 t j) = gated m c (ix2 t j) := by
  unfold V
  after_reads_at
theorem v2_at (t : Fin 8192) (j : Fin 2816) : V m c main_v2 (ix2 t j) = other m c (ix2 t j) := by
  unfold V
  after_reads_at

theorem index_0 : ∀ t : Fin grid0.N, win0_0.index t 0 = (grid0.coords t 0).val ∧ win0_0.index t 1 = 0 := by decide +kernel
theorem index_1 : ∀ t : Fin grid0.N, win0_1.index t 0 = (grid0.coords t 1).val ∧ win0_1.index t 1 = 0 := by decide +kernel
theorem index_2 : ∀ t : Fin grid0.N, win0_2.index t 0 = (grid0.coords t 0).val ∧ win0_2.index t 1 = (grid0.coords t 1).val := by decide +kernel
theorem index_3 : ∀ t : Fin grid0.N, win0_3.index t 0 = (grid0.coords t 0).val ∧ win0_3.index t 1 = (grid0.coords t 1).val := by decide +kernel
theorem index_4 : ∀ t : Fin grid0.N, win0_4.index t 0 = (grid0.coords t 0).val ∧ win0_4.index t 1 = (grid0.coords t 1).val := by decide +kernel
theorem index_5 : ∀ t : Fin grid0.N, win0_5.index t 0 = (grid0.coords t 0).val ∧ win0_5.index t 1 = (grid0.coords t 1).val := by decide +kernel

variable (t : Fin cfg0.N)

/-- Row `r` and column `q` of point `t`'s block. -/
abbrev rowAt : Fin 8192 := row (grid0.coords t 0) r
abbrev colAt : Fin 2816 := ⟨256 * (grid0.coords t 1).val + q.val, by have h : (grid0.coords t 1).val < 11 := (grid0.coords t 1).isLt; omega⟩

theorem blk_0 (l : Fin 1024) : iblk m c 0 t (ix2 r l) = ct m c (ix2 (rowAt r t) l) := by
  have e : (win0_0.blk t).view.emb (ix2 r l) = ix2 (rowAt r t) l := by
    funext x
    apply Fin.ext
    match x with
    | ⟨0, _⟩ => blk_simp; rw [(index_0 t).1]; exact congrArg (· + r.val) (mul_comm _ _)
    | ⟨1, _⟩ => blk_simp; rw [(index_0 t).2]; simp
  unfold iblk
  rw [View.read_apply]
  exact (cast_eq rfl _).trans ((congrArg (V m c main_arg3) e).trans (congrFun (V_main_arg3 m c) _))

theorem blk_1 (l : Fin 1024) : iblk m c 1 t (ix2 q l) = wd m c (ix2 (colAt q t) l) := by
  have e : (win0_1.blk t).view.emb (ix2 q l) = ix2 (colAt q t) l := by
    funext x
    apply Fin.ext
    match x with
    | ⟨0, _⟩ => blk_simp; rw [(index_1 t).1]; exact congrArg (· + q.val) (mul_comm _ _)
    | ⟨1, _⟩ => blk_simp; rw [(index_1 t).2]; simp
  unfold iblk
  rw [View.read_apply]
  exact (cast_eq rfl _).trans ((congrArg (V m c main_v0) e).trans (v0_at m c _ _))

theorem blk_2 : iblk m c 2 t (ix2 r q) = gated m c (ix2 (rowAt r t) (colAt q t)) := by
  have e : (win0_2.blk t).view.emb (ix2 r q) = ix2 (rowAt r t) (colAt q t) := by
    funext x
    apply Fin.ext
    match x with
    | ⟨0, _⟩ => blk_simp; rw [(index_2 t).1]; exact congrArg (· + r.val) (mul_comm _ _)
    | ⟨1, _⟩ => blk_simp; rw [(index_2 t).2]; exact congrArg (· + q.val) (mul_comm _ _)
  unfold iblk
  rw [View.read_apply]
  exact (cast_eq rfl _).trans ((congrArg (V m c main_v1) e).trans (v1_at m c _ _))

theorem blk_3 : iblk m c 3 t (ix2 r q) = other m c (ix2 (rowAt r t) (colAt q t)) := by
  have e : (win0_3.blk t).view.emb (ix2 r q) = ix2 (rowAt r t) (colAt q t) := by
    funext x
    apply Fin.ext
    match x with
    | ⟨0, _⟩ => blk_simp; rw [(index_3 t).1]; exact congrArg (· + r.val) (mul_comm _ _)
    | ⟨1, _⟩ => blk_simp; rw [(index_3 t).2]; exact congrArg (· + q.val) (mul_comm _ _)
  unfold iblk
  rw [View.read_apply]
  exact (cast_eq rfl _).trans ((congrArg (V m c main_v2) e).trans (v2_at m c _ _))

theorem down_at : (∑ l, ((1 / 2 : ℝ) : EReal) * iblk m c 0 t (ix2 r l) * iblk m c 1 t (ix2 q l) : EReal) = down m c (rowAt r t) (colAt q t) :=
  Finset.sum_congr rfl fun l _ => congrArg₂ (· * ·) (congrArg (_ * ·) (blk_0 r m c t l)) (blk_1 q m c t l)

/-- What a point leaves in the two results' blocks. -/
theorem da_at : out0_4 (F := Ideal) (iblk m c 0 t) (iblk m c 1 t) (iblk m c 2 t) (iblk m c 3 t) (ix2 r q) = gradA m c (rowAt r t) (colAt q t) := by
  refine (congrFun (out4 _ _ _ _) _).trans ((pay4_at _ _ _ _ r q).trans ?_)
  rw [down_at, blk_2, blk_3]
  rfl
theorem db_at : out0_5 (F := Ideal) (iblk m c 0 t) (iblk m c 1 t) (iblk m c 2 t) (iblk m c 3 t) (ix2 r q) = gradB m c (rowAt r t) (colAt q t) := by
  refine (congrFun (out5 _ _ _ _) _).trans ((pay5_at _ _ _ r q).trans ?_)
  rw [down_at, blk_2]
  rfl

/-- The one result array. -/
theorem arr_da : (dats m 0 c).arrAt 4 cfg0.N = fun i : S8192x2816.Idx => gradA m c (i 0) (i 1) := by
  refine (dats m 0 c).arrAt_eq_of_covers 4 _ (by decide +kernel) fun t _ y => ?_
  have e : (win0_4.blk t).view.emb y = ix2 (rowAt (y 0) t) (colAt (y 1) t) := by
    funext x
    apply Fin.ext
    match x with
    | ⟨0, _⟩ => blk_simp; rw [(index_4 t).1]; exact congrArg (· + (y 0).val) (mul_comm _ _)
    | ⟨1, _⟩ => blk_simp; rw [(index_4 t).2]; exact congrArg (· + (y 1).val) (mul_comm _ _)
  blk_simp
  rw [after0_4, e]
  exact (congrArg (out0_4 _ _ _ _) (eq_ix2 y)).trans (da_at (y 0) (y 1) m c t)

/-- The other. -/
theorem arr_db : (dats m 0 c).arrAt 5 cfg0.N = fun i : S8192x2816.Idx => gradB m c (i 0) (i 1) := by
  refine (dats m 0 c).arrAt_eq_of_covers 5 _ (by decide +kernel) fun t _ y => ?_
  have e : (win0_5.blk t).view.emb y = ix2 (rowAt (y 0) t) (colAt (y 1) t) := by
    funext x
    apply Fin.ext
    match x with
    | ⟨0, _⟩ => blk_simp; rw [(index_5 t).1]; exact congrArg (· + (y 0).val) (mul_comm _ _)
    | ⟨1, _⟩ => blk_simp; rw [(index_5 t).2]; exact congrArg (· + (y 1).val) (mul_comm _ _)
  blk_simp
  rw [after0_5, e]
  exact (congrArg (out0_5 _ _ _ _) (eq_ix2 y)).trans (db_at (y 0) (y 1) m c t)

end

end Cert.Kernel2Ideal.Grad

namespace Cert.Reference2Ideal.Grad
open Cert.Reference2Ideal.Gen Cert.Rows

variable (a b : FVec Ideal S8192x2816 .f32) (w : FVec Ideal S2816x1024 .f32) (ct : FVec Ideal S8192x1024 .f32)

/-- The stages of the reference's composed terms. -/
def sDown : FVec Ideal S8192x2816 .f32 :=
  Host.dotGeneral dot_S8192x1024_S2816x1024_S8192x2816_1_1_0_0_n_n none (mulf (broadcastInDim S8192x1024 ![] bcast_S_S8192x1024 (constant S_ .f32 0x3F000000#32)) ct) w
def sLogistic : FVec Ideal S8192x2816 .f32 :=
  Host.divf (broadcastInDim S8192x2816 ![] bcast_S_S8192x2816 (constant S_ .f32 0x3F800000#32)) (addf (broadcastInDim S8192x2816 ![] bcast_S_S8192x2816 (constant S_ .f32 0x3F800000#32)) (Host.exp (Host.negf a)))
def sA (D s : FVec Ideal S8192x2816 .f32) : FVec Ideal S8192x2816 .bf16 :=
  truncf .bf16 (addf (mulf (mulf D b) s) (mulf (mulf a (mulf D b)) (mulf s (subf (broadcastInDim S8192x2816 ![] bcast_S_S8192x2816 (constant S_ .f32 0x3F800000#32)) s)))) bitsLt_bf16_f32
def sB (D s : FVec Ideal S8192x2816 .f32) : FVec Ideal S8192x2816 .bf16 := truncf .bf16 (mulf (mulf a s) D) bitsLt_bf16_f32

variable (D s : FVec Ideal S8192x2816 .f32) (t : Fin 8192) (j : Fin 2816)

theorem sDown_at : sDown w ct (ix2 t j) = (∑ l, ((1 / 2 : ℝ) : EReal) * ct (ix2 t l) * w (ix2 j l) : EReal) := by
  pointwise [sDown, half]
theorem sLogistic_at : sLogistic a (ix2 t j) = logistic (a (ix2 t j)) := by
  pointwise [sLogistic, one]
  rfl
theorem sA_at : sA a b D s (ix2 t j) = (D (ix2 t j) * b (ix2 t j) * s (ix2 t j) + a (ix2 t j) * (D (ix2 t j) * b (ix2 t j)) * (s (ix2 t j) * (1 - s (ix2 t j))) : EReal) := by
  pointwise [sA, one]
theorem sB_at : sB a D s (ix2 t j) = (a (ix2 t j) * s (ix2 t j) * D (ix2 t j) : EReal) := by
  pointwise [sB]

/-- The two results at an index. -/
theorem result_db : sB a (sDown w ct) (sLogistic a) (ix2 t j) = (∑ l, ((1 / 2 : ℝ) : EReal) * ct (ix2 t l) * w (ix2 j l)) * (a (ix2 t j) * logistic (a (ix2 t j))) := by
  rw [sB_at, sDown_at, sLogistic_at, mul_comm]
theorem result_da (hb : b (ix2 t j) = ((b (ix2 t j) : EReal).toReal : EReal)) (hw : ∀ l, w (ix2 j l) = ((w (ix2 j l) : EReal).toReal : EReal))
    (hc : ∀ l, ct (ix2 t l) = ((ct (ix2 t l) : EReal).toReal : EReal)) : sA a b (sDown w ct) (sLogistic a) (ix2 t j) =
    (∑ l, ((1 / 2 : ℝ) : EReal) * ct (ix2 t l) * w (ix2 j l)) * b (ix2 t j) * (logistic (a (ix2 t j)) * (1 + a (ix2 t j) * (1 - logistic (a (ix2 t j))))) := by
  rw [sA_at, sDown_at, sLogistic_at, real_sum (1 / 2) (fun l => ct (ix2 t l)) (fun l => w (ix2 j l)) hc hw, hb, ← EReal.coe_mul]
  exact (gate_eq _ _).symm

end Cert.Reference2Ideal.Grad

namespace Cert.Proof
open Cert.Rows

theorem pre_facts2 : Cert.Pre_finite2.Facts := ⟨by decide, by decide, by decide⟩

/-- The gradient through the gated product, where the other layer, the weight and the cotangent are numbers. -/
theorem gate_back : @Cert.algebraic_Kernel2Ideal_Reference2Ideal_pre_finite2 Kernel2Ideal.Gen.facts Reference2Ideal.Gen.facts pre_facts2 := by
  intro m g m' g' H e
  refine ⟨fun c => (Kernel2Ideal.Gen.dats m 0 c).arrAt 4 Kernel2Ideal.cfg0.N, fun c => (Kernel2Ideal.Gen.dats m 0 c).arrAt 5 Kernel2Ideal.cfg0.N, Kernel2Ideal.Value.run_blocks m g,
    (θ_run _ _ _).mono (fun r h c => ⟨(h c).1.trans ?_, (h c).2.1.trans ?_, (h c).2.2⟩) (Reference2Ideal.Value.run m' g')⟩
  · refine Eq.trans ?_ (Kernel2Ideal.Grad.arr_da m c).symm
    rw [(e c).1, (e c).2.1, (e c).2.2.1, (e c).2.2.2]
    refine funext fun (y : (⟨2, ![8192, 2816]⟩ : Shape).Idx) => ?_
    obtain ⟨t, j, rfl⟩ : ∃ t j, y = ix2 t j := ⟨_, _, eq_ix2 y⟩
    exact Reference2Ideal.Grad.result_da _ _ _ _ t j (real_at _ _ _ (H c).1 (ix2 t j)) (fun l => real_at _ _ _ (H c).2.1 (ix2 j l)) (fun l => real_at _ _ _ (H c).2.2 (ix2 t l))
  · refine Eq.trans ?_ (Kernel2Ideal.Grad.arr_db m c).symm
    rw [(e c).1, (e c).2.2.1, (e c).2.2.2]
    refine funext fun (y : (⟨2, ![8192, 2816]⟩ : Shape).Idx) => ?_
    obtain ⟨t, j, rfl⟩ : ∃ t j, y = ix2 t j := ⟨_, _, eq_ix2 y⟩
    exact Reference2Ideal.Grad.result_db _ _ _ t j

end Cert.Proof

end
-- ==== Proof.NormRow.lean ====
/- The normalisation of one row of 1024 entries and its gradient, on the extended reals. -/
module

public import proofs.«01_k».proof.Proof.Blocks
public import Idealize.ShloMosaic.Lib.Pointwise

@[expose] public section

set_option maxRecDepth 16384

noncomputable section

namespace Cert.Rows

open Idealize.ShloMosaic Idealize.ShloMosaic.Tactic

/-- Row `r` of the sixteen blocks' `k`-th. -/
abbrev row16 (k : Fin 16) (r : Fin 512) : Fin 8192 := ⟨512 * k.val + r.val, by omega⟩

/-- The sum over block `k`, nothing past the last. -/
def blockSum (f : Fin 8192 → EReal) (k : ℕ) : EReal := if h : k < 16 then ∑ r, f (row16 ⟨k, h⟩ r) else 0

/-- The sixteen blocks, added in order, are the whole sum. -/
theorem sum_sixteen (f : Fin 8192 → EReal) : ∑ t, f t = ∑ k ∈ Finset.range (15 + 1), blockSum f k := by
  rw [Finset.sum_range]
  have e : ∀ k : Fin 16, blockSum f k.val = ∑ r, f (row16 k r) := fun k => dif_pos k.isLt
  rw [Finset.sum_congr rfl fun k _ => e k, ← Fintype.sum_prod_type' (f := fun k r => f (row16 k r))]
  refine (Fintype.sum_equiv (finProdFinEquiv (m := 16) (n := 512)) _ _ fun x => congrArg f (Fin.ext ?_)).symm
  show 512 * x.1.val + x.2.val = x.2.val + 512 * x.1.val
  omega

/-- The mean square of a row, with the small constant added. -/
def level (X : Fin 1024 → EReal) : EReal := Ideal.div (∑ k, X k * X k) (Ideal.ofBits .f32 1149239296#32) + Ideal.ofBits .f32 897988541#32
/-- The factor the row is multiplied by. -/
def scale (X : Fin 1024 → EReal) : EReal := Ideal.rsqrt (level X)

/-- The row's gradient as the kernel forms it: the residual's part plus the scaled difference from the projection. -/
def pulled (X E : Fin 1024 → EReal) (z : EReal) (l : Fin 1024) : EReal :=
  z + scale X * (E l - X l * scale X * Ideal.div (∑ k, E k * (X k * scale X)) (Ideal.ofBits .f32 1149239296#32))

/-- What each entry of the row gets through the mean square, as the reference forms it. -/
def through (X E : Fin 1024 → EReal) : EReal :=
  Ideal.div ((∑ k, X k * E k) * (Ideal.ofBits .f32 3204448256#32 * Ideal.div (scale X) (level X))) (Ideal.ofBits .f32 1149239296#32)

theorem lit_n : Ideal.ofBits .f32 1149239296#32 = ((1024 : ℝ) : EReal) := by
  simp [Ideal.ofBits, Ideal.ieee, -EReal.coe_mul]; norm_num
theorem lit_half : Ideal.ofBits .f32 3204448256#32 = ((-(1 / 2) : ℝ) : EReal) := by
  simp [Ideal.ofBits, Ideal.ieee, -EReal.coe_mul]; norm_num
theorem lit_eps : ∃ e : ℝ, 0 < e ∧ Ideal.ofBits .f32 897988541#32 = (e : EReal) := by
  refine ⟨_, ?_, by simp [Ideal.ofBits, Ideal.ieee, -EReal.coe_mul]; rfl⟩
  norm_num

theorem div_real (x : EReal) {r : ℝ} (h : r ≠ 0) : Ideal.div x (r : EReal) = x * ((r⁻¹ : ℝ) : EReal) := by
  unfold Ideal.div
  rw [if_neg (by exact_mod_cast h), ← EReal.coe_inv]

theorem sq_nonneg' (x : EReal) : 0 ≤ x * x := by
  induction x with
  | bot => simp
  | top => simp
  | coe x => exact_mod_cast mul_self_nonneg x

/-- An infinite entry makes the level infinite. -/
theorem level_top {X : Fin 1024 → EReal} {k : Fin 1024} (h : X k = ⊤ ∨ X k = ⊥) : level X = ⊤ := by
  obtain ⟨e, he, hl⟩ := lit_eps
  have hk : X k * X k = ⊤ := by rcases h with h | h <;> rw [h] <;> simp
  have hs : ∑ k, X k * X k = ⊤ := top_le_iff.mp (hk ▸ Finset.single_le_sum (fun k _ => sq_nonneg' (X k)) (Finset.mem_univ k))
  unfold level
  rw [hs, lit_n, hl, div_real _ (by norm_num), EReal.top_mul_coe_of_pos (by norm_num), EReal.top_add_coe]

/-- On real entries the level is a positive real. -/
theorem level_real (x : Fin 1024 → ℝ) : ∃ v : ℝ, 0 < v ∧ level (fun k => (x k : EReal)) = (v : EReal) := by
  obtain ⟨e, he, hl⟩ := lit_eps
  refine ⟨(∑ k, x k * x k) * 1024⁻¹ + e, by have := Finset.sum_nonneg (fun k (_ : k ∈ Finset.univ) => mul_self_nonneg (x k)); positivity, ?_⟩
  unfold level
  rw [lit_n, hl, div_real _ (by norm_num)]
  push_cast
  rfl

theorem two_mul' (z : EReal) : z + z = z * ((2 : ℝ) : EReal) := by
  induction z with
  | bot => rw [EReal.bot_mul_coe_of_pos (by norm_num)]; rfl
  | top => rw [EReal.top_mul_coe_of_pos (by norm_num)]; rfl
  | coe x => rw [← EReal.coe_add, ← EReal.coe_mul]; congr 1; ring

/-- The two ways agree on every row and every gradient. -/
theorem pulled_eq (X E : Fin 1024 → EReal) (z : EReal) (l : Fin 1024) :
    pulled X E z l = z + E l * scale X + X l * through X E + through X E * X l := by
  by_cases h : ∃ k, X k = ⊤ ∨ X k = ⊥
  · obtain ⟨k, hk⟩ := h
    have hs : scale X = 0 := by unfold scale; rw [level_top hk]; rfl
    have ht : through X E = 0 := by unfold through; rw [hs, level_top hk, lit_n, div_real _ (by norm_num)]; simp [Ideal.div]
    unfold pulled
    rw [hs, ht]; simp
  · have hx : ∃ x : Fin 1024 → ℝ, X = fun k => (x k : EReal) :=
      ⟨fun k => (X k).toReal, funext fun k => (EReal.coe_toReal (fun e => h ⟨k, .inl e⟩) fun e => h ⟨k, .inr e⟩).symm⟩
    obtain ⟨x, rfl⟩ := hx
    obtain ⟨v, hv, hl⟩ := level_real x
    have hr0 : (0 : ℝ) ≤ (√v)⁻¹ := by positivity
    have hs : scale (fun k => (x k : EReal)) = (((√v)⁻¹ : ℝ) : EReal) := by
      unfold scale; rw [hl]; show (if v < 0 then _ else _) = _; rw [if_neg hv.le.not_gt, if_neg hv.ne']
    have hrr : (√v)⁻¹ * (√v)⁻¹ = v⁻¹ := by rw [← mul_inv, Real.mul_self_sqrt hv.le]
    generalize hr : (√v)⁻¹ = r at hr0 hs hrr
    have hsum : ∑ k, E k * ((x k : EReal) * (r : EReal)) = (∑ k, (x k : EReal) * E k) * (r : EReal) := by
      rw [mul_sum _ _ _ hr0]
      exact Finset.sum_congr rfl fun k _ => by rw [← mul_assoc, mul_comm (E k)]
    unfold pulled through
    simp only [hs, hl, lit_n, lit_half, div_real _ hv.ne', div_real _ (show (1024 : ℝ) ≠ 0 by norm_num)]
    rw [hsum]
    generalize ∑ k, (x k : EReal) * E k = S
    have hz : (x l : EReal) * (S * (((-(1 / 2) : ℝ) : EReal) * ((r : EReal) * ((v⁻¹ : ℝ) : EReal))) * ((1024⁻¹ : ℝ) : EReal)) = S * ((x l * (-(1 / 2) * (r * v⁻¹)) * 1024⁻¹ : ℝ) : EReal) := by
      simp only [EReal.coe_mul]; ac_rfl
    rw [mul_comm _ (x l : EReal), add_assoc, hz, two_mul', add_assoc]
    congr 1
    rw [sub_eq_add_neg, EReal.left_distrib_of_nonneg_of_ne_top (EReal.coe_nonneg.mpr hr0) (EReal.coe_ne_top r), mul_comm (r : EReal) (E l)]
    congr 1
    rw [← hrr, mul_assoc S _ (2 : ℝ), ← EReal.coe_mul _ 2, ← mul_neg_one, ← EReal.coe_one, ← EReal.coe_neg]
    rw [show x l * (-(1 / 2) * (r * (r * r))) * 1024⁻¹ * 2 = r * (x l * r) * r * 1024⁻¹ * -1 by ring]
    simp only [EReal.coe_mul]
    ac_rfl

end Cert.Rows

end
-- ==== Proof.NormGrad.lean ====
/- The gradient through the normalisation: what the kernel leaves in its two result arrays, at an index. -/
module

public import proofs.«01_k».proof.Proof.NormRow
public import proofs.«01_k».proof.Proof.Gen.Kernel3Ideal.Value
public import Idealize.ShloMosaic.Lib.StableHlo.ReadAt
public import Idealize.ShloMosaic.Lib.Pipeline.ValueKit

@[expose] public section

set_option maxRecDepth 16384

noncomputable section

namespace Cert.Kernel3Ideal.Grad

open Idealize.ShloMosaic Idealize.ShloMosaic.TcCoe Idealize.ShloMosaic.Tactic Idealize.SL.Sem
open Cert.Kernel3Ideal.Gen Cert.Rows

theorem N16 : cfg0.N = 16 := N_0
theorem hz : (![0, 0] : Fin 2 → Nat) = fun _ => 0 := funext fun a => by fin_cases a <;> rfl

section Body
variable {F : FTy → Type} [FloatOps F]
variable (c : Dev nD) (i : grid0.Coords) (a1 : Memref sig .tc .vmem S512x2816 .bf16) (h1 : a1.IsWhole) (a2 : Memref sig .tc .vmem S2816x1024 .bf16) (h2 : a2.IsWhole)
  (a3 : Memref sig .tc .vmem S512x2816 .bf16) (h3 : a3.IsWhole) (a4 : Memref sig .tc .vmem S2816x1024 .bf16) (h4 : a4.IsWhole) (a5 : Memref sig .tc .vmem S512x1024 .f32) (h5 : a5.IsWhole)
  (a6 : Memref sig .tc .vmem S1x1024 .f32) (h6 : a6.IsWhole) (a7 : Memref sig .tc .vmem S512x1024 .f32) (h7 : a7.IsWhole) (a8 : Memref sig .tc .vmem S512x1024 .f32) (h8 : a8.IsWhole)
  (a9 : Memref sig .tc .vmem S1x1024 .f32) (h9 : a9.IsWhole)
  (x0 : Vec F S512x2816 .bf16) (x1 : Vec F S2816x1024 .bf16) (x2 : Vec F S512x2816 .bf16) (x3 : Vec F S2816x1024 .bf16) (x4 : Vec F S512x1024 .f32) (x5 : Vec F S1x1024 .f32) (x6 : Vec F S512x1024 .f32)
  (s : Vec F S1x1024 .f32)

/-- The first point stores its block of the one gradient. -/
theorem first_dx (hA hB) : out0_A_7 c i a1 h1 a2 h2 a3 h3 a4 h4 a5 h5 a6 h6 a7 h7 a8 h8 a9 h9 hA hB x0 x1 x2 x3 x4 x5 x6 = k0_pay6 x0 x1 x2 x3 x4 x5 x6 := by
  unfold out0_A_7
  rw [View.read_writes_eq_canon _ _ _ (cover0_A_7 c i a1 h1 a2 h2 a3 h3 a4 h4 a5 h5 a6 h6 a7 h7 a8 h8 a9 h9 hA hB x0 x1 x2 x3 x4 x5 x6)]
  unfold kernelRun0_A
  dsimp only
  sl_unfold_words
  rw [View.canon_unit_zero hz]
  simp only [View.readAt_eq_ld, h1.read_unread, h2.read_unread, h3.read_unread, h4.read_unread, h5.read_unread, h6.read_unread, h7.read_unread,
    View.ld_unit_zero (S := S512x2816) hz, View.ld_unit_zero (S := S2816x1024) hz, View.ld_unit_zero (S := S512x1024) hz, View.ld_unit_zero (S := S1x1024) hz]

/-- So does every later point. -/
theorem next_dx (hA hB) : out0_B_7 c i a1 h1 a2 h2 a3 h3 a4 h4 a5 h5 a6 h6 a7 h7 a8 h8 a9 h9 hA hB x0 x1 x2 x3 x4 x5 x6 s = k0_pay6 x0 x1 x2 x3 x4 x5 x6 := by
  unfold out0_B_7
  rw [View.read_writes_eq_canon _ _ _ (cover0_B_7 c i a1 h1 a2 h2 a3 h3 a4 h4 a5 h5 a6 h6 a7 h7 a8 h8 a9 h9 hA hB x0 x1 x2 x3 x4 x5 x6 s)]
  unfold kernelRun0_B
  dsimp only
  sl_unfold_words
  rw [View.canon_unit_zero hz]
  simp only [View.readAt_eq_ld, h1.read_unread, h2.read_unread, h3.read_unread, h4.read_unread, h5.read_unread, h6.read_unread, h7.read_unread,
    View.ld_unit_zero (S := S512x2816) hz, View.ld_unit_zero (S := S2816x1024) hz, View.ld_unit_zero (S := S512x1024) hz, View.ld_unit_zero (S := S1x1024) hz]

/-- The first point leaves its rows' sum in the other result. -/
theorem first_dg (hA hB) : out0_A_8 c i a1 h1 a2 h2 a3 h3 a4 h4 a5 h5 a6 h6 a7 h7 a8 h8 a9 h9 hA hB x0 x1 x2 x3 x4 x5 x6 = k0_pay1 (k0_pay3 x0 x1 x2 x3) (k0_pay5 x4) := by
  unfold out0_A_8
  rw [View.read_writes_eq_canon _ _ _ (cover0_A_8 c i a1 h1 a2 h2 a3 h3 a4 h4 a5 h5 a6 h6 a7 h7 a8 h8 a9 h9 hA hB x0 x1 x2 x3 x4 x5 x6)]
  unfold kernelRun0_A
  dsimp only
  sl_unfold_words
  rw [View.canon_unit_zero hz]
  simp only [View.readAt_eq_ld, h1.read_unread, h2.read_unread, h3.read_unread, h4.read_unread, h5.read_unread,
    View.ld_unit_zero (S := S512x2816) hz, View.ld_unit_zero (S := S2816x1024) hz, View.ld_unit_zero (S := S512x1024) hz]

/-- A later point adds its rows' sum to it. -/
theorem next_dg (hA hB) : out0_B_8 c i a1 h1 a2 h2 a3 h3 a4 h4 a5 h5 a6 h6 a7 h7 a8 h8 a9 h9 hA hB x0 x1 x2 x3 x4 x5 x6 s = addf s (k0_pay1 (k0_pay3 x0 x1 x2 x3) (k0_pay5 x4)) := by
  unfold out0_B_8
  rw [View.read_writes_eq_canon _ _ _ (cover0_B_8 c i a1 h1 a2 h2 a3 h3 a4 h4 a5 h5 a6 h6 a7 h7 a8 h8 a9 h9 hA hB x0 x1 x2 x3 x4 x5 x6 s)]
  unfold kernelRun0_B
  dsimp only
  sl_unfold_words
  rw [View.canon_unit_zero hz]
  unfold k0_pay2
  simp only [View.readAt_eq_ld, h1.read_unread, h2.read_unread, h3.read_unread, h4.read_unread, h5.read_unread, h9.read_unread,
    View.ld_unit_zero (S := S512x2816) hz, View.ld_unit_zero (S := S2816x1024) hz, View.ld_unit_zero (S := S512x1024) hz, View.ld_unit_zero (S := S1x1024) hz, shapeCast_self]

end Body

theorem pay3_at (v0 : FVec Ideal S512x2816 .bf16) (v2 : FVec Ideal S2816x1024 .bf16) (v5 : FVec Ideal S512x2816 .bf16) (v7 : FVec Ideal S2816x1024 .bf16) (t : Fin 512) (l : Fin 1024) :
    k0_pay3 (F := Ideal) v0 v2 v5 v7 (ix2 t l) = (∑ f, v0 (ix2 t f) * v2 (ix2 f l) + ∑ f, v5 (ix2 t f) * v7 (ix2 f l) : EReal) := by
  pointwise [k0_pay3]
theorem pay4_at (x : FVec Ideal S512x1024 .f32) (t : Fin 512) : k0_pay4 (F := Ideal) x (ix2 t 0) = scale fun k => x (ix2 t k) := by
  pointwise [k0_pay4]
  rfl
theorem pay5_at (x : FVec Ideal S512x1024 .f32) (t : Fin 512) (l : Fin 1024) : k0_pay5 (F := Ideal) x (ix2 t l) = (x (ix2 t l) * scale fun k => x (ix2 t k) : EReal) := by
  pointwise [k0_pay5, pay4_at]
theorem pay6_at (v0 : FVec Ideal S512x2816 .bf16) (v2 : FVec Ideal S2816x1024 .bf16) (v5 : FVec Ideal S512x2816 .bf16) (v7 : FVec Ideal S2816x1024 .bf16)
    (x : FVec Ideal S512x1024 .f32) (g : FVec Ideal S1x1024 .f32) (z : FVec Ideal S512x1024 .f32) (t : Fin 512) (l : Fin 1024) :
    k0_pay6 (F := Ideal) v0 v2 v5 v7 x g z (ix2 t l) = pulled (fun k => x (ix2 t k)) (fun k => k0_pay3 (F := Ideal) v0 v2 v5 v7 (ix2 t k) * g (ix2 0 k)) (z (ix2 t l)) l := by
  pointwise [k0_pay6, pay4_at, pay5_at]
  rfl
theorem pay1_at (d x : FVec Ideal S512x1024 .f32) (l : Fin 1024) : k0_pay1 (F := Ideal) d x (ix2 0 l) = (∑ t, d (ix2 t l) * x (ix2 t l) : EReal) := by
  pointwise [k0_pay1]

section
variable (m : (ℓ : Loc nD τ sig) → Buf (Elt Ideal) ℓ) (c : Dev nD)

/-- The arguments the launch reads. -/
abbrev inp : FVec Ideal S8192x1024 .f32 := m ((c : Thread nD τ).loc main_arg0)
abbrev gain : FVec Ideal S1024 .f32 := m ((c : Thread nD τ).loc main_arg1)
abbrev wg : FVec Ideal S1024x2816 .f32 := m ((c : Thread nD τ).loc main_arg2)
abbrev wu : FVec Ideal S1024x2816 .f32 := m ((c : Thread nD τ).loc main_arg3)
abbrev ct : FVec Ideal S8192x1024 .f32 := m ((c : Thread nD τ).loc main_arg4)
abbrev da : FVec Ideal S8192x2816 .f32 := m ((c : Thread nD τ).loc main_arg5)
abbrev db : FVec Ideal S8192x2816 .f32 := m ((c : Thread nD τ).loc main_arg6)

/-- The gradient at the normalised activations: through both products. -/
def back (t : Fin 8192) (l : Fin 1024) : EReal := ∑ f, da m c (ix2 t f) * wg m c (ix2 l f) + ∑ f, db m c (ix2 t f) * wu m c (ix2 l f)

/-- The one result at an index. -/
def gradX (t : Fin 8192) (l : Fin 1024) : EReal := pulled (fun k => inp m c (ix2 t k)) (fun k => back m c t k * gain m c (ix1 k)) (ct m c (ix2 t l)) l
/-- A row's part of the other. -/
def part (l : Fin 1024) (t : Fin 8192) : EReal := back m c t l * (inp m c (ix2 t l) * scale fun k => inp m c (ix2 t k))

theorem index_0 : ∀ t : Fin grid0.N, win0_0.index t 0 = t.val ∧ win0_0.index t 1 = 0 := by decide +kernel
theorem index_1 : ∀ t : Fin grid0.N, win0_1.index t 0 = 0 ∧ win0_1.index t 1 = 0 := by decide +kernel
theorem index_2 : ∀ t : Fin grid0.N, win0_2.index t 0 = t.val ∧ win0_2.index t 1 = 0 := by decide +kernel
theorem index_3 : ∀ t : Fin grid0.N, win0_3.index t 0 = 0 ∧ win0_3.index t 1 = 0 := by decide +kernel
theorem index_4 : ∀ t : Fin grid0.N, win0_4.index t 0 = t.val ∧ win0_4.index t 1 = 0 := by decide +kernel
theorem index_5 : ∀ t : Fin grid0.N, win0_5.index t 0 = 0 ∧ win0_5.index t 1 = 0 := by decide +kernel
theorem index_6 : ∀ t : Fin grid0.N, win0_6.index t 0 = t.val ∧ win0_6.index t 1 = 0 := by decide +kernel
theorem index_7 : ∀ t : Fin grid0.N, win0_7.index t 0 = t.val ∧ win0_7.index t 1 = 0 := by decide +kernel
theorem index_8 : ∀ t : Fin grid0.N, win0_8.index t 0 = 0 ∧ win0_8.index t 1 = 0 := by decide +kernel

theorem v0_at (t : Fin 8192) (f : Fin 2816) : V m c main_v0 (ix2 t f) = da m c (ix2 t f) := by
  unfold V
  after_reads_at
theorem v2_at (f : Fin 2816) (l : Fin 1024) : V m c main_v2 (ix2 f l) = wg m c (ix2 l f) := by
  unfold V
  after_reads_at
theorem v3_at (t : Fin 8192) (f : Fin 2816) : V m c main_v3 (ix2 t f) = db m c (ix2 t f) := by
  unfold V
  after_reads_at
theorem v5_at (f : Fin 2816) (l : Fin 1024) : V m c main_v5 (ix2 f l) = wu m c (ix2 l f) := by
  unfold V
  after_reads_at
theorem v6_at (l : Fin 1024) : V m c main_v6 (ix2 0 l) = gain m c (ix1 l) := by
  unfold V
  after_reads_at

/-- Row `r` of point `t`'s block. -/
abbrev rowAt (t : Fin cfg0.N) (r : Fin 512) : Fin 8192 := row16 ⟨t.val, lt_of_lt_of_eq t.isLt N16⟩ r

variable (t : Fin cfg0.N)

theorem blk_0 (r : Fin 512) (f : Fin 2816) : iblk m c 0 t (ix2 r f) = da m c (ix2 (rowAt t r) f) := by
  have e : (win0_0.blk t).view.emb (ix2 r f) = ix2 (rowAt t r) f := by
    funext a
    apply Fin.ext
    match a with
    | ⟨0, _⟩ => blk_simp; rw [(index_0 t).1]; show t.val * 512 + r.val = 512 * t.val + r.val; omega
    | ⟨1, _⟩ => blk_simp; rw [(index_0 t).2]; simp
  unfold iblk
  rw [View.read_apply]
  exact (cast_eq rfl _).trans ((congrArg (V m c main_v0) e).trans (v0_at m c _ _))

theorem blk_1 (f : Fin 2816) (l : Fin 1024) : iblk m c 1 t (ix2 f l) = wg m c (ix2 l f) := by
  have e : (win0_1.blk t).view.emb (ix2 f l) = ix2 f l := by
    funext a
    apply Fin.ext
    match a with
    | ⟨0, _⟩ => blk_simp; rw [(index_1 t).1]; simp
    | ⟨1, _⟩ => blk_simp; rw [(index_1 t).2]; simp
  unfold iblk
  rw [View.read_apply]
  exact (cast_eq rfl _).trans ((congrArg (V m c main_v2) e).trans (v2_at m c _ _))

theorem blk_2 (r : Fin 512) (f : Fin 2816) : iblk m c 2 t (ix2 r f) = db m c (ix2 (rowAt t r) f) := by
  have e : (win0_2.blk t).view.emb (ix2 r f) = ix2 (rowAt t r) f := by
    funext a
    apply Fin.ext
    match a with
    | ⟨0, _⟩ => blk_simp; rw [(index_2 t).1]; show t.val * 512 + r.val = 512 * t.val + r.val; omega
    | ⟨1, _⟩ => blk_simp; rw [(index_2 t).2]; simp
  unfold iblk
  rw [View.read_apply]
  exact (cast_eq rfl _).trans ((congrArg (V m c main_v3) e).trans (v3_at m c _ _))

theorem blk_3 (f : Fin 2816) (l : Fin 1024) : iblk m c 3 t (ix2 f l) = wu m c (ix2 l f) := by
  have e : (win0_3.blk t).view.emb (ix2 f l) = ix2 f l := by
    funext a
    apply Fin.ext
    match a with
    | ⟨0, _⟩ => blk_simp; rw [(index_3 t).1]; simp
    | ⟨1, _⟩ => blk_simp; rw [(index_3 t).2]; simp
  unfold iblk
  rw [View.read_apply]
  exact (cast_eq rfl _).trans ((congrArg (V m c main_v5) e).trans (v5_at m c _ _))

theorem blk_4 (r : Fin 512) (l : Fin 1024) : iblk m c 4 t (ix2 r l) = inp m c (ix2 (rowAt t r) l) := by
  have e : (win0_4.blk t).view.emb (ix2 r l) = ix2 (rowAt t r) l := by
    funext a
    apply Fin.ext
    match a with
    | ⟨0, _⟩ => blk_simp; rw [(index_4 t).1]; show t.val * 512 + r.val = 512 * t.val + r.val; omega
    | ⟨1, _⟩ => blk_simp; rw [(index_4 t).2]; simp
  unfold iblk
  rw [View.read_apply]
  exact (cast_eq rfl _).trans ((congrArg (V m c main_arg0) e).trans (congrFun (V_main_arg0 m c) _))

theorem blk_5 (l : Fin 1024) : iblk m c 5 t (ix2 0 l) = gain m c (ix1 l) := by
  have e : (win0_5.blk t).view.emb (ix2 0 l) = ix2 0 l := by
    funext a
    apply Fin.ext
    match a with
    | ⟨0, _⟩ => blk_simp; rw [(index_5 t).1]; simp
    | ⟨1, _⟩ => blk_simp; rw [(index_5 t).2]; simp
  unfold iblk
  rw [View.read_apply]
  exact (cast_eq rfl _).trans ((congrArg (V m c main_v6) e).trans (v6_at m c _))

theorem blk_6 (r : Fin 512) (l : Fin 1024) : iblk m c 6 t (ix2 r l) = ct m c (ix2 (rowAt t r) l) := by
  have e : (win0_6.blk t).view.emb (ix2 r l) = ix2 (rowAt t r) l := by
    funext a
    apply Fin.ext
    match a with
    | ⟨0, _⟩ => blk_simp; rw [(index_6 t).1]; show t.val * 512 + r.val = 512 * t.val + r.val; omega
    | ⟨1, _⟩ => blk_simp; rw [(index_6 t).2]; simp
  unfold iblk
  rw [View.read_apply]
  exact (cast_eq rfl _).trans ((congrArg (V m c main_arg4) e).trans (congrFun (V_main_arg4 m c) _))

/-- The gradient at the normalised activations, by the rows of the arguments. -/
theorem back_at (r : Fin 512) (l : Fin 1024) :
    k0_pay3 (F := Ideal) (iblk m c 0 t) (iblk m c 1 t) (iblk m c 2 t) (iblk m c 3 t) (ix2 r l) = back m c (rowAt t r) l :=
  (pay3_at (iblk m c 0 t) (iblk m c 1 t) (iblk m c 2 t) (iblk m c 3 t) r l).trans (congrArg₂ (· + ·)
    (Finset.sum_congr rfl fun f _ => congrArg₂ (· * ·) (blk_0 m c t r f) (blk_1 m c t f l))
    (Finset.sum_congr rfl fun f _ => congrArg₂ (· * ·) (blk_2 m c t r f) (blk_3 m c t f l)))

theorem inp_row (r : Fin 512) : (fun k => iblk m c 4 t (ix2 r k)) = fun k => inp m c (ix2 (rowAt t r) k) := funext fun k => blk_4 m c t r k

/-- A point's sum over its rows. -/
theorem part_at (l : Fin 1024) :
    k0_pay1 (F := Ideal) (k0_pay3 (iblk m c 0 t) (iblk m c 1 t) (iblk m c 2 t) (iblk m c 3 t)) (k0_pay5 (iblk m c 4 t)) (ix2 0 l) = ∑ r, part m c l (rowAt t r) :=
  (pay1_at _ _ l).trans (Finset.sum_congr rfl fun r _ => congrArg₂ (· * ·) (back_at m c t r l)
    ((pay5_at (iblk m c 4 t) r l).trans (congrArg₂ (· * ·) (blk_4 m c t r l) (congrArg scale (inp_row m c t r)))))

/-- What a point leaves in the block of the one result. -/
theorem outs_dx : (outsAt0 m c t.val t.isLt).1 = k0_pay6 (iblk m c 0 t) (iblk m c 1 t) (iblk m c 2 t) (iblk m c 3 t) (iblk m c 4 t) (iblk m c 5 t) (iblk m c 6 t) := by
  have hN := lt_of_lt_of_eq t.isLt N16
  by_cases h : t.val % 16 = 0
  · rw [outsAt0_A m c t h (by omega)]
    dsimp only
    exact first_dx (F := Ideal) c ..
  · rw [outsAt0_B m c t h (by omega)]
    dsimp only
    exact next_dx (F := Ideal) c ..

theorem dx_at (r : Fin 512) (l : Fin 1024) : (outsAt0 m c t.val t.isLt).1 (ix2 r l) = gradX m c (rowAt t r) l := by
  refine (congrFun (outs_dx m c t) (ix2 r l)).trans ((pay6_at _ _ _ _ _ _ _ r l).trans ?_)
  unfold gradX
  rw [inp_row, blk_6 m c t r l]
  exact congrArg (pulled _ · _ l) (funext fun k => congrArg₂ (· * ·) (back_at m c t r k) (blk_5 m c t k))

theorem step_A (h : t.val % 16 = 0) : (outsAt0 m c t.val t.isLt).2 = k0_pay1 (k0_pay3 (iblk m c 0 t) (iblk m c 1 t) (iblk m c 2 t) (iblk m c 3 t)) (k0_pay5 (iblk m c 4 t)) := by
  have hN := lt_of_lt_of_eq t.isLt N16
  rw [outsAt0_A m c t h (by omega)]
  dsimp only
  exact first_dg (F := Ideal) c ..
theorem step_B (h : ¬ t.val % 16 = 0) : (outsAt0 m c t.val t.isLt).2 = addf (outsAt0 m c (t.val - 1) (Nat.lt_of_le_of_lt (Nat.sub_le _ _) t.isLt)).2
    (k0_pay1 (k0_pay3 (iblk m c 0 t) (iblk m c 1 t) (iblk m c 2 t) (iblk m c 3 t)) (k0_pay5 (iblk m c 4 t))) := by
  rw [outsAt0_B m c t h (by omega)]
  dsimp only
  exact next_dg (F := Ideal) c ..

theorem own (l : Fin 1024) : ∑ r, part m c l (rowAt t r) = blockSum (part m c l) t.val := by
  unfold blockSum
  rw [dif_pos (lt_of_lt_of_eq t.isLt N16)]

/-- The other result's block after point `n`: the sum over the rows so far. -/
theorem dg_at (l : Fin 1024) (n : ℕ) (hn : n < cfg0.N) : (outsAt0 m c n hn).2 (ix2 0 l) = ∑ k ∈ Finset.range (n + 1), blockSum (part m c l) k := by
  have hN := lt_of_lt_of_eq hn N16
  induction n with
  | zero =>
    rw [Finset.sum_range_one, ← own m c ⟨0, hn⟩ l]
    exact (congrFun (step_A m c ⟨0, hn⟩ rfl) (ix2 0 l)).trans (part_at m c ⟨0, hn⟩ l)
  | succ n ih =>
    rw [Finset.sum_range_succ, ← own m c ⟨n + 1, hn⟩ l, ← ih (by omega) (by omega)]
    exact (congrFun (step_B m c ⟨n + 1, hn⟩ (by show ¬ (n + 1) % 16 = 0; omega)) (ix2 0 l)).trans (congrArg (_ + ·) (part_at m c ⟨n + 1, hn⟩ l))

/-- The one result array. -/
theorem arr_dx : (dats m 0 c).arrAt 7 cfg0.N = fun i : S8192x1024.Idx => gradX m c (i 0) (i 1) := by
  refine (dats m 0 c).arrAt_eq_of_covers 7 _ (by decide +kernel) fun t _ y => ?_
  have e : (win0_7.blk t).view.emb y = ix2 (rowAt t (y 0)) (y 1) := by
    funext a
    apply Fin.ext
    match a with
    | ⟨0, _⟩ => blk_simp; rw [(index_7 t).1]; show t.val * 512 + (y 0).val = 512 * t.val + (y 0).val; omega
    | ⟨1, _⟩ => blk_simp; rw [(index_7 t).2]; simp
  blk_simp
  rw [after0_7, e]
  exact (congrArg (outsAt0 m c t.val t.isLt).1 (eq_ix2 y)).trans (dx_at m c t (y 0) (y 1))

/-- The other result array: the sum over all rows. -/
theorem arr_dg : (dats m 0 c).arrAt 8 cfg0.N = fun i : S1x1024.Idx => ∑ t, part m c (i 1) t := by
  refine (dats m 0 c).arrAt_eq_of_covers 8 _ (by decide +kernel) fun t hf y => ?_
  have e : (win0_8.blk t).view.emb y = ix2 0 (y 1) := by
    funext a
    apply Fin.ext
    match a with
    | ⟨0, _⟩ => blk_simp; rw [(index_8 t).1]; simp
    | ⟨1, _⟩ => blk_simp; rw [(index_8 t).2]; simp
  have h15 : t.val = 15 := by have := (flush0_8 t).mp hf; have := lt_of_lt_of_eq t.isLt N16; omega
  blk_simp
  rw [after0_8, e]
  have y0 : y = ix2 0 (y 1) := (eq_ix2 y).trans (congrArg (ix2 · (y 1)) (Subsingleton.elim (α := Fin 1) _ _))
  refine (congrArg (outsAt0 m c t.val t.isLt).2 y0).trans ((dg_at m c (y 1) t.val t.isLt).trans ?_)
  rw [h15]
  exact (sum_sixteen _).symm

end

end Cert.Kernel3Ideal.Grad

end
-- ==== Proof.NormBack.lean ====
/- The gradient through the normalisation: kernel and reference agree on every memory. -/
module

public import proofs.«01_k».proof.Defs
public import proofs.«01_k».proof.Proof.NormGrad
public import proofs.«01_k».proof.Proof.Gen.Reference3Ideal.Run

@[expose] public section

set_option maxRecDepth 16384

noncomputable section

open Idealize.ShloMosaic Idealize.ShloMosaic.TcCoe Idealize.ShloMosaic.Tactic Idealize.SL.Sem

namespace Cert.Reference3Ideal.Grad
open Cert.Reference3Ideal.Gen Cert.Rows

variable (x : FVec Ideal S8192x1024 .f32) (g : FVec Ideal S1024 .f32) (wg wu : FVec Ideal S1024x2816 .f32) (ct : FVec Ideal S8192x1024 .f32) (da db : FVec Ideal S8192x2816 .f32)

/-- The stages of the reference's composed term. -/
abbrev sVec : FVec Ideal S8192x1024 .f32 :=
  addf (Host.dotGeneral dot_S8192x2816_S1024x2816_S8192x1024_1_1_0_0_n_n none db wu) (Host.dotGeneral dot_S8192x2816_S1024x2816_S8192x1024_1_1_0_0_n_n none da wg)
def sLevel : FVec Ideal S8192x1 .f32 :=
  addf (Host.divf (broadcastInDim S8192x1 ![0] bcast_S8192_S8192x1_0 (Host.reduceAdd (mulf x x) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32))
def sGain (D : FVec Ideal S8192x1024 .f32) : FVec Ideal S8192x1024 .f32 :=
  mulf D (broadcastInDim S8192x1024 ![0, 1] bcast_S1x1024_S8192x1024_0_1 (broadcastInDim S1x1024 ![1] bcast_S1024_S1x1024_1 g))
def sThrough (L : FVec Ideal S8192x1 .f32) (E : FVec Ideal S8192x1024 .f32) : FVec Ideal S8192 .f32 :=
  Host.reduceAdd (Host.divf (mulf (shapeCast _ (Host.reduceAdd (mulf x E) (constant S_ .f32 0x00000000#32) reducesTo_S8192x1024_S8192_d1 h_S_) shapeCasts_S8192_S8192x1) (mulf (broadcastInDim S8192x1 ![] bcast_S_S8192x1 (constant S_ .f32 0xBF000000#32)) (Host.divf (Host.rsqrt L) L))) (broadcastInDim S8192x1 ![] bcast_S_S8192x1 (constant S_ .f32 0x44800000#32))) (constant S_ .f32 0x00000000#32) reducesTo_S8192x1_S8192_d1 h_S_
def sTotal (L : FVec Ideal S8192x1 .f32) (E : FVec Ideal S8192x1024 .f32) (U : FVec Ideal S8192 .f32) : FVec Ideal S8192x1024 .f32 :=
  addf (addf (addf ct (mulf E (broadcastInDim S8192x1024 ![0, 1] bcast_S8192x1_S8192x1024_0_1 (Host.rsqrt L)))) (mulf x (broadcastInDim S8192x1024 ![0] bcast_S8192_S8192x1024_0 U))) (mulf (broadcastInDim S8192x1024 ![0] bcast_S8192_S8192x1024_0 U) x)
def sGrad (L : FVec Ideal S8192x1 .f32) (D : FVec Ideal S8192x1024 .f32) : FVec Ideal S1x1024 .f32 :=
  broadcastInDim S1x1024 ![1] bcast_S1024_S1x1024_1 (Host.reduceAdd (shapeCast _ (Host.reduceAdd (mulf (mulf x (broadcastInDim S8192x1024 ![0, 1] bcast_S8192x1_S8192x1024_0_1 (Host.rsqrt L))) D) (constant S_ .f32 0x00000000#32) reducesTo_S8192x1024_S1024_d0 h_S_) shapeCasts_S1024_S1x1024) (constant S_ .f32 0x00000000#32) reducesTo_S1x1024_S1024_d0 h_S_)

theorem sVec_at (t : Fin 8192) (l : Fin 1024) : sVec wg wu da db (ix2 t l) = (∑ f, db (ix2 t f) * wu (ix2 l f) + ∑ f, da (ix2 t f) * wg (ix2 l f) : EReal) := by
  unfold sVec
  pointwise
theorem sLevel_at (t : Fin 8192) : sLevel x (ix2 t 0) = level fun k => x (ix2 t k) := by
  pointwise [sLevel]
  rfl
theorem sGain_at (D : FVec Ideal S8192x1024 .f32) (t : Fin 8192) (l : Fin 1024) : sGain g D (ix2 t l) = (D (ix2 t l) * g (ix1 l) : EReal) := by
  pointwise [sGain]
theorem sThrough_at (E : FVec Ideal S8192x1024 .f32) (t : Fin 8192) : sThrough x (sLevel x) E (ix1 t) = through (fun k => x (ix2 t k)) fun k => E (ix2 t k) := by
  pointwise [sThrough]
  refine (Fin.sum_univ_one _).trans ?_
  rw [sLevel_at]
  rfl
theorem sTotal_at (E : FVec Ideal S8192x1024 .f32) (U : FVec Ideal S8192 .f32) (t : Fin 8192) (l : Fin 1024) : sTotal x ct (sLevel x) E U (ix2 t l) =
    (ct (ix2 t l) + E (ix2 t l) * scale (fun k => x (ix2 t k)) + x (ix2 t l) * U (ix1 t) + U (ix1 t) * x (ix2 t l) : EReal) := by
  pointwise [sTotal, sLevel_at]
  rfl
theorem sGrad_at (D : FVec Ideal S8192x1024 .f32) (l : Fin 1024) : sGrad x (sLevel x) D (ix2 0 l) = (∑ t, x (ix2 t l) * scale (fun k => x (ix2 t k)) * D (ix2 t l) : EReal) := by
  pointwise [sGrad, sLevel_at]
  exact (Fin.sum_univ_one _).trans rfl

/-- The two results at an index. -/
theorem result_dx (t : Fin 8192) (l : Fin 1024) : sTotal x ct (sLevel x) (sGain g (sVec wg wu da db)) (sThrough x (sLevel x) (sGain g (sVec wg wu da db))) (ix2 t l) =
    pulled (fun k => x (ix2 t k)) (fun k => (∑ f, da (ix2 t f) * wg (ix2 k f) + ∑ f, db (ix2 t f) * wu (ix2 k f)) * g (ix1 k)) (ct (ix2 t l)) l := by
  rw [sTotal_at, sThrough_at, pulled_eq]
  simp only [sGain_at, sVec_at, add_comm (∑ f, db _ * wu _)]
theorem result_dg (l : Fin 1024) : sGrad x (sLevel x) (sVec wg wu da db) (ix2 0 l) =
    ∑ t, (∑ f, da (ix2 t f) * wg (ix2 l f) + ∑ f, db (ix2 t f) * wu (ix2 l f)) * (x (ix2 t l) * scale fun k => x (ix2 t k)) := by
  rw [sGrad_at]
  exact Finset.sum_congr rfl fun t _ => by rw [sVec_at, add_comm, mul_comm]

end Cert.Reference3Ideal.Grad

namespace Cert.Proof

/-- The gradient through the normalisation: no condition on the arguments. -/
theorem norm_back : @Cert.algebraic_Kernel3Ideal_Reference3Ideal Kernel3Ideal.Gen.facts Reference3Ideal.Gen.facts := by
  intro m g m' g' _ e
  refine ⟨fun c => (Kernel3Ideal.Gen.dats m 0 c).arrAt 7 Kernel3Ideal.cfg0.N, fun c => (Kernel3Ideal.Gen.dats m 0 c).arrAt 8 Kernel3Ideal.cfg0.N, Kernel3Ideal.Value.run_blocks m g,
    (θ_run _ _ _).mono (fun r h c => ⟨(h c).1.trans ?_, (h c).2.1.trans ?_, (h c).2.2⟩) (Reference3Ideal.Value.run m' g')⟩
  · refine Eq.trans ?_ (Kernel3Ideal.Grad.arr_dx m c).symm
    unfold Reference3Ideal.Value.res_main_v45
    rw [(e c).1, (e c).2.1, (e c).2.2.1, (e c).2.2.2.1, (e c).2.2.2.2.1, (e c).2.2.2.2.2.1, (e c).2.2.2.2.2.2]
    refine funext fun (y : (⟨2, ![8192, 1024]⟩ : Shape).Idx) => ?_
    obtain ⟨t, l, rfl⟩ : ∃ t l, y = ix2 t l := ⟨_, _, eq_ix2 y⟩
    exact Reference3Ideal.Grad.result_dx _ _ _ _ _ _ _ t l
  · refine Eq.trans ?_ (Kernel3Ideal.Grad.arr_dg m c).symm
    rw [(e c).1, (e c).2.2.1, (e c).2.2.2.1, (e c).2.2.2.2.2.1, (e c).2.2.2.2.2.2]
    refine funext fun (y : (⟨2, ![1, 1024]⟩ : Shape).Idx) => ?_
    obtain ⟨l, rfl⟩ : ∃ l, y = ix2 0 l := ⟨y 1, (eq_ix2 y).trans (congrArg (ix2 · (y 1)) (Subsingleton.elim (α := Fin 1) _ _))⟩
    exact Reference3Ideal.Grad.result_dg _ _ _ _ _ l

end Cert.Proof

end
-- ==== Proof.GateGrad.lean ====
/- The gradient of a gate product's weight: what the kernel leaves in its result array, at an index. -/
module

public import proofs.«01_k».proof.Proof.Blocks
public import proofs.«01_k».proof.Proof.Gen.Kernel4Ideal.Value
public import Idealize.ShloMosaic.Lib.StableHlo.ReadAt
public import Idealize.ShloMosaic.Lib.Pipeline.ValueKit

@[expose] public section

set_option maxRecDepth 16384

noncomputable section

namespace Cert.Kernel4Ideal.Grad

open Idealize.ShloMosaic Idealize.ShloMosaic.TcCoe Idealize.ShloMosaic.Tactic Idealize.SL.Sem
open Cert.Kernel4Ideal.Gen Cert.Rows

theorem N8 : cfg0.N = 8 := N_0
theorem hz : (![0, 0] : Fin 2 → Nat) = fun _ => 0 := funext fun a => by fin_cases a <;> rfl

section Body
variable {F : FTy → Type} [FloatOps F]
variable (c : Dev nD) (i : grid0.Coords) (a3 : Memref sig .tc .vmem S2048x1408 .bf16) (h3 : a3.IsWhole) (a4 : Memref sig .tc .vmem S2048x1024 .bf16) (h4 : a4.IsWhole)
  (a5 : Memref sig .tc .vmem S1408x1024 .bf16) (h5 : a5.IsWhole) (a6 : Memref sig .tc .vmem S1408x1024 .f32) (h6 : a6.IsWhole)
  (x : Vec F S2048x1408 .bf16) (y : Vec F S2048x1024 .bf16) (s : Vec F S1408x1024 .f32)

/-- The first block of a run leaves its product in the accumulator. -/
theorem first (hA hB hC) : sout0_A_0 c i a3 h3 a4 h4 a5 h5 a6 h6 hA hB hC x y = k0_pay1 x y := by
  unfold sout0_A_0
  rw [View.read_writes_eq_canon _ _ _ (scover0_A_0 c i a3 h3 a4 h4 a5 h5 a6 h6 hA hB hC x y)]
  unfold kernelRun0_A
  dsimp only
  rw [View.canon_unit_zero hz]
  unfold k0_pay2
  simp only [View.readAt_eq_ld, h3.read_unread, h4.read_unread, View.ld_unit_zero (S := S2048x1408) hz, View.ld_unit_zero (S := S2048x1024) hz, shapeCast_self]

/-- A later block adds its product to it. -/
theorem next (hA hB hC) : sout0_B_0 c i a3 h3 a4 h4 a5 h5 a6 h6 hA hB hC x y s = addf s (k0_pay1 x y) := by
  unfold sout0_B_0
  rw [View.read_writes_eq_canon _ _ _ (scover0_B_0 c i a3 h3 a4 h4 a5 h5 a6 h6 hA hB hC x y s)]
  unfold kernelRun0_B
  dsimp only
  rw [View.canon_unit_zero hz]
  unfold k0_pay3
  simp only [View.readAt_eq_ld, h3.read_unread, h4.read_unread, h6.read_unread, View.ld_unit_zero (S := S2048x1408) hz, View.ld_unit_zero (S := S2048x1024) hz,
    View.ld_unit_zero (S := S1408x1024) hz, shapeCast_self]

/-- The last block adds its own and stores the scaled sum as the result. -/
theorem last (hA hB hC) : out0_C_2 c i a3 h3 a4 h4 a5 h5 a6 h6 hA hB hC x y s = k0_pay4 (addf s (k0_pay1 x y)) := by
  unfold out0_C_2
  rw [View.read_writes_eq_canon _ _ _ (cover0_C_2 c i a3 h3 a4 h4 a5 h5 a6 h6 hA hB hC x y s)]
  unfold kernelRun0_C
  dsimp only
  sl_unfold_words
  rw [View.canon_unit_zero hz, View.readCov_unit_zero (S := S1408x1024) _ hz]
  unfold k0_pay3
  simp only [View.readAt_eq_ld, h3.read_unread, h4.read_unread, h6.read_unread, View.ld_unit_zero (S := S2048x1408) hz, View.ld_unit_zero (S := S2048x1024) hz,
    View.ld_unit_zero (S := S1408x1024) hz, shapeCast_self]

end Body

/-- One block's product: column `j` of the one operand against column `l` of the other, over the block's 2048 rows. -/
theorem pay1_at (x : FVec Ideal S2048x1408 .bf16) (y : FVec Ideal S2048x1024 .bf16) (j : Fin 1408) (l : Fin 1024) :
    k0_pay1 (F := Ideal) x y (ix2 j l) = (∑ r, x (ix2 r j) * y (ix2 r l) : EReal) := by
  pointwise [k0_pay1]

/-- The result is the accumulated sum, taken once. -/
theorem pay4_at (a : FVec Ideal S1408x1024 .f32) (j : Fin 1408) (l : Fin 1024) : k0_pay4 (F := Ideal) a (ix2 j l) = (a (ix2 j l) : EReal) := by
  pointwise [k0_pay4, one]

section
variable (m : (ℓ : Loc nD τ sig) → Buf (Elt Ideal) ℓ) (c : Dev nD)

/-- The two operands the launch reads: the cotangent and the activations. -/
abbrev ct : FVec Ideal S8192x2816 .f32 := m ((c : Thread nD τ).loc main_arg2)
abbrev act : FVec Ideal S8192x1024 .f32 := m ((c : Thread nD τ).loc main_arg0)

theorem index_0 : ∀ (p : Fin 2) (k : Fin 4), win0_0.index (pt N8 p k) 0 = k.val ∧ win0_0.index (pt N8 p k) 1 = p.val := by decide +kernel
theorem index_1 : ∀ (p : Fin 2) (k : Fin 4), win0_1.index (pt N8 p k) 0 = k.val ∧ win0_1.index (pt N8 p k) 1 = 0 := by decide +kernel

theorem v0_at (t : Fin 8192) (j : Fin 2816) : V m c main_v0 (ix2 t j) = ct m c (ix2 t j) := by
  unfold V
  after_reads_at
theorem v1_at (t : Fin 8192) (l : Fin 1024) : V m c main_v1 (ix2 t l) = act m c (ix2 t l) := by
  unfold V
  after_reads_at

theorem blk_0 (p : Fin 2) (k : Fin 4) (r : Fin 2048) (j : Fin 1408) :
    iblk m c 0 (pt N8 p k) (ix2 r j) = ct m c (ix2 (row k r) (col p j)) := by
  have e : (win0_0.blk (pt N8 p k)).view.emb (ix2 r j) = ix2 (row k r) (col p j) := by
    funext a
    apply Fin.ext
    match a with
    | ⟨0, _⟩ => blk_simp; rw [(index_0 p k).1]; show k.val * 2048 + r.val = 2048 * k.val + r.val; omega
    | ⟨1, _⟩ => blk_simp; rw [(index_0 p k).2]; show p.val * 1408 + j.val = 1408 * p.val + j.val; omega
  unfold iblk
  rw [View.read_apply]
  refine (cast_eq rfl _).trans ?_
  exact (congrArg (V m c main_v0) e).trans (v0_at m c _ _)

theorem blk_1 (p : Fin 2) (k : Fin 4) (r : Fin 2048) (l : Fin 1024) : iblk m c 1 (pt N8 p k) (ix2 r l) = act m c (ix2 (row k r) l) := by
  have e : (win0_1.blk (pt N8 p k)).view.emb (ix2 r l) = ix2 (row k r) l := by
    funext a
    apply Fin.ext
    match a with
    | ⟨0, _⟩ => blk_simp; rw [(index_1 p k).1]; show k.val * 2048 + r.val = 2048 * k.val + r.val; omega
    | ⟨1, _⟩ => blk_simp; rw [(index_1 p k).2]; simp
  unfold iblk
  rw [View.read_apply]
  refine (cast_eq rfl _).trans ?_
  exact (congrArg (V m c main_v1) e).trans (v1_at m c _ _)

/-- The product of a run's block, by the rows of the arguments. -/
theorem prod_at (p : Fin 2) (k : Fin 4) (j : Fin 1408) (l : Fin 1024) :
    k0_pay1 (iblk m c 0 (pt N8 p k)) (iblk m c 1 (pt N8 p k)) (ix2 j l) = ∑ r, ct m c (ix2 (row k r) (col p j)) * act m c (ix2 (row k r) l) :=
  (pay1_at (iblk m c 0 (pt N8 p k)) (iblk m c 1 (pt N8 p k)) j l).trans (Finset.sum_congr rfl fun r _ => congrArg₂ (· * ·) (blk_0 m c p k r j) (blk_1 m c p k r l))

theorem step_A (t : Fin cfg0.N) (h : t.val % 4 = 0) : (outsAt0 m c t.val t.isLt).2 = k0_pay1 (iblk m c 0 t) (iblk m c 1 t) := by
  rw [outsAt0_A m c t h (by omega) (by omega)]
  dsimp only
  exact first (F := Ideal) c ..
theorem step_B (t : Fin cfg0.N) (h : 1 ≤ t.val % 4) (h' : ¬ t.val % 4 = 3) :
    (outsAt0 m c t.val t.isLt).2 = addf (outsAt0 m c (t.val - 1) (Nat.lt_of_le_of_lt (Nat.sub_le _ _) t.isLt)).2 (k0_pay1 (iblk m c 0 t) (iblk m c 1 t)) := by
  rw [outsAt0_B m c t (by omega) h h']
  dsimp only
  exact next (F := Ideal) c ..
theorem step_C (t : Fin cfg0.N) (h : t.val % 4 = 3) :
    (outsAt0 m c t.val t.isLt).1 = k0_pay4 (addf (outsAt0 m c (t.val - 1) (Nat.lt_of_le_of_lt (Nat.sub_le _ _) t.isLt)).2 (k0_pay1 (iblk m c 0 t) (iblk m c 1 t))) := by
  rw [outsAt0_C m c t (by omega) (by omega) h]
  dsimp only
  exact last (F := Ideal) c ..

/-- What the result's block holds after a run, at an index. -/
theorem block_at (p : Fin 2) (j : Fin 1408) (l : Fin 1024) : (outsAt0 m c (pt N8 p 3).val (pt N8 p 3).isLt).1 (ix2 j l) =
    ∑ t, ct m c (ix2 t (col p j)) * act m c (ix2 t l) := by
  have e := run_of_four N8 (S := S1408x1024) (fun n h => (outsAt0 m c n h).2) (fun t => k0_pay1 (iblk m c 0 t) (iblk m c 1 t)) (step_A m c) (step_B m c) p
  refine (congrFun (step_C m c (pt N8 p 3) (by show (4 * p.val + 3) % 4 = 3; omega)) (ix2 j l)).trans ((pay4_at _ j l).trans ?_)
  refine (congrFun (congrArg (addf · (k0_pay1 (iblk m c 0 (pt N8 p 3)) (iblk m c 1 (pt N8 p 3)))) e) (ix2 j l)).trans ?_
  exact regroup (fun t => ct m c (ix2 t (col p j)) * act m c (ix2 t l)) (P := fun k => k0_pay1 (F := Ideal) (iblk m c 0 (pt N8 p k)) (iblk m c 1 (pt N8 p k)) (ix2 j l)) (fun k => prod_at m c p k j l)

/-- The result array, at an index: the sum over all rows. -/
theorem result (j : Fin 2816) (l : Fin 1024) : Value.G2 m c (ix2 j l) = ∑ t, ct m c (ix2 t j) * act m c (ix2 t l) := by
  obtain ⟨p, q, rfl⟩ := exists_col j
  have hp : Value.pt2Of (ix2 (col p q) l) = (pt N8 p 3).val := by
    show 4 * (1 * ((1408 * p.val + q.val) / 1408 - 0) + 1 * (l.val / 1024 - 0)) + 3 = 4 * p.val + 3
    omega
  have hl : Value.loc2Of (ix2 (col p q) l) = ix2 q l := by
    funext a
    apply Fin.ext
    match a with
    | ⟨0, _⟩ => show (1408 * p.val + q.val) % 1408 = q.val; omega
    | ⟨1, _⟩ => show l.val % 1024 = l.val; omega
  unfold Value.G2
  rw [dif_pos (by rw [hp]; exact (pt N8 p 3).isLt), hl, Value.fold0_congr m c _ _ (pt N8 p 3).val (by have := (pt N8 p 3).isLt; omega) hp, ← Value.outsAt0_sweep m c (pt N8 p 3).val (pt N8 p 3).isLt]
  exact block_at m c p q l

end

end Cert.Kernel4Ideal.Grad

end
-- ==== Proof.DownGrad.lean ====
/- The gradient of the down product's weight: what the kernel leaves in its result array, at an index. -/
module

public import proofs.«01_k».proof.Proof.Blocks
public import proofs.«01_k».proof.Proof.Gen.Kernel5Ideal.Value
public import Idealize.ShloMosaic.Lib.StableHlo.ReadAt
public import Idealize.ShloMosaic.Lib.Pipeline.ValueKit

@[expose] public section

set_option maxRecDepth 16384

noncomputable section

namespace Cert.Kernel5Ideal.Grad

open Idealize.ShloMosaic Idealize.ShloMosaic.TcCoe Idealize.ShloMosaic.Tactic Idealize.SL.Sem
open Cert.Kernel5Ideal.Gen Cert.Rows

theorem N8 : cfg0.N = 8 := N_0
theorem hz : (![0, 0] : Fin 2 → Nat) = fun _ => 0 := funext fun a => by fin_cases a <;> rfl

section Body
variable {F : FTy → Type} [FloatOps F]
variable (c : Dev nD) (i : grid0.Coords) (a3 : Memref sig .tc .vmem S2048x1408 .bf16) (h3 : a3.IsWhole) (a4 : Memref sig .tc .vmem S2048x1024 .f32) (h4 : a4.IsWhole)
  (a5 : Memref sig .tc .vmem S1408x1024 .bf16) (h5 : a5.IsWhole) (a6 : Memref sig .tc .vmem S1408x1024 .f32) (h6 : a6.IsWhole)
  (x : Vec F S2048x1408 .bf16) (y : Vec F S2048x1024 .f32) (s : Vec F S1408x1024 .f32)

/-- The first block of a run leaves its product in the accumulator. -/
theorem first (hA hB hC) : sout0_A_0 c i a3 h3 a4 h4 a5 h5 a6 h6 hA hB hC x y = k0_pay1 x y := by
  unfold sout0_A_0
  rw [View.read_writes_eq_canon _ _ _ (scover0_A_0 c i a3 h3 a4 h4 a5 h5 a6 h6 hA hB hC x y)]
  unfold kernelRun0_A
  dsimp only
  rw [View.canon_unit_zero hz]
  unfold k0_pay2
  simp only [View.readAt_eq_ld, h3.read_unread, h4.read_unread, View.ld_unit_zero (S := S2048x1408) hz, View.ld_unit_zero (S := S2048x1024) hz, shapeCast_self]

/-- A later block adds its product to it. -/
theorem next (hA hB hC) : sout0_B_0 c i a3 h3 a4 h4 a5 h5 a6 h6 hA hB hC x y s = addf s (k0_pay1 x y) := by
  unfold sout0_B_0
  rw [View.read_writes_eq_canon _ _ _ (scover0_B_0 c i a3 h3 a4 h4 a5 h5 a6 h6 hA hB hC x y s)]
  unfold kernelRun0_B
  dsimp only
  rw [View.canon_unit_zero hz]
  unfold k0_pay3
  simp only [View.readAt_eq_ld, h3.read_unread, h4.read_unread, h6.read_unread, View.ld_unit_zero (S := S2048x1408) hz, View.ld_unit_zero (S := S2048x1024) hz,
    View.ld_unit_zero (S := S1408x1024) hz, shapeCast_self]

/-- The last block adds its own and stores the scaled sum as the result. -/
theorem last (hA hB hC) : out0_C_2 c i a3 h3 a4 h4 a5 h5 a6 h6 hA hB hC x y s = k0_pay4 (addf s (k0_pay1 x y)) := by
  unfold out0_C_2
  rw [View.read_writes_eq_canon _ _ _ (cover0_C_2 c i a3 h3 a4 h4 a5 h5 a6 h6 hA hB hC x y s)]
  unfold kernelRun0_C
  dsimp only
  sl_unfold_words
  rw [View.canon_unit_zero hz, View.readCov_unit_zero (S := S1408x1024) _ hz]
  unfold k0_pay3
  simp only [View.readAt_eq_ld, h3.read_unread, h4.read_unread, h6.read_unread, View.ld_unit_zero (S := S2048x1408) hz, View.ld_unit_zero (S := S2048x1024) hz,
    View.ld_unit_zero (S := S1408x1024) hz, shapeCast_self]

end Body

/-- One block's product: column `j` of the one operand against column `l` of the other, over the block's 2048 rows. -/
theorem pay1_at (x : FVec Ideal S2048x1408 .bf16) (y : FVec Ideal S2048x1024 .f32) (j : Fin 1408) (l : Fin 1024) :
    k0_pay1 (F := Ideal) x y (ix2 j l) = (∑ r, x (ix2 r j) * y (ix2 r l) : EReal) := by
  pointwise [k0_pay1]

/-- The result is half the accumulated sum. -/
theorem pay4_at (a : FVec Ideal S1408x1024 .f32) (j : Fin 1408) (l : Fin 1024) : k0_pay4 (F := Ideal) a (ix2 j l) = (a (ix2 j l) * ((1 / 2 : ℝ) : EReal) : EReal) := by
  pointwise [k0_pay4, half]

section
variable (m : (ℓ : Loc nD τ sig) → Buf (Elt Ideal) ℓ) (c : Dev nD)

/-- The two operands the launch reads: the activations and the cotangent. -/
abbrev act : FVec Ideal S8192x2816 .f32 := m ((c : Thread nD τ).loc main_arg0)
abbrev ct : FVec Ideal S8192x1024 .f32 := m ((c : Thread nD τ).loc main_arg2)

theorem index_0 : ∀ (p : Fin 2) (k : Fin 4), win0_0.index (pt N8 p k) 0 = k.val ∧ win0_0.index (pt N8 p k) 1 = p.val := by decide +kernel
theorem index_1 : ∀ (p : Fin 2) (k : Fin 4), win0_1.index (pt N8 p k) 0 = k.val ∧ win0_1.index (pt N8 p k) 1 = 0 := by decide +kernel

theorem v0_at (t : Fin 8192) (j : Fin 2816) : V m c main_v0 (ix2 t j) = act m c (ix2 t j) := by
  unfold V
  after_reads_at

theorem blk_0 (p : Fin 2) (k : Fin 4) (r : Fin 2048) (j : Fin 1408) :
    iblk m c 0 (pt N8 p k) (ix2 r j) = act m c (ix2 (row k r) (col p j)) := by
  have e : (win0_0.blk (pt N8 p k)).view.emb (ix2 r j) = ix2 (row k r) (col p j) := by
    funext a
    apply Fin.ext
    match a with
    | ⟨0, _⟩ => blk_simp; rw [(index_0 p k).1]; show k.val * 2048 + r.val = 2048 * k.val + r.val; omega
    | ⟨1, _⟩ => blk_simp; rw [(index_0 p k).2]; show p.val * 1408 + j.val = 1408 * p.val + j.val; omega
  unfold iblk
  rw [View.read_apply]
  refine (cast_eq rfl _).trans ?_
  exact (congrArg (V m c main_v0) e).trans (v0_at m c _ _)

theorem blk_1 (p : Fin 2) (k : Fin 4) (r : Fin 2048) (l : Fin 1024) : iblk m c 1 (pt N8 p k) (ix2 r l) = ct m c (ix2 (row k r) l) := by
  have e : (win0_1.blk (pt N8 p k)).view.emb (ix2 r l) = ix2 (row k r) l := by
    funext a
    apply Fin.ext
    match a with
    | ⟨0, _⟩ => blk_simp; rw [(index_1 p k).1]; show k.val * 2048 + r.val = 2048 * k.val + r.val; omega
    | ⟨1, _⟩ => blk_simp; rw [(index_1 p k).2]; simp
  unfold iblk
  rw [View.read_apply]
  refine (cast_eq rfl _).trans ?_
  exact (congrArg (V m c main_arg2) e).trans (congrFun (V_main_arg2 m c) _)

/-- The product of a run's block, by the rows of the arguments. -/
theorem prod_at (p : Fin 2) (k : Fin 4) (j : Fin 1408) (l : Fin 1024) :
    k0_pay1 (iblk m c 0 (pt N8 p k)) (iblk m c 1 (pt N8 p k)) (ix2 j l) = ∑ r, act m c (ix2 (row k r) (col p j)) * ct m c (ix2 (row k r) l) :=
  (pay1_at (iblk m c 0 (pt N8 p k)) (iblk m c 1 (pt N8 p k)) j l).trans (Finset.sum_congr rfl fun r _ => congrArg₂ (· * ·) (blk_0 m c p k r j) (blk_1 m c p k r l))

theorem step_A (t : Fin cfg0.N) (h : t.val % 4 = 0) : (outsAt0 m c t.val t.isLt).2 = k0_pay1 (iblk m c 0 t) (iblk m c 1 t) := by
  rw [outsAt0_A m c t h (by omega) (by omega)]
  dsimp only
  exact first (F := Ideal) c ..
theorem step_B (t : Fin cfg0.N) (h : 1 ≤ t.val % 4) (h' : ¬ t.val % 4 = 3) :
    (outsAt0 m c t.val t.isLt).2 = addf (outsAt0 m c (t.val - 1) (Nat.lt_of_le_of_lt (Nat.sub_le _ _) t.isLt)).2 (k0_pay1 (iblk m c 0 t) (iblk m c 1 t)) := by
  rw [outsAt0_B m c t (by omega) h h']
  dsimp only
  exact next (F := Ideal) c ..
theorem step_C (t : Fin cfg0.N) (h : t.val % 4 = 3) :
    (outsAt0 m c t.val t.isLt).1 = k0_pay4 (addf (outsAt0 m c (t.val - 1) (Nat.lt_of_le_of_lt (Nat.sub_le _ _) t.isLt)).2 (k0_pay1 (iblk m c 0 t) (iblk m c 1 t))) := by
  rw [outsAt0_C m c t (by omega) (by omega) h]
  dsimp only
  exact last (F := Ideal) c ..

/-- What the result's block holds after a run, at an index. -/
theorem block_at (p : Fin 2) (j : Fin 1408) (l : Fin 1024) : (outsAt0 m c (pt N8 p 3).val (pt N8 p 3).isLt).1 (ix2 j l) =
    (∑ t, act m c (ix2 t (col p j)) * ct m c (ix2 t l)) * ((1 / 2 : ℝ) : EReal) := by
  have e := run_of_four N8 (S := S1408x1024) (fun n h => (outsAt0 m c n h).2) (fun t => k0_pay1 (iblk m c 0 t) (iblk m c 1 t)) (step_A m c) (step_B m c) p
  refine (congrFun (step_C m c (pt N8 p 3) (by show (4 * p.val + 3) % 4 = 3; omega)) (ix2 j l)).trans ((pay4_at _ j l).trans (congrArg (· * _) ?_))
  refine (congrFun (congrArg (addf · (k0_pay1 (iblk m c 0 (pt N8 p 3)) (iblk m c 1 (pt N8 p 3)))) e) (ix2 j l)).trans ?_
  exact regroup (fun t => act m c (ix2 t (col p j)) * ct m c (ix2 t l)) (P := fun k => k0_pay1 (F := Ideal) (iblk m c 0 (pt N8 p k)) (iblk m c 1 (pt N8 p k)) (ix2 j l)) (fun k => prod_at m c p k j l)

/-- The result array, at an index: half the sum over all rows. -/
theorem result (j : Fin 2816) (l : Fin 1024) : Value.G2 m c (ix2 j l) = (∑ t, act m c (ix2 t j) * ct m c (ix2 t l)) * ((1 / 2 : ℝ) : EReal) := by
  obtain ⟨p, q, rfl⟩ := exists_col j
  have hp : Value.pt2Of (ix2 (col p q) l) = (pt N8 p 3).val := by
    show 4 * (1 * ((1408 * p.val + q.val) / 1408 - 0) + 1 * (l.val / 1024 - 0)) + 3 = 4 * p.val + 3
    omega
  have hl : Value.loc2Of (ix2 (col p q) l) = ix2 q l := by
    funext a
    apply Fin.ext
    match a with
    | ⟨0, _⟩ => show (1408 * p.val + q.val) % 1408 = q.val; omega
    | ⟨1, _⟩ => show l.val % 1024 = l.val; omega
  unfold Value.G2
  rw [dif_pos (by rw [hp]; exact (pt N8 p 3).isLt), hl, Value.fold0_congr m c _ _ (pt N8 p 3).val (by have := (pt N8 p 3).isLt; omega) hp, ← Value.outsAt0_sweep m c (pt N8 p 3).val (pt N8 p 3).isLt]
  exact block_at m c p q l

end

end Cert.Kernel5Ideal.Grad

end
-- ==== Proof.Weights.lean ====
/- The weight gradients of the gated network's products: kernel and reference agree on every memory. -/
module

public import proofs.«01_k».proof.Defs
public import proofs.«01_k».proof.Proof.GateGrad
public import proofs.«01_k».proof.Proof.DownGrad
public import proofs.«01_k».proof.Proof.Gen.Reference4Ideal.Run
public import proofs.«01_k».proof.Proof.Gen.Reference5Ideal.Run

@[expose] public section

set_option maxRecDepth 16384

noncomputable section

open Idealize.ShloMosaic Idealize.ShloMosaic.TcCoe Idealize.ShloMosaic.Tactic Idealize.SL.Sem

namespace Cert.Reference4Ideal.Grad
open Cert.Reference4Ideal.Gen

/-- The reference's composed term, at an index. -/
theorem result (g : FVec Ideal S8192x2816 .f32) (x : FVec Ideal S8192x1024 .f32) (j : Fin 2816) (l : Fin 1024) :
    (truncf .bf16 (transpose S2816x1024 [1, 0] (transpose S1024x2816 [1, 0] (Host.dotGeneral dot_S8192x2816_S8192x1024_S2816x1024_0_0_1_1_n_n none g x) transposes_S2816x1024_S1024x2816_1_0) transposes_S1024x2816_S2816x1024_1_0) bitsLt_bf16_f32 : FVec Ideal S2816x1024 .bf16) (ix2 j l)
      = (∑ t, g (ix2 t j) * x (ix2 t l) : EReal) := by
  pointwise
end Cert.Reference4Ideal.Grad

namespace Cert.Reference5Ideal.Grad
open Cert.Reference5Ideal.Gen

/-- The reference's composed term, at an index: the half it applies to the cotangent passes through the sum. -/
theorem result (g : FVec Ideal S8192x1024 .f32) (x : FVec Ideal S8192x2816 .f32) (j : Fin 2816) (l : Fin 1024) :
    (truncf .bf16 (transpose S2816x1024 [1, 0] (Host.dotGeneral dot_S8192x1024_S8192x2816_S1024x2816_0_0_1_1_n_n none (mulf (broadcastInDim S8192x1024 ![] bcast_S_S8192x1024 (constant S_ .f32 0x3F000000#32)) g) x) transposes_S1024x2816_S2816x1024_1_0) bitsLt_bf16_f32 : FVec Ideal S2816x1024 .bf16) (ix2 j l)
      = ((∑ t, x (ix2 t j) * g (ix2 t l)) * ((1 / 2 : ℝ) : EReal) : EReal) := by
  rw [Cert.Rows.mul_sum _ _ _ (by norm_num)]
  pointwise [Cert.Rows.half]
  exact Finset.sum_congr rfl fun t _ => by rw [mul_comm (((1 / 2 : ℝ)) : EReal) (g _), mul_comm, mul_assoc]
end Cert.Reference5Ideal.Grad

namespace Cert.Proof

/-- The gradient of a product's weight: no condition on the arguments. -/
theorem weight_gate : @Cert.algebraic_Kernel4Ideal_Reference4Ideal Kernel4Ideal.Gen.facts Reference4Ideal.Gen.facts := by
  intro m g m' g' _ e
  refine ⟨Kernel4Ideal.Value.G2 m, Kernel4Ideal.Value.run m g, (θ_run _ _ _).mono (fun r h c => ⟨(h c).1.trans ?_, (h c).2⟩) (Reference4Ideal.Value.run m' g')⟩
  refine funext fun (y : (⟨2, ![2816, 1024]⟩ : Shape).Idx) => ?_
  obtain ⟨j, l, rfl⟩ : ∃ j l, y = ix2 j l := ⟨_, _, eq_ix2 y⟩
  rw [(e c).1, (e c).2.2]
  exact (Reference4Ideal.Grad.result _ _ j l).trans (Kernel4Ideal.Grad.result m c j l).symm

/-- The gradient of the halved product's weight: no condition on the arguments. -/
theorem weight_down : @Cert.algebraic_Kernel5Ideal_Reference5Ideal Kernel5Ideal.Gen.facts Reference5Ideal.Gen.facts := by
  intro m g m' g' _ e
  refine ⟨Kernel5Ideal.Value.G2 m, Kernel5Ideal.Value.run m g, (θ_run _ _ _).mono (fun r h c => ⟨(h c).1.trans ?_, (h c).2⟩) (Reference5Ideal.Value.run m' g')⟩
  refine funext fun (y : (⟨2, ![2816, 1024]⟩ : Shape).Idx) => ?_
  obtain ⟨j, l, rfl⟩ : ∃ j l, y = ix2 j l := ⟨_, _, eq_ix2 y⟩
  rw [(e c).1, (e c).2.2]
  exact (Reference5Ideal.Grad.result _ _ j l).trans (Kernel5Ideal.Grad.result m c j l).symm

end Cert.Proof

end
-- ==== Proof.UpForward.lean ====
/- The two hidden layers and their gated product: kernel and reference agree on every memory. -/
module

public import proofs.«01_k».proof.Defs
public import proofs.«01_k».proof.Proof.GateBack
public import proofs.«01_k».proof.Proof.Gen.Kernel6Ideal.Value
public import proofs.«01_k».proof.Proof.Gen.Reference6Ideal.Run
public import Idealize.ShloMosaic.Lib.StableHlo.ReadAt
public import Idealize.ShloMosaic.Lib.Pipeline.ValueKit

@[expose] public section

set_option maxRecDepth 16384

noncomputable section

open Idealize.ShloMosaic Idealize.ShloMosaic.TcCoe Idealize.ShloMosaic.Tactic Idealize.SL.Sem

namespace Cert.Kernel6Ideal.Up
open Cert.Kernel6Ideal.Gen Cert.Rows

theorem hz : (![0, 0] : Fin 2 → Nat) = fun _ => 0 := funext fun a => by fin_cases a <;> rfl

variable (x : FVec Ideal S4096x1024 .bf16) (u w : FVec Ideal S256x1024 .bf16) (r : Fin 4096) (q : Fin 256)

theorem pay2_at : k0_pay2 (F := Ideal) x u (ix2 r q) = (∑ l, x (ix2 r l) * u (ix2 q l) : EReal) := by
  pointwise [k0_pay2, k0_pay1]
theorem pay3_at : k0_pay3 (F := Ideal) x w (ix2 r q) = (∑ l, x (ix2 r l) * w (ix2 q l) : EReal) := by
  pointwise [k0_pay3, k0_pay1]
theorem pay4_at : k0_pay4 (F := Ideal) x u (ix2 r q) = k0_pay2 (F := Ideal) x u (ix2 r q) := by
  pointwise [k0_pay4]
theorem pay5_at : k0_pay5 (F := Ideal) x w (ix2 r q) = k0_pay3 (F := Ideal) x w (ix2 r q) := by
  pointwise [k0_pay5]
theorem pay6_at : k0_pay6 (F := Ideal) x u w (ix2 r q) =
    (k0_pay2 (F := Ideal) x u (ix2 r q) * logistic (k0_pay2 (F := Ideal) x u (ix2 r q)) * k0_pay3 (F := Ideal) x w (ix2 r q) : EReal) := by
  pointwise [k0_pay6, one]
  rw [zero_sub]
  rfl
theorem out3 : out0_3 (F := Ideal) x u w = k0_pay4 (F := Ideal) x u := by
  unfold out0_3 r0_0 r0_1 r0_2
  rw [View.canon_unit_zero hz]
  simp only [View.ld_unit_zero (S := S4096x1024) hz, View.ld_unit_zero (S := S256x1024) hz]
theorem out4 : out0_4 (F := Ideal) x u w = k0_pay5 (F := Ideal) x w := by
  unfold out0_4 r0_0 r0_1 r0_2
  rw [View.canon_unit_zero hz]
  simp only [View.ld_unit_zero (S := S4096x1024) hz, View.ld_unit_zero (S := S256x1024) hz]
theorem out5 : out0_5 (F := Ideal) x u w = k0_pay6 (F := Ideal) x u w := by
  unfold out0_5 r0_0 r0_1 r0_2
  rw [View.canon_unit_zero hz]
  simp only [View.ld_unit_zero (S := S4096x1024) hz, View.ld_unit_zero (S := S256x1024) hz]

section
variable (m : (ℓ : Loc nD τ sig) → Buf (Elt Ideal) ℓ) (c : Dev nD)

/-- The arguments the launch reads: the normalised rows and the two weights. -/
abbrev act : FVec Ideal S8192x1024 .f32 := m ((c : Thread nD τ).loc main_arg0)
abbrev wg : FVec Ideal S1024x2816 .f32 := m ((c : Thread nD τ).loc main_arg1)
abbrev wu : FVec Ideal S1024x2816 .f32 := m ((c : Thread nD τ).loc main_arg2)

/-- The three results at an index. -/
def gate (t : Fin 8192) (j : Fin 2816) : EReal := ∑ l, act m c (ix2 t l) * wg m c (ix2 l j)
def up (t : Fin 8192) (j : Fin 2816) : EReal := ∑ l, act m c (ix2 t l) * wu m c (ix2 l j)
def both (t : Fin 8192) (j : Fin 2816) : EReal := gate m c t j * logistic (gate m c t j) * up m c t j

theorem v0_at (t : Fin 8192) (l : Fin 1024) : V m c main_v0 (ix2 t l) = act m c (ix2 t l) := by
  unfold V
  after_reads_at
theorem v2_at (j : Fin 2816) (l : Fin 1024) : V m c main_v2 (ix2 j l) = wg m c (ix2 l j) := by
  unfold V
  after_reads_at
theorem v4_at (j : Fin 2816) (l : Fin 1024) : V m c main_v4 (ix2 j l) = wu m c (ix2 l j) := by
  unfold V
  after_reads_at

theorem index_0 : ∀ t : Fin grid0.N, win0_0.index t 0 = (grid0.coords t 0).val ∧ win0_0.index t 1 = 0 := by decide +kernel
theorem index_1 : ∀ t : Fin grid0.N, win0_1.index t 0 = (grid0.coords t 1).val ∧ win0_1.index t 1 = 0 := by decide +kernel
theorem index_2 : ∀ t : Fin grid0.N, win0_2.index t 0 = (grid0.coords t 1).val ∧ win0_2.index t 1 = 0 := by decide +kernel
theorem index_3 : ∀ t : Fin grid0.N, win0_3.index t 0 = (grid0.coords t 0).val ∧ win0_3.index t 1 = (grid0.coords t 1).val := by decide +kernel
theorem index_4 : ∀ t : Fin grid0.N, win0_4.index t 0 = (grid0.coords t 0).val ∧ win0_4.index t 1 = (grid0.coords t 1).val := by decide +kernel
theorem index_5 : ∀ t : Fin grid0.N, win0_5.index t 0 = (grid0.coords t 0).val ∧ win0_5.index t 1 = (grid0.coords t 1).val := by decide +kernel

variable (t : Fin cfg0.N)

/-- Row `r` and column `q` of point `t`'s block. -/
abbrev rowAt : Fin 8192 := ⟨4096 * (grid0.coords t 0).val + r.val, by have h : (grid0.coords t 0).val < 2 := (grid0.coords t 0).isLt; omega⟩
abbrev colAt : Fin 2816 := ⟨256 * (grid0.coords t 1).val + q.val, by have h : (grid0.coords t 1).val < 11 := (grid0.coords t 1).isLt; omega⟩

theorem blk_0 (l : Fin 1024) : iblk m c 0 t (ix2 r l) = act m c (ix2 (rowAt r t) l) := by
  have e : (win0_0.blk t).view.emb (ix2 r l) = ix2 (rowAt r t) l := by
    funext a
    apply Fin.ext
    match a with
    | ⟨0, _⟩ => blk_simp; rw [(index_0 t).1]; exact congrArg (· + (r).val) (mul_comm _ _)
    | ⟨1, _⟩ => blk_simp; rw [(index_0 t).2]; simp
  unfold iblk
  rw [View.read_apply]
  exact (cast_eq rfl _).trans ((congrArg (V m c main_v0) e).trans (v0_at m c _ _))

theorem blk_1 (l : Fin 1024) : iblk m c 1 t (ix2 q l) = wg m c (ix2 l (colAt q t)) := by
  have e : (win0_1.blk t).view.emb (ix2 q l) = ix2 (colAt q t) l := by
    funext a
    apply Fin.ext
    match a with
    | ⟨0, _⟩ => blk_simp; rw [(index_1 t).1]; exact congrArg (· + (q).val) (mul_comm _ _)
    | ⟨1, _⟩ => blk_simp; rw [(index_1 t).2]; simp
  unfold iblk
  rw [View.read_apply]
  exact (cast_eq rfl _).trans ((congrArg (V m c main_v2) e).trans (v2_at m c _ _))

theorem blk_2 (l : Fin 1024) : iblk m c 2 t (ix2 q l) = wu m c (ix2 l (colAt q t)) := by
  have e : (win0_2.blk t).view.emb (ix2 q l) = ix2 (colAt q t) l := by
    funext a
    apply Fin.ext
    match a with
    | ⟨0, _⟩ => blk_simp; rw [(index_2 t).1]; exact congrArg (· + (q).val) (mul_comm _ _)
    | ⟨1, _⟩ => blk_simp; rw [(index_2 t).2]; simp
  unfold iblk
  rw [View.read_apply]
  exact (cast_eq rfl _).trans ((congrArg (V m c main_v4) e).trans (v4_at m c _ _))

theorem gate_at : k0_pay2 (F := Ideal) (iblk m c 0 t) (iblk m c 1 t) (ix2 r q) = gate m c (rowAt r t) (colAt q t) :=
  (pay2_at _ _ r q).trans (Finset.sum_congr rfl fun l _ => congrArg₂ (· * ·) (blk_0 r m c t l) (blk_1 q m c t l))
theorem up_at : k0_pay3 (F := Ideal) (iblk m c 0 t) (iblk m c 2 t) (ix2 r q) = up m c (rowAt r t) (colAt q t) :=
  (pay3_at _ _ r q).trans (Finset.sum_congr rfl fun l _ => congrArg₂ (· * ·) (blk_0 r m c t l) (blk_2 q m c t l))

/-- What a point leaves in the three results' blocks. -/
theorem a_at : out0_3 (F := Ideal) (iblk m c 0 t) (iblk m c 1 t) (iblk m c 2 t) (ix2 r q) = gate m c (rowAt r t) (colAt q t) :=
  (congrFun (out3 _ _ _) _).trans ((pay4_at _ _ r q).trans (gate_at r q m c t))
theorem b_at : out0_4 (F := Ideal) (iblk m c 0 t) (iblk m c 1 t) (iblk m c 2 t) (ix2 r q) = up m c (rowAt r t) (colAt q t) :=
  (congrFun (out4 _ _ _) _).trans ((pay5_at _ _ r q).trans (up_at r q m c t))
theorem s_at : out0_5 (F := Ideal) (iblk m c 0 t) (iblk m c 1 t) (iblk m c 2 t) (ix2 r q) = both m c (rowAt r t) (colAt q t) := by
  refine (congrFun (out5 _ _ _) _).trans ((pay6_at _ _ _ r q).trans ?_)
  rw [gate_at, up_at]
  rfl

/-- The gated layer's array. -/
theorem arr_a : (dats m 0 c).arrAt 3 cfg0.N = fun i : S8192x2816.Idx => gate m c (i 0) (i 1) := by
  refine (dats m 0 c).arrAt_eq_of_covers 3 _ (by decide +kernel) fun t _ y => ?_
  have e : (win0_3.blk t).view.emb (y) = ix2 (rowAt (y 0) t) (colAt (y 1) t) := by
    funext a
    apply Fin.ext
    match a with
    | ⟨0, _⟩ => blk_simp; rw [(index_3 t).1]; exact congrArg (· + (y 0).val) (mul_comm _ _)
    | ⟨1, _⟩ => blk_simp; rw [(index_3 t).2]; exact congrArg (· + (y 1).val) (mul_comm _ _)
  blk_simp
  rw [after0_3, e]
  exact (congrArg (out0_3 _ _ _) (eq_ix2 y)).trans (a_at (y 0) (y 1) m c t)

/-- The other layer's. -/
theorem arr_b : (dats m 0 c).arrAt 4 cfg0.N = fun i : S8192x2816.Idx => up m c (i 0) (i 1) := by
  refine (dats m 0 c).arrAt_eq_of_covers 4 _ (by decide +kernel) fun t _ y => ?_
  have e : (win0_4.blk t).view.emb (y) = ix2 (rowAt (y 0) t) (colAt (y 1) t) := by
    funext a
    apply Fin.ext
    match a with
    | ⟨0, _⟩ => blk_simp; rw [(index_4 t).1]; exact congrArg (· + (y 0).val) (mul_comm _ _)
    | ⟨1, _⟩ => blk_simp; rw [(index_4 t).2]; exact congrArg (· + (y 1).val) (mul_comm _ _)
  blk_simp
  rw [after0_4, e]
  exact (congrArg (out0_4 _ _ _) (eq_ix2 y)).trans (b_at (y 0) (y 1) m c t)

/-- Their product's. -/
theorem arr_s : (dats m 0 c).arrAt 5 cfg0.N = fun i : S8192x2816.Idx => both m c (i 0) (i 1) := by
  refine (dats m 0 c).arrAt_eq_of_covers 5 _ (by decide +kernel) fun t _ y => ?_
  have e : (win0_5.blk t).view.emb (y) = ix2 (rowAt (y 0) t) (colAt (y 1) t) := by
    funext a
    apply Fin.ext
    match a with
    | ⟨0, _⟩ => blk_simp; rw [(index_5 t).1]; exact congrArg (· + (y 0).val) (mul_comm _ _)
    | ⟨1, _⟩ => blk_simp; rw [(index_5 t).2]; exact congrArg (· + (y 1).val) (mul_comm _ _)
  blk_simp
  rw [after0_5, e]
  exact (congrArg (out0_5 _ _ _) (eq_ix2 y)).trans (s_at (y 0) (y 1) m c t)

end

end Cert.Kernel6Ideal.Up

namespace Cert.Reference6Ideal.Up
open Cert.Reference6Ideal.Gen Cert.Rows

variable (h : FVec Ideal S8192x1024 .f32) (w : FVec Ideal S1024x2816 .f32) (a b : FVec Ideal S8192x2816 .f32) (t : Fin 8192) (j : Fin 2816)

/-- The stages of the reference's composed terms. -/
def sProduct : FVec Ideal S8192x2816 .f32 := Host.dotGeneral dot_S8192x1024_S1024x2816_S8192x2816_1_0_0_1_n_n none h w
def sBoth : FVec Ideal S8192x2816 .bf16 :=
  truncf .bf16 (mulf (mulf a (Host.divf (broadcastInDim S8192x2816 ![] bcast_S_S8192x2816 (constant S_ .f32 0x3F800000#32)) (addf (broadcastInDim S8192x2816 ![] bcast_S_S8192x2816 (constant S_ .f32 0x3F800000#32)) (Host.exp (Host.negf a))))) b) bitsLt_bf16_f32

theorem sProduct_at : sProduct h w (ix2 t j) = (∑ l, h (ix2 t l) * w (ix2 l j) : EReal) := by
  pointwise [sProduct]
theorem sBoth_at : sBoth a b (ix2 t j) = (a (ix2 t j) * logistic (a (ix2 t j)) * b (ix2 t j) : EReal) := by
  pointwise [sBoth, one]
  rfl

/-- The results at an index: a layer, and the gated product. -/
theorem result_layer : (truncf .bf16 (sProduct h w) bitsLt_bf16_f32 : FVec Ideal S8192x2816 .bf16) (ix2 t j) = (∑ l, h (ix2 t l) * w (ix2 l j) : EReal) := by
  pointwise [sProduct_at]
theorem result_both (w' : FVec Ideal S1024x2816 .f32) : sBoth (sProduct h w) (sProduct h w') (ix2 t j) =
    ((∑ l, h (ix2 t l) * w (ix2 l j)) * logistic (∑ l, h (ix2 t l) * w (ix2 l j)) * ∑ l, h (ix2 t l) * w' (ix2 l j) : EReal) := by
  rw [sBoth_at, sProduct_at, sProduct_at]

end Cert.Reference6Ideal.Up

namespace Cert.Proof

/-- The two hidden layers and their gated product: no condition on the arguments. -/
theorem layers : @Cert.algebraic_Kernel6Ideal_Reference6Ideal Kernel6Ideal.Gen.facts Reference6Ideal.Gen.facts := by
  intro m g m' g' _ e
  refine ⟨fun c => (Kernel6Ideal.Gen.dats m 0 c).arrAt 3 Kernel6Ideal.cfg0.N, fun c => (Kernel6Ideal.Gen.dats m 0 c).arrAt 4 Kernel6Ideal.cfg0.N,
    fun c => (Kernel6Ideal.Gen.dats m 0 c).arrAt 5 Kernel6Ideal.cfg0.N, Kernel6Ideal.Value.run_blocks m g,
    (θ_run _ _ _).mono (fun r h c => ⟨(h c).1.trans ?_, (h c).2.1.trans ?_, (h c).2.2.1.trans ?_, (h c).2.2.2⟩) (Reference6Ideal.Value.run m' g')⟩
  · refine Eq.trans ?_ (Kernel6Ideal.Up.arr_a m c).symm
    rw [(e c).1, (e c).2.1]
    refine funext fun (y : (⟨2, ![8192, 2816]⟩ : Shape).Idx) => ?_
    obtain ⟨t, j, rfl⟩ : ∃ t j, y = ix2 t j := ⟨_, _, eq_ix2 y⟩
    exact Reference6Ideal.Up.result_layer _ _ t j
  · refine Eq.trans ?_ (Kernel6Ideal.Up.arr_b m c).symm
    rw [(e c).1, (e c).2.2]
    refine funext fun (y : (⟨2, ![8192, 2816]⟩ : Shape).Idx) => ?_
    obtain ⟨t, j, rfl⟩ : ∃ t j, y = ix2 t j := ⟨_, _, eq_ix2 y⟩
    exact Reference6Ideal.Up.result_layer _ _ t j
  · refine Eq.trans ?_ (Kernel6Ideal.Up.arr_s m c).symm
    rw [(e c).1, (e c).2.1, (e c).2.2]
    refine funext fun (y : (⟨2, ![8192, 2816]⟩ : Shape).Idx) => ?_
    obtain ⟨t, j, rfl⟩ : ∃ t j, y = ix2 t j := ⟨_, _, eq_ix2 y⟩
    exact Reference6Ideal.Up.result_both _ _ t j _

end Cert.Proof

end
-- ==== Proof.DownForward.lean ====
/- Half the down product on top of the residual: kernel and reference agree on every memory. -/
module

public import proofs.«01_k».proof.Defs
public import proofs.«01_k».proof.Proof.Blocks
public import proofs.«01_k».proof.Proof.Gen.Kernel7Ideal.Value
public import proofs.«01_k».proof.Proof.Gen.Reference7Ideal.Run
public import Idealize.ShloMosaic.Lib.StableHlo.ReadAt
public import Idealize.ShloMosaic.Lib.Pipeline.ValueKit

@[expose] public section

set_option maxRecDepth 16384

noncomputable section

open Idealize.ShloMosaic Idealize.ShloMosaic.TcCoe Idealize.ShloMosaic.Tactic Idealize.SL.Sem

namespace Cert.Kernel7Ideal.Down
open Cert.Kernel7Ideal.Gen Cert.Rows

theorem hz : (![0, 0] : Fin 2 → Nat) = fun _ => 0 := funext fun a => by fin_cases a <;> rfl

section
variable (s : FVec Ideal S1024x2816 .bf16) (w : FVec Ideal S2816x1024 .bf16) (x : FVec Ideal S1024x1024 .f32) (r q : Fin 1024)

theorem pay1_at : k0_pay1 (F := Ideal) s w x (ix2 r q) = (x (ix2 r q) + (∑ j, s (ix2 r j) * w (ix2 j q)) * ((1 / 2 : ℝ) : EReal) : EReal) := by
  pointwise [k0_pay1, half]
theorem out3 : out0_3 (F := Ideal) s w x = k0_pay1 (F := Ideal) s w x := by
  unfold out0_3 r0_0 r0_1 r0_2
  rw [View.canon_unit_zero hz]
  simp only [View.ld_unit_zero (S := S1024x2816) hz, View.ld_unit_zero (S := S2816x1024) hz, View.ld_unit_zero (S := S1024x1024) hz]
end

section
variable (m : (ℓ : Loc nD τ sig) → Buf (Elt Ideal) ℓ) (c : Dev nD)

/-- The arguments the launch reads: the gated product, the weight and the residual. -/
abbrev act : FVec Ideal S8192x2816 .f32 := m ((c : Thread nD τ).loc main_arg0)
abbrev wd : FVec Ideal S2816x1024 .f32 := m ((c : Thread nD τ).loc main_arg1)
abbrev inp : FVec Ideal S8192x1024 .f32 := m ((c : Thread nD τ).loc main_arg2)

/-- The result at an index. -/
def total (t : Fin 8192) (l : Fin 1024) : EReal := inp m c (ix2 t l) + (∑ j, act m c (ix2 t j) * wd m c (ix2 j l)) * ((1 / 2 : ℝ) : EReal)

theorem v0_at (t : Fin 8192) (j : Fin 2816) : V m c main_v0 (ix2 t j) = act m c (ix2 t j) := by
  unfold V
  after_reads_at
theorem v1_at (j : Fin 2816) (l : Fin 1024) : V m c main_v1 (ix2 j l) = wd m c (ix2 j l) := by
  unfold V
  after_reads_at

theorem index_0 : ∀ t : Fin grid0.N, win0_0.index t 0 = (grid0.coords t 0).val ∧ win0_0.index t 1 = 0 := by decide +kernel
theorem index_1 : ∀ t : Fin grid0.N, win0_1.index t 0 = 0 ∧ win0_1.index t 1 = 0 := by decide +kernel
theorem index_2 : ∀ t : Fin grid0.N, win0_2.index t 0 = (grid0.coords t 0).val ∧ win0_2.index t 1 = 0 := by decide +kernel
theorem index_3 : ∀ t : Fin grid0.N, win0_3.index t 0 = (grid0.coords t 0).val ∧ win0_3.index t 1 = 0 := by decide +kernel

variable (t : Fin cfg0.N) (r q : Fin 1024)

/-- Row `r` of point `t`'s block. -/
abbrev rowAt : Fin 8192 := ⟨1024 * (grid0.coords t 0).val + r.val, by have h : (grid0.coords t 0).val < 8 := (grid0.coords t 0).isLt; omega⟩

theorem blk_0 (j : Fin 2816) : iblk m c 0 t (ix2 r j) = act m c (ix2 (rowAt t r) j) := by
  have e : (win0_0.blk t).view.emb (ix2 r j) = ix2 (rowAt t r) j := by
    funext a
    apply Fin.ext
    match a with
    | ⟨0, _⟩ => blk_simp; rw [(index_0 t).1]; exact congrArg (· + (r).val) (mul_comm _ _)
    | ⟨1, _⟩ => blk_simp; rw [(index_0 t).2]; simp
  unfold iblk
  rw [View.read_apply]
  exact (cast_eq rfl _).trans ((congrArg (V m c main_v0) e).trans (v0_at m c _ _))

theorem blk_1 (j : Fin 2816) : iblk m c 1 t (ix2 j q) = wd m c (ix2 j q) := by
  have e : (win0_1.blk t).view.emb (ix2 j q) = ix2 j q := by
    funext a
    apply Fin.ext
    match a with
    | ⟨0, _⟩ => blk_simp; rw [(index_1 t).1]; simp
    | ⟨1, _⟩ => blk_simp; rw [(index_1 t).2]; simp
  unfold iblk
  rw [View.read_apply]
  exact (cast_eq rfl _).trans ((congrArg (V m c main_v1) e).trans (v1_at m c _ _))

theorem blk_2 : iblk m c 2 t (ix2 r q) = inp m c (ix2 (rowAt t r) q) := by
  have e : (win0_2.blk t).view.emb (ix2 r q) = ix2 (rowAt t r) q := by
    funext a
    apply Fin.ext
    match a with
    | ⟨0, _⟩ => blk_simp; rw [(index_2 t).1]; exact congrArg (· + (r).val) (mul_comm _ _)
    | ⟨1, _⟩ => blk_simp; rw [(index_2 t).2]; simp
  unfold iblk
  rw [View.read_apply]
  exact (cast_eq rfl _).trans ((congrArg (V m c main_arg2) e).trans (congrFun (V_main_arg2 m c) _))

/-- What a point leaves in the result's block. -/
theorem total_at : out0_3 (F := Ideal) (iblk m c 0 t) (iblk m c 1 t) (iblk m c 2 t) (ix2 r q) = total m c (rowAt t r) q := by
  refine (congrFun (out3 _ _ _) _).trans ((pay1_at _ _ _ r q).trans ?_)
  exact congrArg₂ (· + ·) (blk_2 m c t r q) (congrArg (· * _) (Finset.sum_congr rfl fun j _ => congrArg₂ (· * ·) (blk_0 m c t r j) (blk_1 m c t q j)))

/-- The result array. -/
theorem arr_y : (dats m 0 c).arrAt 3 cfg0.N = fun i : S8192x1024.Idx => total m c (i 0) (i 1) := by
  refine (dats m 0 c).arrAt_eq_of_covers 3 _ (by decide +kernel) fun t _ y => ?_
  have e : (win0_3.blk t).view.emb (y) = ix2 (rowAt t (y 0)) (y 1) := by
    funext a
    apply Fin.ext
    match a with
    | ⟨0, _⟩ => blk_simp; rw [(index_3 t).1]; exact congrArg (· + (y 0).val) (mul_comm _ _)
    | ⟨1, _⟩ => blk_simp; rw [(index_3 t).2]; simp
  blk_simp
  rw [after0_3, e]
  exact (congrArg (out0_3 _ _ _) (eq_ix2 y)).trans (total_at m c t (y 0) (y 1))

end

end Cert.Kernel7Ideal.Down

namespace Cert.Reference7Ideal.Down
open Cert.Reference7Ideal.Gen Cert.Rows

/-- The reference's composed term, at an index. -/
theorem result (s : FVec Ideal S8192x2816 .f32) (w : FVec Ideal S2816x1024 .f32) (x : FVec Ideal S8192x1024 .f32) (t : Fin 8192) (l : Fin 1024) :
    (addf x (mulf (broadcastInDim S8192x1024 ![] bcast_S_S8192x1024 (constant S_ .f32 0x3F000000#32)) (Host.dotGeneral dot_S8192x2816_S2816x1024_S8192x1024_1_0_0_1_n_n none s w)) : FVec Ideal S8192x1024 .f32) (ix2 t l)
      = (x (ix2 t l) + (∑ j, s (ix2 t j) * w (ix2 j l)) * ((1 / 2 : ℝ) : EReal) : EReal) := by
  rw [mul_comm (∑ j, (s (ix2 t j) * w (ix2 j l) : EReal))]
  pointwise [half]

end Cert.Reference7Ideal.Down

namespace Cert.Proof

/-- The block's output: no condition on the arguments. -/
theorem residual : @Cert.algebraic_Kernel7Ideal_Reference7Ideal Kernel7Ideal.Gen.facts Reference7Ideal.Gen.facts := by
  intro m g m' g' _ e
  refine ⟨fun c => (Kernel7Ideal.Gen.dats m 0 c).arrAt 3 Kernel7Ideal.cfg0.N, Kernel7Ideal.Value.run_blocks m g, (θ_run _ _ _).mono (fun r h c => ⟨(h c).1.trans ?_, (h c).2⟩) (Reference7Ideal.Value.run m' g')⟩
  refine Eq.trans ?_ (Kernel7Ideal.Down.arr_y m c).symm
  rw [(e c).1, (e c).2.1, (e c).2.2]
  refine funext fun (y : (⟨2, ![8192, 1024]⟩ : Shape).Idx) => ?_
  obtain ⟨t, l, rfl⟩ : ∃ t l, y = ix2 t l := ⟨_, _, eq_ix2 y⟩
  exact Reference7Ideal.Down.result _ _ _ t l

end Cert.Proof

end
-- ==== Proof.NormForward.lean ====
/- The normalised rows: kernel and reference agree on every memory. -/
module

public import proofs.«01_k».proof.Defs
public import proofs.«01_k».proof.Proof.NormRow
public import proofs.«01_k».proof.Proof.Gen.Kernel8Ideal.Value
public import proofs.«01_k».proof.Proof.Gen.Reference8Ideal.Run
public import Idealize.ShloMosaic.Lib.StableHlo.ReadAt
public import Idealize.ShloMosaic.Lib.Pipeline.ValueKit

@[expose] public section

set_option maxRecDepth 16384

noncomputable section

open Idealize.ShloMosaic Idealize.ShloMosaic.TcCoe Idealize.ShloMosaic.Tactic Idealize.SL.Sem

namespace Cert.Kernel8Ideal.Norm
open Cert.Kernel8Ideal.Gen Cert.Rows

theorem hz : (![0, 0] : Fin 2 → Nat) = fun _ => 0 := funext fun a => by fin_cases a <;> rfl

section
variable (x : FVec Ideal S1024x1024 .f32) (g : FVec Ideal S1x1024 .f32) (r q : Fin 1024)

theorem pay1_at : k0_pay1 (F := Ideal) x g (ix2 r q) = (x (ix2 r q) * scale (fun k => x (ix2 r k)) * g (ix2 0 q) : EReal) := by
  pointwise [k0_pay1]
  rfl
theorem out2 : out0_2 (F := Ideal) x g = k0_pay1 (F := Ideal) x g := by
  unfold out0_2 r0_0 r0_1
  rw [View.canon_unit_zero hz]
  simp only [View.ld_unit_zero (S := S1024x1024) hz, View.ld_unit_zero (S := S1x1024) hz]
end

section
variable (m : (ℓ : Loc nD τ sig) → Buf (Elt Ideal) ℓ) (c : Dev nD)

/-- The arguments the launch reads: the rows and the gain. -/
abbrev inp : FVec Ideal S8192x1024 .f32 := m ((c : Thread nD τ).loc main_arg0)
abbrev gain : FVec Ideal S1024 .f32 := m ((c : Thread nD τ).loc main_arg1)

/-- The result at an index. -/
def normed (t : Fin 8192) (l : Fin 1024) : EReal := inp m c (ix2 t l) * scale (fun k => inp m c (ix2 t k)) * gain m c (ix1 l)

theorem v0_at (l : Fin 1024) : V m c main_v0 (ix2 0 l) = gain m c (ix1 l) := by
  unfold V
  after_reads_at

theorem index_0 : ∀ t : Fin grid0.N, win0_0.index t 0 = t.val ∧ win0_0.index t 1 = 0 := by decide +kernel
theorem index_1 : ∀ t : Fin grid0.N, win0_1.index t 0 = 0 ∧ win0_1.index t 1 = 0 := by decide +kernel
theorem index_2 : ∀ t : Fin grid0.N, win0_2.index t 0 = t.val ∧ win0_2.index t 1 = 0 := by decide +kernel

variable (t : Fin cfg0.N) (r q : Fin 1024)

theorem N8 : cfg0.N = 8 := N_0
/-- Row `r` of point `t`'s block. -/
abbrev rowAt : Fin 8192 := ⟨1024 * t.val + r.val, by have h : t.val < 8 := lt_of_lt_of_eq t.isLt N8; omega⟩

theorem blk_0 : iblk m c 0 t (ix2 r q) = inp m c (ix2 (rowAt t r) q) := by
  have e : (win0_0.blk t).view.emb (ix2 r q) = ix2 (rowAt t r) q := by
    funext a
    apply Fin.ext
    match a with
    | ⟨0, _⟩ => blk_simp; rw [(index_0 t).1]; exact congrArg (· + (r).val) (mul_comm _ _)
    | ⟨1, _⟩ => blk_simp; rw [(index_0 t).2]; simp
  unfold iblk
  rw [View.read_apply]
  exact (cast_eq rfl _).trans ((congrArg (V m c main_arg0) e).trans (congrFun (V_main_arg0 m c) _))

theorem blk_1 : iblk m c 1 t (ix2 0 q) = gain m c (ix1 q) := by
  have e : (win0_1.blk t).view.emb (ix2 0 q) = ix2 0 q := by
    funext a
    apply Fin.ext
    match a with
    | ⟨0, _⟩ => blk_simp; rw [(index_1 t).1]; simp
    | ⟨1, _⟩ => blk_simp; rw [(index_1 t).2]; simp
  unfold iblk
  rw [View.read_apply]
  exact (cast_eq rfl _).trans ((congrArg (V m c main_v0) e).trans (v0_at m c _))

/-- What a point leaves in the result's block. -/
theorem normed_at : out0_2 (F := Ideal) (iblk m c 0 t) (iblk m c 1 t) (ix2 r q) = normed m c (rowAt t r) q := by
  refine (congrFun (out2 _ _) _).trans ((pay1_at _ _ r q).trans ?_)
  rw [blk_0, blk_1, show (fun k => iblk m c 0 t (ix2 r k)) = fun k => inp m c (ix2 (rowAt t r) k) from funext fun k => blk_0 m c t r k]
  rfl

/-- The result array. -/
theorem arr_h : (dats m 0 c).arrAt 2 cfg0.N = fun i : S8192x1024.Idx => normed m c (i 0) (i 1) := by
  refine (dats m 0 c).arrAt_eq_of_covers 2 _ (by decide +kernel) fun t _ y => ?_
  have e : (win0_2.blk t).view.emb (y) = ix2 (rowAt t (y 0)) (y 1) := by
    funext a
    apply Fin.ext
    match a with
    | ⟨0, _⟩ => blk_simp; rw [(index_2 t).1]; exact congrArg (· + (y 0).val) (mul_comm _ _)
    | ⟨1, _⟩ => blk_simp; rw [(index_2 t).2]; simp
  blk_simp
  rw [after0_2, e]
  exact (congrArg (out0_2 _ _) (eq_ix2 y)).trans (normed_at m c t (y 0) (y 1))

end

end Cert.Kernel8Ideal.Norm

namespace Cert.Reference8Ideal.Norm
open Cert.Reference8Ideal.Gen Cert.Rows

/-- The reference's composed term. -/
def sNorm (x : FVec Ideal S8192x1024 .f32) (g : FVec Ideal S1024 .f32) : FVec Ideal S8192x1024 .bf16 :=
  truncf .bf16 (mulf (mulf x (broadcastInDim S8192x1024 ![0, 1] bcast_S8192x1_S8192x1024_0_1 (Host.rsqrt (addf (Host.divf (broadcastInDim S8192x1 ![0] bcast_S8192_S8192x1_0 (Host.reduceAdd (mulf x x) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (broadcastInDim S8192x1024 ![0, 1] bcast_S1x1024_S8192x1024_0_1 (broadcastInDim S1x1024 ![1] bcast_S1024_S1x1024_1 g))) bitsLt_bf16_f32

theorem result (x : FVec Ideal S8192x1024 .f32) (g : FVec Ideal S1024 .f32) (t : Fin 8192) (l : Fin 1024) :
    sNorm x g (ix2 t l) = (x (ix2 t l) * scale (fun k => x (ix2 t k)) * g (ix1 l) : EReal) := by
  pointwise [sNorm]
  rfl

end Cert.Reference8Ideal.Norm

namespace Cert.Proof

/-- The normalised rows: no condition on the arguments. -/
theorem normalised : @Cert.algebraic_Kernel8Ideal_Reference8Ideal Kernel8Ideal.Gen.facts Reference8Ideal.Gen.facts := by
  intro m g m' g' _ e
  refine ⟨fun c => (Kernel8Ideal.Gen.dats m 0 c).arrAt 2 Kernel8Ideal.cfg0.N, Kernel8Ideal.Value.run_blocks m g, (θ_run _ _ _).mono (fun r h c => ⟨(h c).1.trans ?_, (h c).2⟩) (Reference8Ideal.Value.run m' g')⟩
  refine Eq.trans ?_ (Kernel8Ideal.Norm.arr_h m c).symm
  rw [(e c).1, (e c).2]
  refine funext fun (y : (⟨2, ![8192, 1024]⟩ : Shape).Idx) => ?_
  obtain ⟨t, l, rfl⟩ : ∃ t l, y = ix2 t l := ⟨_, _, eq_ix2 y⟩
  exact Reference8Ideal.Norm.result _ _ t l

end Cert.Proof

end
-- ==== Proof.ForgetSum.lean ====
/- Running sums from the last row backwards, and the derivative of the log-sigmoid, on the extended reals. -/
module

public import proofs.«01_k».proof.Proof.GateBack
public import proofs.«01_k».proof.Proof.NormRow

@[expose] public section

set_option maxRecDepth 16384

noncomputable section

namespace Cert.Rows

open Idealize.ShloMosaic Idealize.ShloMosaic.Tactic

/-- A column continued by nothing past its end. -/
def ext {N : ℕ} (f : Fin N → EReal) (n : ℕ) : EReal := if h : n < N then f ⟨n, h⟩ else 0

theorem ext_val {N : ℕ} (f : Fin N → EReal) (i : Fin N) : ext f i.val = f i := dif_pos i.isLt
theorem ext_past {N : ℕ} (f : Fin N → EReal) (n : ℕ) (h : N ≤ n) : ext f n = 0 := dif_neg (by omega)

/-- The sum from row `n` to the end. -/
def later {N : ℕ} (f : Fin N → EReal) (n : ℕ) : EReal := ∑ k ∈ Finset.Ico n N, ext f k

theorem later_end {N : ℕ} (f : Fin N → EReal) : later f N = 0 := by
  unfold later
  rw [Finset.Ico_self, Finset.sum_empty]

/-- As many terms as the column is long reach its end from everywhere. -/
theorem reach {N : ℕ} (f : Fin N → EReal) (n : ℕ) (hn : n ≤ N) : ∑ j ∈ Finset.range N, ext f (n + j) = later f n := by
  unfold later
  rw [Finset.sum_Ico_eq_sum_range]
  refine (Finset.sum_subset (fun j hj => Finset.mem_range.mpr ?_) fun j _ hj => ext_past _ _ ?_).symm
  · have := Finset.mem_range.mp hj
    omega
  · have : ¬ j < N - n := fun h => hj (Finset.mem_range.mpr h)
    omega

/-- One doubling: twice as many terms. -/
theorem double (F : ℕ → EReal) (s n : ℕ) : ∑ j ∈ Finset.range s, F (n + j) + ∑ j ∈ Finset.range s, F (n + s + j) = ∑ j ∈ Finset.range (s + s), F (n + j) := by
  rw [Finset.sum_range_add]
  simp only [add_assoc]

/-- Block `k` of a column of 8192 rows. -/
abbrev blockOf (f : Fin 8192 → EReal) (k : Fin 16) : Fin 512 → EReal := fun r => f (row16 k r)

/-- From a row to the end: to the end of its block, and on from the next. -/
theorem later_split (f : Fin 8192 → EReal) (k : Fin 16) (r : ℕ) (hr : r ≤ 512) :
    later f (512 * k.val + r) = later (blockOf f k) r + later f (512 * (k.val + 1)) := by
  have hk := k.isLt
  unfold later
  rw [← Finset.sum_Ico_consecutive (ext f) (m := 512 * k.val + r) (n := 512 * (k.val + 1)) (k := 8192) (by omega) (by omega),
    show 512 * k.val + r = r + 512 * k.val by omega, show 512 * (k.val + 1) = 512 + 512 * k.val by omega, ← Finset.sum_Ico_add' (ext f)]
  refine congrArg (· + _) (Finset.sum_congr rfl fun j hj => ?_)
  have hj := (Finset.mem_Ico.mp hj).2
  unfold ext
  rw [dif_pos (by omega), dif_pos hj]
  exact congrArg f (Fin.ext (by show j + 512 * k.val = 512 * k.val + j; omega))

/-- The sixteen blocks added from the last to the first. -/
theorem sum_back (f : Fin 8192 → EReal) : ∑ t, f t = ∑ k ∈ Finset.range (15 + 1), blockSum f (15 - k) :=
  (sum_sixteen f).trans (Finset.sum_range_reflect (blockSum f) 16).symm

/-- The logarithm of one plus the exponential. -/
def softplus (y : EReal) : EReal := max y 0 + Ideal.log1p (Ideal.exp (-(max y (-y))))

/-- An infinity taken as zero. -/
def cut (y : EReal) : EReal := if y = ⊤ then 0 else y

theorem softplus_top : softplus ⊤ = ⊤ := by
  unfold softplus
  rw [max_eq_left le_top, max_eq_left le_top, EReal.neg_top, show Ideal.exp ⊥ = 0 from rfl]
  unfold Ideal.log1p
  rw [add_zero, ← EReal.coe_one]
  show (⊤ : EReal) + (if (1 : ℝ) ≤ 0 then ⊥ else (Real.log 1 : EReal)) = ⊤
  rw [if_neg (by norm_num), EReal.top_add_coe]
theorem softplus_bot : softplus ⊥ = 0 := by
  unfold softplus
  rw [max_eq_right bot_le, max_eq_right bot_le, EReal.neg_bot, EReal.neg_top, show Ideal.exp ⊥ = 0 from rfl]
  unfold Ideal.log1p
  rw [add_zero, ← EReal.coe_one, zero_add]
  show (if (1 : ℝ) ≤ 0 then ⊥ else (Real.log 1 : EReal)) = 0
  rw [if_neg (by norm_num), Real.log_one, EReal.coe_zero]
theorem softplus_real (y : ℝ) : softplus y = ((max y 0 + Real.log (1 + Real.exp (-|y|)) : ℝ) : EReal) := by
  have e : ∀ a b : ℝ, max (a : EReal) b = ((max a b : ℝ) : EReal) := fun a b => (EReal.coe_strictMono.monotone.map_max).symm
  unfold softplus
  rw [← EReal.coe_neg, ← EReal.coe_zero, e, e, ← EReal.coe_neg,
    show Ideal.exp ((-(max y (-y)) : ℝ) : EReal) = ((Real.exp (-(max y (-y))) : ℝ) : EReal) from rfl]
  unfold Ideal.log1p
  have h : ¬ (1 + Real.exp (-(max y (-y)))) ≤ 0 := not_le.mpr (by positivity)
  rw [← EReal.coe_one, ← EReal.coe_add,
    show Ideal.log ((1 + Real.exp (-(max y (-y))) : ℝ) : EReal) = if (1 + Real.exp (-(max y (-y)))) ≤ 0 then ⊥ else ((Real.log (1 + Real.exp (-(max y (-y)))) : ℝ) : EReal) from rfl,
    if_neg h, ← EReal.coe_add]
  rfl

/-- The derivative of the log-sigmoid as the reference has it, the exponential of a difference, is the logistic function at every extended real. -/
theorem slope (y : EReal) : Ideal.exp (cut y - cut (softplus y)) = logistic y := by
  induction y with
  | top =>
    rw [softplus_top, logistic_top, show cut ⊤ = 0 from if_pos rfl, ← EReal.coe_zero, ← EReal.coe_sub, sub_zero]
    show ((Real.exp 0 : ℝ) : EReal) = 1
    rw [Real.exp_zero, EReal.coe_one]
  | bot =>
    rw [softplus_bot, logistic_bot, show cut ⊥ = ⊥ from if_neg (by decide), show cut 0 = 0 by simp [cut], EReal.bot_sub]
    rfl
  | coe y =>
    rw [softplus_real, show cut (y : EReal) = y from if_neg (EReal.coe_ne_top y), show cut ((max y 0 + Real.log (1 + Real.exp (-|y|)) : ℝ) : EReal) = _ from if_neg (EReal.coe_ne_top _),
      ← EReal.coe_sub]
    unfold logistic
    have h : (0 : ℝ) < 1 + Real.exp (-y) := by positivity
    rw [← EReal.coe_neg, show Ideal.exp ((-y : ℝ) : EReal) = ((Real.exp (-y) : ℝ) : EReal) from rfl, ← EReal.coe_one, ← EReal.coe_add]
    unfold Ideal.div
    rw [if_neg (by exact_mod_cast h.ne'), ← EReal.coe_inv, ← EReal.coe_mul, one_mul]
    show ((Real.exp (y - (max y 0 + Real.log (1 + Real.exp (-|y|)))) : ℝ) : EReal) = _
    congr 1
    rw [← sub_sub, Real.exp_sub, Real.exp_log (by positivity)]
    rcases le_total 0 y with h0 | h0
    · rw [max_eq_left h0, abs_of_nonneg h0, sub_self, Real.exp_zero, one_div]
    · rw [max_eq_right h0, abs_of_nonpos h0, sub_zero, neg_neg, Real.exp_neg]
      have := Real.exp_pos y
      field_simp
      ring

/-- The logits' gradient on the 128 lanes: a head's running sum times the slope at its logit, nothing past the heads. -/
def forgetGrad (dF z : Fin 8192 → Fin 8 → EReal) (b : Fin 8 → EReal) (q : Fin 128) (t : Fin 8192) : EReal :=
  if h : q.val < 8 then later (fun s => dF s ⟨q.val, h⟩) t.val * logistic (-(z t ⟨q.val, h⟩ + b ⟨q.val, h⟩)) else 0

end Cert.Rows

end
-- ==== Proof.ForgetGrad.lean ====
/- The forget gates' gradient: what the kernel leaves in its two result arrays, at an index. -/
module

public import proofs.«01_k».proof.Proof.ForgetSum
public import proofs.«01_k».proof.Proof.Gen.Kernel9Ideal.Value
public import Idealize.ShloMosaic.Lib.StableHlo.ReadAt
public import Idealize.ShloMosaic.Lib.Pipeline.ValueKit
public import Idealize.ShloMosaic.Lib.KernelVsHost

@[expose] public section

set_option maxRecDepth 16384

noncomputable section

namespace Cert.Kernel9Ideal.Gate

open Idealize.ShloMosaic Idealize.ShloMosaic.TcCoe Idealize.ShloMosaic.Tactic Idealize.SL.Sem
open Cert.Kernel9Ideal.Gen Cert.Rows

theorem N16 : cfg0.N = 16 := N_0
theorem hz : (![0, 0] : Fin 2 → Nat) = fun _ => 0 := funext fun a => by fin_cases a <;> rfl

section Body
variable {F : FTy → Type} [FloatOps F]

/-- The lane of an entry. -/
abbrev lane : IVec S512x128 32 := iota .tc S512x128 32 [1] iota_S512x128_d1_w32

/-- The heads' columns, one a lane. -/
def heads (v : Vec F S512x512 .f32) : FVec F S512x128 .f32 :=
  select (cmpi .eq lane (broadcast S512x128 7#32))
    (broadcastTo S512x128 (shapeCast S512x1 (extractStridedSlice S512x1 ![0, 448] (k0_pay3 v) slices_S512x512_o0_448_S512x1) shapeCasts_S512x1_S512x1) broadcasts_S512x1_S512x128)
    (select k0_pay5 (broadcastTo S512x128 (shapeCast S512x1 (k0_pay6 v) shapeCasts_S512x1_S512x1) broadcasts_S512x1_S512x128) (k0_pay4 v))

/-- One doubling step: an entry and the one `sh` rows on, nothing past the block. -/
def shift (sh rot : BitVec 32) (x : FVec F S512x128 .f32) : FVec F S512x128 .f32 :=
  addf x (select (cmpi .slt (addi (iota .tc S512x128 32 [0] iota_S512x128_d0_w32) (broadcast S512x128 sh)) (broadcast S512x128 512#32))
    (dynamicRotate 0 rot none x rotates_S512x128_d0) (broadcast S512x128 (Scalar.ofBits .f32 0x00000000#32)))

/-- The running sum within a block, as the kernel names it. -/
def scan (v : Vec F S512x512 .f32) : FVec F S512x128 .f32 :=
  k0_pay8 (iota .tc S512x128 32 [0] iota_S512x128_d0_w32) (k0_pay7 (k0_pay3 v) lane (k0_pay4 v) k0_pay5 (k0_pay6 v)) 16#32

/-- It is nine doubling steps. -/
theorem scan_eq (v : Vec F S512x512 .f32) : scan v = shift 256#32 256#32 (shift 128#32 384#32 (shift 64#32 448#32 (shift 32#32 480#32 (shift 16#32 496#32
    (shift 8#32 504#32 (shift 4#32 508#32 (shift 2#32 510#32 (shift 1#32 511#32 (heads v))))))))) := rfl

variable (c : Dev nD) (i : grid0.Coords) (a1 : Memref sig .tc .vmem S512x512 .f32) (h1 : a1.IsWhole) (a2 : Memref sig .tc .vmem S512x128 .f32) (h2 : a2.IsWhole)
  (a3 : Memref sig .tc .vmem S1x128 .f32) (h3 : a3.IsWhole) (a4 : Memref sig .tc .vmem S512x128 .bf16) (h4 : a4.IsWhole) (a5 : Memref sig .tc .vmem S1x128 .f32) (h5 : a5.IsWhole)
  (a6 : Memref sig .tc .vmem S1x128 .f32) (h6 : a6.IsWhole)
  (x0 : Vec F S512x512 .f32) (x1 : Vec F S512x128 .f32) (x2 : Vec F S1x128 .f32) (p s : Vec F S1x128 .f32)

/-- The first point starts the carried row at zero: its block of the logits' gradient, its part of the bias's, the row it leaves. -/
theorem first_z (hA hB hC) : out0_A_3 c i a1 h1 a2 h2 a3 h3 a4 h4 a5 h5 a6 h6 hA hB hC x0 x1 x2 = k0_pay12 lane (scan x0) k0_pay2 x1 x2 := by
  unfold out0_A_3
  rw [View.read_writes_eq_canon _ _ _ (cover0_A_3 c i a1 h1 a2 h2 a3 h3 a4 h4 a5 h5 a6 h6 hA hB hC x0 x1 x2)]
  unfold kernelRun0_A
  dsimp only
  sl_unfold_words
  rw [View.canon_unit_zero hz]
  unfold scan
  simp only [View.readAt_eq_ld, h1.read_unread, h2.read_unread, h3.read_unread, View.readCov_unit_zero (S := S1x128) _ hz,
    View.ld_unit_zero (S := S512x512) hz, View.ld_unit_zero (S := S512x128) hz, View.ld_unit_zero (S := S1x128) hz]
theorem first_b (hA hB hC) : out0_A_4 c i a1 h1 a2 h2 a3 h3 a4 h4 a5 h5 a6 h6 hA hB hC x0 x1 x2 = k0_pay13 lane (scan x0) k0_pay2 x1 x2 := by
  unfold out0_A_4
  rw [View.read_writes_eq_canon _ _ _ (cover0_A_4 c i a1 h1 a2 h2 a3 h3 a4 h4 a5 h5 a6 h6 hA hB hC x0 x1 x2)]
  unfold kernelRun0_A
  dsimp only
  sl_unfold_words
  rw [View.canon_unit_zero hz]
  unfold scan
  simp only [View.readAt_eq_ld, h1.read_unread, h2.read_unread, h3.read_unread, View.readCov_unit_zero (S := S1x128) _ hz,
    View.ld_unit_zero (S := S512x512) hz, View.ld_unit_zero (S := S512x128) hz, View.ld_unit_zero (S := S1x128) hz]
theorem first_c (hA hB hC) : sout0_A_0 c i a1 h1 a2 h2 a3 h3 a4 h4 a5 h5 a6 h6 hA hB hC x0 x1 x2 = k0_pay10 (scan x0) k0_pay2 := by
  unfold sout0_A_0
  rw [View.read_writes_eq_canon _ _ _ (scover0_A_0 c i a1 h1 a2 h2 a3 h3 a4 h4 a5 h5 a6 h6 hA hB hC x0 x1 x2)]
  unfold kernelRun0_A
  dsimp only
  sl_unfold_words
  rw [View.canon_cons_unit_zero (S := S1x128) hz]
  unfold scan
  simp only [View.readAt_eq_ld, h1.read_unread, View.readCov_unit_zero (S := S1x128) _ hz, View.ld_unit_zero (S := S512x512) hz]

/-- A later point takes the carried row from the point before and adds its part of the bias's gradient to what is there. -/
theorem next_z (hA hB hC) : out0_B_3 c i a1 h1 a2 h2 a3 h3 a4 h4 a5 h5 a6 h6 hA hB hC x0 x1 x2 p s = k0_pay12 lane (scan x0) s x1 x2 := by
  unfold out0_B_3
  rw [View.read_writes_eq_canon _ _ _ (cover0_B_3 c i a1 h1 a2 h2 a3 h3 a4 h4 a5 h5 a6 h6 hA hB hC x0 x1 x2 p s)]
  unfold kernelRun0_B
  dsimp only
  sl_unfold_words
  rw [View.canon_unit_zero hz]
  unfold scan
  simp only [View.readAt_eq_ld, h1.read_unread, h2.read_unread, h3.read_unread, h6.read_unread,
    View.ld_unit_zero (S := S512x512) hz, View.ld_unit_zero (S := S512x128) hz, View.ld_unit_zero (S := S1x128) hz]
theorem next_b (hA hB hC) : out0_B_4 c i a1 h1 a2 h2 a3 h3 a4 h4 a5 h5 a6 h6 hA hB hC x0 x1 x2 p s = k0_pay1 (k0_pay13 lane (scan x0) s x1 x2) p := by
  unfold out0_B_4
  rw [View.read_writes_eq_canon _ _ _ (cover0_B_4 c i a1 h1 a2 h2 a3 h3 a4 h4 a5 h5 a6 h6 hA hB hC x0 x1 x2 p s)]
  unfold kernelRun0_B
  dsimp only
  sl_unfold_words
  rw [View.canon_unit_zero hz]
  unfold scan
  simp only [View.readAt_eq_ld, h1.read_unread, h2.read_unread, h3.read_unread, h5.read_unread, h6.read_unread,
    View.ld_unit_zero (S := S512x512) hz, View.ld_unit_zero (S := S512x128) hz, View.ld_unit_zero (S := S1x128) hz]
theorem next_c (hA hB hC) : sout0_B_0 c i a1 h1 a2 h2 a3 h3 a4 h4 a5 h5 a6 h6 hA hB hC x0 x1 x2 p s = k0_pay10 (scan x0) s := by
  unfold sout0_B_0
  rw [View.read_writes_eq_canon _ _ _ (scover0_B_0 c i a1 h1 a2 h2 a3 h3 a4 h4 a5 h5 a6 h6 hA hB hC x0 x1 x2 p s)]
  unfold kernelRun0_B
  dsimp only
  sl_unfold_words
  rw [View.canon_unit_zero hz]
  unfold scan
  simp only [View.readAt_eq_ld, h1.read_unread, h6.read_unread, View.ld_unit_zero (S := S512x512) hz, View.ld_unit_zero (S := S1x128) hz]

end Body

theorem pick_eq {α : Type} (n k : ℕ) (hn : n < 2 ^ 32) (hk : k < 2 ^ 32) (a b : α) :
    Scalar.select (IntOp.cmpi .eq (BitVec.ofNat 32 n) (BitVec.ofNat 32 k)) a b = if n = k then a else b := by
  rw [WordCmp.cmpi_eq_ofNat hn hk]
  unfold Scalar.select
  by_cases h : n = k <;> simp [h]
theorem pick_lt {α : Type} (n k : ℕ) (hn : n < 2 ^ 31) (hk : k < 2 ^ 31) (a b : α) :
    Scalar.select (IntOp.cmpi .slt (BitVec.ofNat 32 n) (BitVec.ofNat 32 k)) a b = if n < k then a else b := by
  rw [WordCmp.cmpi_slt_ofNat hn hk]
  unfold Scalar.select
  by_cases h : n < k <;> simp [h]

theorem shift_at (s : ℕ) (hs : s ≤ 256) (h0 : 0 < s) (x : FVec Ideal S512x128 .f32) (r : Fin 512) (q : Fin 128) :
    shift (F := Ideal) (BitVec.ofNat 32 s) (BitVec.ofNat 32 (512 - s)) x (ix2 r q) = (x (ix2 r q) + ext (fun k => x (ix2 k q)) (r.val + s) : EReal) := by
  have hr := r.isLt
  pointwise [shift]
  rw [show IntOp.addi (BitVec.ofNat 32 r.val) (BitVec.ofNat 32 s) = BitVec.ofNat 32 (r.val + s) from (BitVec.ofNat_add _ _).symm, pick_lt _ _ (by omega) (by omega)]
  unfold ext
  by_cases h : r.val + s < 512
  · rw [if_pos h, dif_pos h]
    refine congrArg (fun k => x (ix2 r q) + x (ix2 k q)) (Fin.ext ?_)
    show (r.val + 512 - (BitVec.ofNat 32 (512 - s)).toNat % 512) % 512 = r.val + s
    rw [BitVec.toNat_ofNat]
    omega
  · rw [if_neg h, dif_neg h]

/-- The column of a lane after a step, continued past the block. -/
theorem shift_ext (s : ℕ) (hs : s ≤ 256) (h0 : 0 < s) (x : FVec Ideal S512x128 .f32) (q : Fin 128) (n : ℕ) :
    ext (fun k => shift (F := Ideal) (BitVec.ofNat 32 s) (BitVec.ofNat 32 (512 - s)) x (ix2 k q)) n =
      ext (fun k => x (ix2 k q)) n + ext (fun k => x (ix2 k q)) (n + s) := by
  by_cases h : n < 512
  · have e : ∀ f : Fin 512 → EReal, ext f n = f ⟨n, h⟩ := fun f => dif_pos h
    rw [e, e]
    exact shift_at s hs h0 x ⟨n, h⟩ q
  · rw [ext_past _ n (by omega), ext_past _ n (by omega), ext_past _ (n + s) (by omega), add_zero]

/-- A column that holds sums of `s` terms holds sums of twice as many after the step by `s`. -/
theorem shift_sum (s : ℕ) (hs : s ≤ 256) (h0 : 0 < s) (x : FVec Ideal S512x128 .f32) (q : Fin 128) (F : ℕ → EReal)
    (hx : ∀ n, ext (fun k => x (ix2 k q)) n = ∑ j ∈ Finset.range s, F (n + j)) (n : ℕ) :
    ext (fun k => shift (F := Ideal) (BitVec.ofNat 32 s) (BitVec.ofNat 32 (512 - s)) x (ix2 k q)) n = ∑ j ∈ Finset.range (s + s), F (n + j) := by
  rw [shift_ext s hs h0, hx, hx, double]

/-- The running sum within a block. -/
theorem scan_at (v : FVec Ideal S512x512 .f32) (r : Fin 512) (q : Fin 128) :
    scan (F := Ideal) v (ix2 r q) = later (fun k : Fin 512 => heads (F := Ideal) v (ix2 k q)) r.val := by
  have e1 := shift_sum 1 (by omega) (by omega) (heads (F := Ideal) v) q (ext fun k : Fin 512 => heads (F := Ideal) v (ix2 k q)) fun n => by simp
  have e2 := shift_sum 2 (by omega) (by omega) _ q _ e1
  have e3 := shift_sum 4 (by omega) (by omega) _ q _ e2
  have e4 := shift_sum 8 (by omega) (by omega) _ q _ e3
  have e5 := shift_sum 16 (by omega) (by omega) _ q _ e4
  have e6 := shift_sum 32 (by omega) (by omega) _ q _ e5
  have e7 := shift_sum 64 (by omega) (by omega) _ q _ e6
  have e8 := shift_sum 128 (by omega) (by omega) _ q _ e7
  have e9 := shift_sum 256 (by omega) (by omega) _ q _ e8 r.val
  rw [ext_val, reach _ _ r.isLt.le] at e9
  rw [scan_eq]
  exact e9

theorem heads_at (v : FVec Ideal S512x512 .f32) (r : Fin 512) (q : Fin 128) :
    heads (F := Ideal) v (ix2 r q) = if h : q.val < 8 then v (ix2 r ⟨64 * q.val, by omega⟩) else 0 := by
  have hq := q.isLt
  pointwise [heads, k0_pay5, k0_pay6, k0_pay4, k0_pay3]
  have hp : ∀ k < 8, ∀ a b : EReal, Scalar.select (IntOp.cmpi .eq (BitVec.ofNat 32 q.val) (BitVec.ofNat 32 k)) a b = if q.val = k then a else b :=
    fun k hk a b => pick_eq _ _ (by omega) (by omega) a b
  rw [hp 7 (by omega), hp 6 (by omega), hp 5 (by omega), hp 4 (by omega), hp 3 (by omega), hp 2 (by omega), hp 1 (by omega), hp 0 (by omega)]
  by_cases h : q.val < 8
  · rw [dif_pos h]
    obtain ⟨n, hn⟩ := q
    dsimp only at h ⊢
    interval_cases n <;> rfl
  · rw [dif_neg h, if_neg (by omega), if_neg (by omega), if_neg (by omega), if_neg (by omega), if_neg (by omega), if_neg (by omega), if_neg (by omega), if_neg (by omega)]

theorem pay10_at (x : FVec Ideal S512x128 .f32) (w : FVec Ideal S1x128 .f32) (q : Fin 128) : k0_pay10 (F := Ideal) x w (ix2 0 q) = (x (ix2 0 q) + w (ix2 0 q) : EReal) := by
  pointwise [k0_pay10, k0_pay9]
theorem pay2_at (q : Fin 128) : k0_pay2 (F := Ideal) (ix2 0 q) = (0 : EReal) := by
  pointwise [k0_pay2]
theorem pay1_at (x w : FVec Ideal S1x128 .f32) (q : Fin 128) : k0_pay1 (F := Ideal) x w (ix2 0 q) = (w (ix2 0 q) + x (ix2 0 q) : EReal) := by
  pointwise [k0_pay1]
theorem pay11_at (x : FVec Ideal S512x128 .f32) (w : FVec Ideal S1x128 .f32) (z : FVec Ideal S512x128 .f32) (b : FVec Ideal S1x128 .f32) (r : Fin 512) (q : Fin 128) :
    k0_pay11 (F := Ideal) lane x w z b (ix2 r q) = if q.val < 8 then (x (ix2 r q) + w (ix2 0 q)) * logistic (-(z (ix2 r q) + b (ix2 0 q))) else (0 : EReal) := by
  have hq := q.isLt
  pointwise [k0_pay11, k0_pay9]
  rw [pick_lt _ _ (by omega) (by omega), zero_sub, zero_sub]
  rfl
theorem pay12_at (x : FVec Ideal S512x128 .f32) (w : FVec Ideal S1x128 .f32) (z : FVec Ideal S512x128 .f32) (b : FVec Ideal S1x128 .f32) (r : Fin 512) (q : Fin 128) :
    k0_pay12 (F := Ideal) lane x w z b (ix2 r q) = k0_pay11 (F := Ideal) lane x w z b (ix2 r q) := by
  pointwise [k0_pay12]
theorem pay13_at (x : FVec Ideal S512x128 .f32) (w : FVec Ideal S1x128 .f32) (z : FVec Ideal S512x128 .f32) (b : FVec Ideal S1x128 .f32) (q : Fin 128) :
    k0_pay13 (F := Ideal) lane x w z b (ix2 0 q) = (∑ r, k0_pay11 (F := Ideal) lane x w z b (ix2 r q) : EReal) := by
  pointwise [k0_pay13]

section
variable (m : (ℓ : Loc nD τ sig) → Buf (Elt Ideal) ℓ) (c : Dev nD)

/-- The arguments the launch reads. -/
abbrev dF : FVec Ideal S8192x8 .f32 := m ((c : Thread nD τ).loc main_arg0)
abbrev logits : FVec Ideal S8192x8 .f32 := m ((c : Thread nD τ).loc main_arg1)
abbrev bias : FVec Ideal S8 .f32 := m ((c : Thread nD τ).loc main_arg2)

theorem v2_at (t : Fin 8192) (q : Fin 8) : V m c main_v2 (ix2 t ⟨64 * q.val, by omega⟩) = dF m c (ix2 t q) := by
  unfold V
  after_reads_at
theorem v0_at (t : Fin 8192) (q : Fin 8) : V m c main_v0 (ix2 t ⟨768 + q.val, by omega⟩) = logits m c (ix2 t q) := by
  unfold V
  after_reads_at
theorem v4_at (q : Fin 8) : V m c main_v4 (ix2 0 ⟨q.val, by omega⟩) = bias m c (ix1 q) := by
  unfold V
  after_reads_at
theorem index_0 : ∀ t : Fin grid0.N, win0_0.index t 0 = 15 - t.val ∧ win0_0.index t 1 = 0 := by decide +kernel
theorem index_1 : ∀ t : Fin grid0.N, win0_1.index t 0 = 15 - t.val ∧ win0_1.index t 1 = 6 := by decide +kernel
theorem index_2 : ∀ t : Fin grid0.N, win0_2.index t 0 = 0 ∧ win0_2.index t 1 = 0 := by decide +kernel
theorem index_3 : ∀ t : Fin grid0.N, win0_3.index t 0 = 15 - t.val ∧ win0_3.index t 1 = 0 := by decide +kernel
theorem index_4 : ∀ t : Fin grid0.N, win0_4.index t 0 = 0 ∧ win0_4.index t 1 = 0 := by decide +kernel

/-- Point `t`'s block, counted from the last, and its row `r`. -/
abbrev blockAt (t : Fin cfg0.N) : Fin 16 := ⟨15 - t.val, by omega⟩
abbrev rowAt (t : Fin cfg0.N) (r : Fin 512) : Fin 8192 := row16 (blockAt t) r

variable (t : Fin cfg0.N)

theorem blk_0 (r : Fin 512) (q : Fin 8) : iblk m c 0 t (ix2 r ⟨64 * q.val, by omega⟩) = dF m c (ix2 (rowAt t r) q) := by
  have e : (win0_0.blk t).view.emb (ix2 r (⟨64 * q.val, by omega⟩ : Fin 512)) = ix2 (rowAt t r) (⟨64 * q.val, by omega⟩ : Fin 512) := by
    funext a
    apply Fin.ext
    match a with
    | ⟨0, _⟩ => blk_simp; rw [(index_0 t).1]; show (15 - t.val) * 512 + r.val = 512 * (15 - t.val) + r.val; omega
    | ⟨1, _⟩ => blk_simp; rw [(index_0 t).2]; simp
  unfold iblk
  rw [View.read_apply]
  exact (cast_eq rfl _).trans ((congrArg (V m c main_v2) e).trans (v2_at m c _ _))

theorem blk_1 (r : Fin 512) (q : Fin 8) : iblk m c 1 t (ix2 r ⟨q.val, by omega⟩) = logits m c (ix2 (rowAt t r) q) := by
  have e : (win0_1.blk t).view.emb (ix2 r (⟨q.val, by omega⟩ : Fin 128)) = ix2 (rowAt t r) (⟨768 + q.val, by omega⟩ : Fin 896) := by
    funext a
    apply Fin.ext
    match a with
    | ⟨0, _⟩ => blk_simp; rw [(index_1 t).1]; show (15 - t.val) * 512 + r.val = 512 * (15 - t.val) + r.val; omega
    | ⟨1, _⟩ => blk_simp; rw [(index_1 t).2]
  unfold iblk
  rw [View.read_apply]
  exact (cast_eq rfl _).trans ((congrArg (V m c main_v0) e).trans (v0_at m c _ _))

theorem blk_2 (q : Fin 8) : iblk m c 2 t (ix2 0 ⟨q.val, by omega⟩) = bias m c (ix1 q) := by
  have e : (win0_2.blk t).view.emb (ix2 0 (⟨q.val, by omega⟩ : Fin 128)) = ix2 0 (⟨q.val, by omega⟩ : Fin 128) := by
    funext a
    apply Fin.ext
    match a with
    | ⟨0, _⟩ => blk_simp; rw [(index_2 t).1]; simp
    | ⟨1, _⟩ => blk_simp; rw [(index_2 t).2]; simp
  unfold iblk
  rw [View.read_apply]
  exact (cast_eq rfl _).trans ((congrArg (V m c main_v4) e).trans (v4_at m c _))

/-- The running sum within a point's block, by the rows of the arguments. -/
theorem within (r : Fin 512) (q : Fin 8) : scan (F := Ideal) (iblk m c 0 t) (ix2 r ⟨q.val, by omega⟩) = later (blockOf (fun s => dF m c (ix2 s q)) (blockAt t)) r.val := by
  refine (scan_at (iblk m c 0 t) r _).trans (congrArg (fun f : Fin 512 → EReal => later f r.val) (funext fun k => ?_))
  exact (heads_at (iblk m c 0 t) k _).trans ((dif_pos q.isLt).trans (blk_0 m c t k q))

/-- What the three buffers hold after the point, over the carried row before it. -/
theorem at_A (h : t.val % 16 = 0) : outsAt0 m c t.val t.isLt = (k0_pay12 lane (scan (iblk m c 0 t)) (k0_pay2 (F := Ideal)) (iblk m c 1 t) (iblk m c 2 t),
    k0_pay13 lane (scan (iblk m c 0 t)) (k0_pay2 (F := Ideal)) (iblk m c 1 t) (iblk m c 2 t), k0_pay10 (scan (iblk m c 0 t)) (k0_pay2 (F := Ideal))) := by
  have hN := lt_of_lt_of_eq t.isLt N16
  rw [outsAt0_A m c t h h (by omega)]
  exact congrArg₂ Prod.mk (first_z (F := Ideal) c ..) (congrArg₂ Prod.mk (first_b (F := Ideal) c ..) (first_c (F := Ideal) c ..))
abbrev before := outsAt0 m c (t.val - 1) (Nat.lt_of_le_of_lt (Nat.sub_le _ _) t.isLt)
theorem at_B (h : ¬ t.val % 16 = 0) : outsAt0 m c t.val t.isLt = (k0_pay12 lane (scan (iblk m c 0 t)) (before m c t).2.2 (iblk m c 1 t) (iblk m c 2 t),
    k0_pay1 (k0_pay13 lane (scan (iblk m c 0 t)) (before m c t).2.2 (iblk m c 1 t) (iblk m c 2 t)) (before m c t).2.1, k0_pay10 (scan (iblk m c 0 t)) (before m c t).2.2) := by
  have hN := lt_of_lt_of_eq t.isLt N16
  rw [outsAt0_B m c t h h (by omega)]
  exact congrArg₂ Prod.mk (next_z (F := Ideal) c ..) (congrArg₂ Prod.mk (next_b (F := Ideal) c ..) (next_c (F := Ideal) c ..))

/-- The carried row a point takes: zero at the first. -/
def carried : FVec Ideal S1x128 .f32 := if t.val % 16 = 0 then k0_pay2 (F := Ideal) else (before m c t).2.2

theorem outs_z : (outsAt0 m c t.val t.isLt).1 = k0_pay12 (F := Ideal) lane (scan (iblk m c 0 t)) (carried m c t) (iblk m c 1 t) (iblk m c 2 t) := by
  unfold carried
  by_cases h : t.val % 16 = 0
  · rw [if_pos h, at_A m c t h]
  · rw [if_neg h, at_B m c t h]
theorem outs_c : (outsAt0 m c t.val t.isLt).2.2 = k0_pay10 (F := Ideal) (scan (iblk m c 0 t)) (carried m c t) := by
  unfold carried
  by_cases h : t.val % 16 = 0
  · rw [if_pos h, at_A m c t h]
  · rw [if_neg h, at_B m c t h]

/-- The carried row after point `n` is the sum from the first row of its block to the end. -/
theorem carry_at (q : Fin 8) (n : ℕ) (hn : n < cfg0.N) :
    (outsAt0 m c n hn).2.2 (ix2 0 ⟨q.val, by omega⟩) = later (fun s => dF m c (ix2 s q)) (512 * (15 - n)) := by
  have hN := lt_of_lt_of_eq hn N16
  induction n with
  | zero =>
    refine (congrFun (outs_c m c ⟨0, hn⟩) _).trans ((pay10_at _ _ _).trans ?_)
    refine (congrArg₂ (· + ·) (within m c ⟨0, hn⟩ 0 q) (pay2_at ⟨q.val, by omega⟩)).trans ?_
    exact (congrArg (_ + ·) (later_end _).symm).trans (later_split (fun s => dF m c (ix2 s q)) (blockAt ⟨0, hn⟩) 0 (by omega)).symm
  | succ n ih =>
    refine (congrFun (outs_c m c ⟨n + 1, hn⟩) _).trans ((pay10_at _ _ _).trans ?_)
    refine (congrArg₂ (· + ·) (within m c ⟨n + 1, hn⟩ 0 q) ?_).trans (later_split (fun s => dF m c (ix2 s q)) (blockAt ⟨n + 1, hn⟩) 0 (by omega)).symm
    unfold carried
    rw [if_neg (by show ¬ (n + 1) % 16 = 0; omega)]
    refine (ih (by omega) (by omega)).trans (congrArg _ ?_)
    show 512 * (15 - n) = 512 * (15 - (n + 1) + 1)
    omega

/-- What a point takes: the sum over the rows after its block. -/
theorem carried_at (q : Fin 8) : carried m c t (ix2 0 ⟨q.val, by omega⟩) = later (fun s => dF m c (ix2 s q)) (512 * ((blockAt t).val + 1)) := by
  have hN := lt_of_lt_of_eq t.isLt N16
  unfold carried
  by_cases h : t.val % 16 = 0
  · rw [if_pos h]
    refine (pay2_at _).trans ((later_end _).symm.trans (congrArg _ ?_))
    show 8192 = 512 * (15 - t.val + 1)
    omega
  · rw [if_neg h]
    refine (carry_at m c q (t.val - 1) _).trans (congrArg _ ?_)
    show 512 * (15 - (t.val - 1)) = 512 * (15 - t.val + 1)
    omega

/-- The logits' gradient at an index. -/
abbrev gradOf (q : Fin 128) (s : Fin 8192) : EReal := forgetGrad (fun s h => dF m c (ix2 s h)) (fun s h => logits m c (ix2 s h)) (fun h => bias m c (ix1 h)) q s

theorem grad_at (r : Fin 512) (q : Fin 128) :
    k0_pay11 (F := Ideal) lane (scan (iblk m c 0 t)) (carried m c t) (iblk m c 1 t) (iblk m c 2 t) (ix2 r q) = gradOf m c q (rowAt t r) := by
  refine (pay11_at _ _ _ _ r q).trans ?_
  unfold gradOf forgetGrad
  by_cases h : q.val < 8
  · rw [if_pos h, dif_pos h]
    exact congrArg₂ (· * ·) ((congrArg₂ (· + ·) (within m c t r ⟨q.val, h⟩) (carried_at m c t ⟨q.val, h⟩)).trans
        (later_split (fun s => dF m c (ix2 s ⟨q.val, h⟩)) (blockAt t) r.val r.isLt.le).symm)
      (congrArg (fun a : EReal => logistic (-a)) (congrArg₂ (· + ·) (blk_1 m c t r ⟨q.val, h⟩) (blk_2 m c t ⟨q.val, h⟩)))
  · rw [if_neg h, dif_neg h]

theorem z_at (r : Fin 512) (q : Fin 128) : (outsAt0 m c t.val t.isLt).1 (ix2 r q) = gradOf m c q (rowAt t r) :=
  (congrFun (outs_z m c t) _).trans ((pay12_at _ _ _ _ r q).trans (grad_at m c t r q))

/-- A point's part of the bias's gradient. -/
theorem part_at (q : Fin 128) :
    k0_pay13 (F := Ideal) lane (scan (iblk m c 0 t)) (carried m c t) (iblk m c 1 t) (iblk m c 2 t) (ix2 0 q) = blockSum (gradOf m c q) (15 - t.val) := by
  unfold blockSum
  rw [dif_pos (by omega)]
  exact (pay13_at _ _ _ _ q).trans (Finset.sum_congr rfl fun r _ => grad_at m c t r q)

theorem b_at (q : Fin 128) (n : ℕ) (hn : n < cfg0.N) : (outsAt0 m c n hn).2.1 (ix2 0 q) = ∑ k ∈ Finset.range (n + 1), blockSum (gradOf m c q) (15 - k) := by
  have hN := lt_of_lt_of_eq hn N16
  induction n with
  | zero =>
    rw [Finset.sum_range_one, ← part_at m c ⟨0, hn⟩ q, at_A m c ⟨0, hn⟩ rfl]
    rfl
  | succ n ih =>
    have h : ¬ (n + 1) % 16 = 0 := by omega
    rw [Finset.sum_range_succ, ← ih (by omega) (by omega), ← part_at m c ⟨n + 1, hn⟩ q, at_B m c ⟨n + 1, hn⟩ h]
    refine (pay1_at _ _ q).trans ?_
    unfold carried
    rw [if_neg h]
    rfl

/-- The logits' gradient. -/
theorem arr_z : (dats m 0 c).arrAt 3 cfg0.N = fun i : S8192x128.Idx => gradOf m c (i 1) (i 0) := by
  refine (dats m 0 c).arrAt_eq_of_covers 3 _ (by decide +kernel) fun t _ y => ?_
  have e : (win0_3.blk t).view.emb y = ix2 (rowAt t (y 0)) (y 1) := by
    funext a
    apply Fin.ext
    match a with
    | ⟨0, _⟩ => blk_simp; rw [(index_3 t).1]; show (15 - t.val) * 512 + (y 0).val = 512 * (15 - t.val) + (y 0).val; omega
    | ⟨1, _⟩ => blk_simp; rw [(index_3 t).2]; simp
  blk_simp
  rw [after0_3, e]
  exact (congrArg (outsAt0 m c t.val t.isLt).1 (eq_ix2 y)).trans (z_at m c t (y 0) (y 1))

/-- The bias's gradient: the sum over all rows. -/
theorem arr_b : (dats m 0 c).arrAt 4 cfg0.N = fun i : S1x128.Idx => ∑ s, gradOf m c (i 1) s := by
  refine (dats m 0 c).arrAt_eq_of_covers 4 _ (by decide +kernel) fun t hf y => ?_
  have e : (win0_4.blk t).view.emb y = ix2 0 (y 1) := by
    funext a
    apply Fin.ext
    match a with
    | ⟨0, _⟩ => blk_simp; rw [(index_4 t).1]; simp
    | ⟨1, _⟩ => blk_simp; rw [(index_4 t).2]; simp
  have h15 : t.val = 15 := by have := (flush0_4 t).mp hf; have := lt_of_lt_of_eq t.isLt N16; omega
  blk_simp
  rw [after0_4, e]
  have y0 : y = ix2 0 (y 1) := (eq_ix2 y).trans (congrArg (ix2 · (y 1)) (Subsingleton.elim (α := Fin 1) _ _))
  refine (congrArg (outsAt0 m c t.val t.isLt).2.1 y0).trans ((b_at m c (y 1) t.val t.isLt).trans ?_)
  rw [h15]
  exact (sum_back _).symm

end

end Cert.Kernel9Ideal.Gate

end
-- ==== Proof.ForgetBack.lean ====
/- The forget gates' gradient: kernel and reference agree on every memory. -/
module

public import proofs.«01_k».proof.Defs
public import proofs.«01_k».proof.Proof.ForgetGrad
public import proofs.«01_k».proof.Proof.Gen.Reference9Ideal.Run
public import Idealize.ShloMosaic.Lib.KernelVsHost
public import Idealize.ShloMosaic.Lib.Routing.OpsOne

@[expose] public section

set_option maxRecDepth 16384

noncomputable section

open Idealize.ShloMosaic Idealize.ShloMosaic.TcCoe Idealize.ShloMosaic.Tactic Idealize.SL.Sem

namespace Cert.Reference9Ideal.Gate
open Cert.Reference9Ideal.Gen Cert.Rows

variable (dF z : FVec Ideal S8192x8 .f32) (b : FVec Ideal S8 .f32)

/-- The stages of the reference's composed term: the logits turned round, their softplus, the running sum, the product. -/
def sTurn : FVec Ideal S8192x8 .f32 := Host.negf (addf z (broadcastInDim S8192x8 ![0, 1] bcast_S1x8_S8192x8_0_1 (broadcastInDim S1x8 ![1] bcast_S8_S1x8_1 b)))
def sSoft (y : FVec Ideal S8192x8 .f32) : FVec Ideal S8192x8 .f32 :=
  select (cmpf .une (subf y (broadcastInDim S8192x8 ![] bcast_S_S8192x8 (constant S_ .f32 0x00000000#32))) (subf y (broadcastInDim S8192x8 ![] bcast_S_S8192x8 (constant S_ .f32 0x00000000#32))))
    (addf y (broadcastInDim S8192x8 ![] bcast_S_S8192x8 (constant S_ .f32 0x00000000#32)))
    (addf (maximumf y (broadcastInDim S8192x8 ![] bcast_S_S8192x8 (constant S_ .f32 0x00000000#32))) (Host.log1p (Host.exp (Host.negf (Host.absf (subf y (broadcastInDim S8192x8 ![] bcast_S_S8192x8 (constant S_ .f32 0x00000000#32))))))))
def sCut (y : FVec Ideal S8192x8 .f32) : FVec Ideal S8192x8 .f32 :=
  select (cmpf .oeq y (broadcastInDim S8192x8 ![] bcast_S_S8192x8 (constant S_ .f32 0x7F800000#32))) (broadcastInDim S8192x8 ![] bcast_S_S8192x8 (constant S_ .f32 0x00000000#32)) y
def sRun : FVec Ideal S8192x8 .f32 :=
  Host.reduceWindowAdd ![8192, 1] ![1, 1] ![0, 0] ![8191, 0] dF (broadcastInDim S_ ![] bcast_S_S_ (constant S_ .f32 0x00000000#32)) reduceWindows_S8192x8_S8192x8_w8192s1p0_8191_w1s1p0_0 h_S_
def sBack (W y : FVec Ideal S8192x8 .f32) : FVec Ideal S8192x8 .f32 := Host.negf (mulf (Host.negf W) (Host.exp (subf (sCut y) (sCut (sSoft y)))))

theorem sTurn_at (t : Fin 8192) (q : Fin 8) : sTurn z b (ix2 t q) = (-(z (ix2 t q) + b (ix1 q)) : EReal) := by
  pointwise [sTurn]
theorem sSoft_at (y : FVec Ideal S8192x8 .f32) (t : Fin 8192) (q : Fin 8) : sSoft y (ix2 t q) = softplus (y (ix2 t q)) := by
  pointwise [sSoft]
  exact if_neg fun h => h rfl
theorem sCut_at (y : FVec Ideal S8192x8 .f32) (t : Fin 8192) (q : Fin 8) : sCut y (ix2 t q) = cut (y (ix2 t q)) := by
  pointwise [sCut]
  rw [show Ideal.ofBits .f32 0x7F800000#32 = ⊤ by simp [Ideal.ofBits, Ideal.ieee]]
  rfl
theorem sBack_at (W y : FVec Ideal S8192x8 .f32) (t : Fin 8192) (q : Fin 8) : sBack W y (ix2 t q) = (W (ix2 t q) * logistic (y (ix2 t q)) : EReal) := by
  pointwise [sBack, sCut_at, sSoft_at]
  rw [slope, neg_mul, neg_neg]

/-- A left fold of additions is a sum. -/
theorem foldl_add {ι : Type} (f : EReal → ι → EReal) (g : ι → EReal) (hf : ∀ r n, f r n = r + g n) (l : List ι) (v : EReal) : l.foldl f v = v + (l.map g).sum := by
  induction l generalizing v with
  | nil => simp
  | cons a l ih => rw [List.foldl_cons, ih, hf, List.map_cons, List.sum_cons, add_assoc]

/-- A window of the whole height, padded past the end: the sum from the row to the end. -/
theorem window_later {R Rm1 C : ℕ} (x : (Routing.shape2 R C).Idx → EReal)
    (h : (Routing.shape2 R C).ReduceWindows (![R, 1] : Fin 2 → ℕ) ![1, 1] ![0, 0] ![Rm1, 0] (Routing.shape2 R C)) (j : Fin R) (c : Fin C) :
    Ideal.hostReduceWindowAdd ![R, 1] ![1, 1] ![0, 0] ![Rm1, 0] h x 0 (ix2 j c) = later (fun s => x (ix2 s c)) j.val := by
  have hj := j.isLt
  have hc := c.isLt
  rw [← reach _ _ hj.le]
  unfold Ideal.hostReduceWindowAdd Host.reduceWindow
  refine (foldl_add _ (fun n => ext (fun s => x (ix2 s c)) (j.val + n.val)) (fun r n => ?_) (List.finRange (Routing.shape2 R 1).numel) 0).trans ?_
  · have w0 : ((Routing.shape2 R 1).rowMajor.symm n 0).val = n.val := by rw [Routing.symm_col]; rfl
    have w1 : ((Routing.shape2 R 1).rowMajor.symm n 1).val = 0 := by rw [Routing.symm_col]; rfl
    dsimp only
    refine congrArg (r + ·) ?_
    unfold ext
    split
    · next hin =>
      have h0 := hin 0
      change 0 ≤ j.val * 1 + ((Routing.shape2 R 1).rowMajor.symm n 0).val ∧ j.val * 1 + ((Routing.shape2 R 1).rowMajor.symm n 0).val - 0 < R at h0
      rw [w0] at h0
      rw [dif_pos (by omega)]
      refine congrArg x (funext fun a => Fin.ext ?_)
      match a with
      | ⟨0, _⟩ =>
        show j.val * 1 + ((Routing.shape2 R 1).rowMajor.symm n 0).val - 0 = j.val + n.val
        rw [w0]
        omega
      | ⟨1, _⟩ =>
        show c.val * 1 + ((Routing.shape2 R 1).rowMajor.symm n 1).val - 0 = c.val
        rw [w1]
        omega
    · next hin =>
      rw [dif_neg fun hlt => hin fun a => by
        match a with
        | ⟨0, _⟩ =>
          show 0 ≤ j.val * 1 + ((Routing.shape2 R 1).rowMajor.symm n 0).val ∧ j.val * 1 + ((Routing.shape2 R 1).rowMajor.symm n 0).val - 0 < R
          rw [w0]
          omega
        | ⟨1, _⟩ =>
          show 0 ≤ c.val * 1 + ((Routing.shape2 R 1).rowMajor.symm n 1).val ∧ c.val * 1 + ((Routing.shape2 R 1).rowMajor.symm n 1).val - 0 < C
          rw [w1]
          omega]
  · rw [zero_add, ← Fin.sum_univ_def, Fin.sum_univ_eq_sum_range (fun k => ext (fun s => x (ix2 s c)) (j.val + k)), Routing.numel_col]

/-- The running sum from the last row backwards. -/
theorem sRun_at (t : Fin 8192) (q : Fin 8) : sRun dF (ix2 t q) = later (fun s => dF (ix2 s q)) t.val := by
  have hv : (broadcastInDim S_ ![] bcast_S_S_ (constant (F := Ideal) S_ .f32 0x00000000#32)) (Shape.Idx.first h_S_) = (0 : EReal) :=
    (congrArg _ (ValueIdx.eq_ix0 _)).trans (by pointwise)
  unfold sRun Host.reduceWindowAdd
  rw [Ideal.hostReduceWindowAdd_def, hv]
  exact window_later (R := 8192) (Rm1 := 8191) (C := 8) dF reduceWindows_S8192x8_S8192x8_w8192s1p0_8191_w1s1p0_0 t q

/-- The logits' gradient, and both results. -/
def sGrad : FVec Ideal S8192x8 .f32 := sBack (sRun dF) (sTurn z b)
def sLogits : FVec Ideal S8192x128 .bf16 :=
  truncf .bf16 (pad S8192x128 ![0, 0] ![0, 120] ![0, 0] (sGrad dF z b) (sitofp .f32 (constantI S_ 32 0#32)) pads_S8192x8_S8192x128_000_01200 h_S_) bitsLt_bf16_f32
def sBias : FVec Ideal S1x128 .f32 :=
  broadcastInDim S1x128 ![1] bcast_S128_S1x128_1 (pad S128 ![0] ![120] ![0] (Host.reduceAdd (shapeCast _ (Host.reduceAdd (sGrad dF z b) (constant S_ .f32 0x00000000#32) reducesTo_S8192x8_S8_d0 h_S_) shapeCasts_S8_S1x8) (constant S_ .f32 0x00000000#32) reducesTo_S1x8_S8_d0 h_S_) (sitofp .f32 (constantI S_ 32 0#32)) pads_S8_S128_01200 h_S_)

abbrev gradOf (q : Fin 128) (t : Fin 8192) : EReal := forgetGrad (fun s h => dF (ix2 s h)) (fun s h => z (ix2 s h)) (fun h => b (ix1 h)) q t

theorem sGrad_at (t : Fin 8192) (q : Fin 128) (h : q.val < 8) : sGrad dF z b (ix2 t ⟨q.val, h⟩) = gradOf dF z b q t := by
  unfold sGrad gradOf forgetGrad
  rw [dif_pos h, sBack_at, sRun_at, sTurn_at]

theorem result_logits (t : Fin 8192) (q : Fin 128) : sLogits dF z b (ix2 t q) = gradOf dF z b q t := by
  unfold sLogits
  show pad S8192x128 ![0, 0] ![0, 120] ![0, 0] (sGrad dF z b) (sitofp .f32 (constantI S_ 32 0#32)) pads_S8192x8_S8192x128_000_01200 h_S_ (ix2 t q) = _
  by_cases h : q.val < 8
  · rw [← sGrad_at dF z b t q h]
    refine pad_apply_of_inside _ _ _ _ _ _ _ _ _ fun a => ?_
    match a with
    | ⟨0, _⟩ => show t.val = 0 + t.val * (0 + 1); omega
    | ⟨1, _⟩ => show q.val = 0 + q.val * (0 + 1); omega
  · unfold gradOf forgetGrad
    rw [dif_neg h]
    refine (pad_apply_of_not_inside _ _ _ _ _ _ _ _ 1 ?_).trans ?_
    · show ¬(0 ≤ q.val ∧ (q.val - 0) % (0 + 1) = 0 ∧ (q.val - 0) / (0 + 1) < 8)
      omega
    · exact sitofp_zero

theorem result_bias (q : Fin 128) : sBias dF z b (ix2 0 q) = ∑ t, gradOf dF z b q t := by
  unfold sBias
  refine Eq.trans (b := pad S128 ![0] ![120] ![0] (Host.reduceAdd (shapeCast _ (Host.reduceAdd (sGrad dF z b) (constant S_ .f32 0x00000000#32) reducesTo_S8192x8_S8_d0 h_S_) shapeCasts_S8_S1x8) (constant S_ .f32 0x00000000#32) reducesTo_S1x8_S8_d0 h_S_) (sitofp .f32 (constantI S_ 32 0#32)) pads_S8_S128_01200 h_S_ (ix1 q)) (by pointwise) ?_
  by_cases h : q.val < 8
  · refine (pad_apply_of_inside _ _ _ _ _ _ _ _ (ix1 ⟨q.val, h⟩) fun a => ?_).trans ?_
    · match a with
      | ⟨0, _⟩ => show q.val = 0 + q.val * (0 + 1); omega
    · pointwise
      exact (Fin.sum_univ_one _).trans (Finset.sum_congr rfl fun t _ => sGrad_at dF z b t q h)
  · refine (pad_apply_of_not_inside _ _ _ _ _ _ _ _ 0 ?_).trans ?_
    · show ¬(0 ≤ q.val ∧ (q.val - 0) % (0 + 1) = 0 ∧ (q.val - 0) / (0 + 1) < 8)
      omega
    · refine Eq.trans ?_ (Finset.sum_eq_zero fun t _ => ?_).symm
      · exact sitofp_zero
      · unfold gradOf forgetGrad
        rw [dif_neg h]

end Cert.Reference9Ideal.Gate

namespace Cert.Proof

/-- The forget gates' gradient: no condition on the arguments. -/
theorem forget : @Cert.algebraic_Kernel9Ideal_Reference9Ideal Kernel9Ideal.Gen.facts Reference9Ideal.Gen.facts := by
  intro m g m' g' _ e
  refine ⟨fun c => (Kernel9Ideal.Gen.dats m 0 c).arrAt 3 Kernel9Ideal.cfg0.N, fun c => (Kernel9Ideal.Gen.dats m 0 c).arrAt 4 Kernel9Ideal.cfg0.N, Kernel9Ideal.Value.run_blocks m g,
    (θ_run _ _ _).mono (fun r h c => ⟨(h c).1.trans ?_, (h c).2.1.trans ?_, (h c).2.2⟩) (Reference9Ideal.Value.run m' g')⟩
  · refine Eq.trans ?_ (Kernel9Ideal.Gate.arr_z m c).symm
    unfold Reference9Ideal.Value.res_main_v11
    rw [(e c).1, (e c).2.1, (e c).2.2]
    refine funext fun (y : (⟨2, ![8192, 128]⟩ : Shape).Idx) => ?_
    obtain ⟨t, q, rfl⟩ : ∃ t q, y = ix2 t q := ⟨_, _, eq_ix2 y⟩
    exact Reference9Ideal.Gate.result_logits _ _ _ t q
  · refine Eq.trans ?_ (Kernel9Ideal.Gate.arr_b m c).symm
    unfold Reference9Ideal.Value.res_main_v13
    rw [(e c).1, (e c).2.1, (e c).2.2]
    refine funext fun (y : (⟨2, ![1, 128]⟩ : Shape).Idx) => ?_
    obtain ⟨q, rfl⟩ : ∃ q, y = ix2 0 q := ⟨y 1, (eq_ix2 y).trans (congrArg (ix2 · (y 1)) (Subsingleton.elim (α := Fin 1) _ _))⟩
    exact Reference9Ideal.Gate.result_bias _ _ _ q

end Cert.Proof

end
-- ==== Proof.lean ====
/- The claims of this directory, proved: every program ends with its arguments unchanged and no counter raised, the attention's mask, named, is −∞ on exact values, the gradients that the attention's, the forget gates' and the feed-forward block's backward calls leave are the references', and so is what that block's forward calls leave. -/
module

public import proofs.«01_k».proof.Defs
public import proofs.«01_k».proof.Proof.Bits
public import proofs.«01_k».proof.Proof.Launch
public import proofs.«01_k».proof.Proof.Value
public import proofs.«01_k».proof.Proof.Gen.ReferenceIdeal.Run
public import proofs.«01_k».proof.Proof.GateBack
public import proofs.«01_k».proof.Proof.NormBack
public import proofs.«01_k».proof.Proof.Weights
public import proofs.«01_k».proof.Proof.UpForward
public import proofs.«01_k».proof.Proof.DownForward
public import proofs.«01_k».proof.Proof.NormForward
public import proofs.«01_k».proof.Proof.ForgetBack
public import proofs.«01_k».proof.Proof.Gen.Kernel2.Frame
public import proofs.«01_k».proof.Proof.Gen.Kernel3.Frame
public import proofs.«01_k».proof.Proof.Gen.Kernel4.Frame
public import proofs.«01_k».proof.Proof.Gen.Kernel5.Frame
public import proofs.«01_k».proof.Proof.Gen.Kernel6.Frame
public import proofs.«01_k».proof.Proof.Gen.Kernel7.Frame
public import proofs.«01_k».proof.Proof.Gen.Kernel8.Frame
public import proofs.«01_k».proof.Proof.Gen.Kernel9.Frame
public import Idealize.ShloMosaic.Lib.Claim

@[expose] public section

noncomputable section

namespace Cert.Proof

open Idealize.ShloMosaic Idealize.ShloMosaic.TcCoe Idealize.SL.Sem

/-- The attention's reference ends with its arguments unchanged; it declares no counter. -/
theorem reference_frame (m : (ℓ : Loc ReferenceIdeal.nD ReferenceIdeal.τ ReferenceIdeal.sig) → Buf (Elt Ideal) ℓ) (ρ : Dev ReferenceIdeal.nD → PrngReg) :
    θ_run (ReferenceIdeal.defs (F := Ideal)) (onTc (τ := ReferenceIdeal.τ) (ReferenceIdeal.main (F := Ideal))) ⟨m, fun _ => 0, ρ⟩ (fun r => (∀ c : Dev ReferenceIdeal.nD,
      r.2.mem ((c.tc : Thread ReferenceIdeal.nD ReferenceIdeal.τ).loc ReferenceIdeal.main_arg0) = m ((c.tc : Thread ReferenceIdeal.nD ReferenceIdeal.τ).loc ReferenceIdeal.main_arg0)
      ∧ r.2.mem ((c.tc : Thread ReferenceIdeal.nD ReferenceIdeal.τ).loc ReferenceIdeal.main_arg1) = m ((c.tc : Thread ReferenceIdeal.nD ReferenceIdeal.τ).loc ReferenceIdeal.main_arg1)
      ∧ r.2.mem ((c.tc : Thread ReferenceIdeal.nD ReferenceIdeal.τ).loc ReferenceIdeal.main_arg2) = m ((c.tc : Thread ReferenceIdeal.nD ReferenceIdeal.τ).loc ReferenceIdeal.main_arg2)
      ∧ r.2.mem ((c.tc : Thread ReferenceIdeal.nD ReferenceIdeal.τ).loc ReferenceIdeal.main_arg3) = m ((c.tc : Thread ReferenceIdeal.nD ReferenceIdeal.τ).loc ReferenceIdeal.main_arg3)
      ∧ r.2.mem ((c.tc : Thread ReferenceIdeal.nD ReferenceIdeal.τ).loc ReferenceIdeal.main_arg4) = m ((c.tc : Thread ReferenceIdeal.nD ReferenceIdeal.τ).loc ReferenceIdeal.main_arg4))
      ∧ r.2.sem = fun _ => 0) :=
  (θ_run _ _ _).mono (fun r h => ⟨fun c => (h c).2.2.2.2, sem_eq_zero_of_no_sems (by decide) r.2⟩) (ReferenceIdeal.Value.run m ρ)

/- So do the feed-forward block's and the forget gates'. -/
theorem reference2_frame : @Cert.quiescent_Reference2Ideal Reference2Ideal.Gen.facts := fun m ρ _ =>
  (θ_run _ _ _).mono (fun r h => ⟨fun c => (h c).2.2, sem_eq_zero_of_no_sems (by decide) r.2⟩) (Reference2Ideal.Value.run m ρ)
theorem reference3_frame : @Cert.quiescent_Reference3Ideal Reference3Ideal.Gen.facts := fun m ρ _ =>
  (θ_run _ _ _).mono (fun r h => ⟨fun c => (h c).2.2, sem_eq_zero_of_no_sems (by decide) r.2⟩) (Reference3Ideal.Value.run m ρ)
theorem reference4_frame : @Cert.quiescent_Reference4Ideal Reference4Ideal.Gen.facts := fun m ρ _ =>
  (θ_run _ _ _).mono (fun r h => ⟨fun c => (h c).2, sem_eq_zero_of_no_sems (by decide) r.2⟩) (Reference4Ideal.Value.run m ρ)
theorem reference5_frame : @Cert.quiescent_Reference5Ideal Reference5Ideal.Gen.facts := fun m ρ _ =>
  (θ_run _ _ _).mono (fun r h => ⟨fun c => (h c).2, sem_eq_zero_of_no_sems (by decide) r.2⟩) (Reference5Ideal.Value.run m ρ)
theorem reference6_frame : @Cert.quiescent_Reference6Ideal Reference6Ideal.Gen.facts := fun m ρ _ =>
  (θ_run _ _ _).mono (fun r h => ⟨fun c => (h c).2.2.2, sem_eq_zero_of_no_sems (by decide) r.2⟩) (Reference6Ideal.Value.run m ρ)
theorem reference7_frame : @Cert.quiescent_Reference7Ideal Reference7Ideal.Gen.facts := fun m ρ _ =>
  (θ_run _ _ _).mono (fun r h => ⟨fun c => (h c).2, sem_eq_zero_of_no_sems (by decide) r.2⟩) (Reference7Ideal.Value.run m ρ)
theorem reference8_frame : @Cert.quiescent_Reference8Ideal Reference8Ideal.Gen.facts := fun m ρ _ =>
  (θ_run _ _ _).mono (fun r h => ⟨fun c => (h c).2, sem_eq_zero_of_no_sems (by decide) r.2⟩) (Reference8Ideal.Value.run m ρ)
theorem reference9_frame : @Cert.quiescent_Reference9Ideal Reference9Ideal.Gen.facts := fun m ρ _ =>
  (θ_run _ _ _).mono (fun r h => ⟨fun c => (h c).2.2, sem_eq_zero_of_no_sems (by decide) r.2⟩) (Reference9Ideal.Value.run m ρ)

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts, pre_facts, pre_facts2,
    fun m ρ _ => Cert.Kernel.Attn.frame m ρ,
    fun m ρ _ => Cert.KernelIdeal.Attn.frame m ρ,
    fun m ρ _ => Cert.KernelIdeal.Attn.frame m ρ,
    fun m ρ _ => reference_frame m ρ,
    fun m ρ _ => reference_frame m ρ,
    fun m ρ _ => Cert.Kernel2.Gen.frame m ρ,
    fun m ρ _ => Cert.Kernel2Ideal.Gen.frame m ρ,
    fun m ρ _ => Cert.Kernel2Ideal.Gen.frame m ρ,
    reference2_frame,
    fun m ρ _ => reference2_frame m ρ trivial,
    fun m ρ _ => Cert.Kernel3.Gen.frame m ρ,
    fun m ρ _ => Cert.Kernel3Ideal.Gen.frame m ρ,
    reference3_frame,
    fun m ρ _ => Cert.Kernel4.Gen.frame m ρ,
    fun m ρ _ => Cert.Kernel4Ideal.Gen.frame m ρ,
    reference4_frame,
    fun m ρ _ => Cert.Kernel5.Gen.frame m ρ,
    fun m ρ _ => Cert.Kernel5Ideal.Gen.frame m ρ,
    reference5_frame,
    fun m ρ _ => Cert.Kernel6.Gen.frame m ρ,
    fun m ρ _ => Cert.Kernel6Ideal.Gen.frame m ρ,
    reference6_frame,
    fun m ρ _ => Cert.Kernel7.Gen.frame m ρ,
    fun m ρ _ => Cert.Kernel7Ideal.Gen.frame m ρ,
    reference7_frame,
    fun m ρ _ => Cert.Kernel8.Gen.frame m ρ,
    fun m ρ _ => Cert.Kernel8Ideal.Gen.frame m ρ,
    reference8_frame,
    fun m ρ _ => Cert.Kernel9.Gen.frame m ρ,
    fun m ρ _ => Cert.Kernel9Ideal.Gen.frame m ρ,
    reference9_frame,
    IdealRules.named_const.statement _ _ _ _ _ rfl,
    gradients,
    trivial,
    gate_back,
    trivial,
    norm_back,
    trivial,
    weight_gate,
    trivial,
    weight_down,
    trivial,
    layers,
    trivial,
    residual,
    trivial,
    normalised,
    trivial,
    forget⟩

end Cert.Proof

end
